-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_in [hPre_finite_in : Cert.Pre_finite_in.Facts] (m : (ℓ : Loc Cert.ProjIdeal.nD Cert.ProjIdeal.τ Cert.ProjIdeal.sig) → Buf (Elt Ideal) ℓ) : Prop :=
  ∀ c : Dev Cert.ProjIdeal.nD,
    (Cert.Pre_finite_in.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_in [hPre_finite_in : Cert.Pre_finite_in.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_in.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3))) = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddIdeal_finite_odd [hPre_finite_odd : Cert.Pre_finite_odd.Facts] (m : (ℓ : Loc Cert.OddIdeal.nD Cert.OddIdeal.τ Cert.OddIdeal.sig) → Buf (Elt Ideal) ℓ) : Prop :=
  ∀ c : Dev Cert.OddIdeal.nD,
    (Cert.Pre_finite_odd.fn (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)) (m ((c.tc : Thread Cert.OddIdeal.nD Cert.OddIdeal.τ).loc Cert.OddIdeal.main_arg3))) = (fun _ => 1#1)

def Pre_OddReferenceIdeal (m : (ℓ : Loc Cert.OddReferenceIdeal.nD Cert.OddReferenceIdeal.τ Cert.OddReferenceIdeal.sig) → Buf (Elt Ideal) ℓ) : Prop :=
  True

def Pre_OddReferenceIdeal_finite_odd [hPre_finite_odd : Cert.Pre_finite_odd.Facts] (m : (ℓ : Loc Cert.OddReferenceIdeal.nD Cert.OddReferenceIdeal.τ Cert.OddReferenceIdeal.sig) → Buf (Elt Ideal) ℓ) : Prop :=
  ∀ c : Dev Cert.OddReferenceIdeal.nD,
    (Cert.Pre_finite_odd.fn (F := Ideal) (m ((c.tc : Thread Cert.OddReferenceIdeal.nD Cert.OddReferenceIdeal.τ).loc Cert.OddReferenceIdeal.main_arg0)) (m ((c.tc : Thread Cert.OddReferenceIdeal.nD Cert.OddReferenceIdeal.τ).loc Cert.OddReferenceIdeal.main_arg1)) (m ((c.tc : Thread Cert.OddReferenceIdeal.nD Cert.OddReferenceIdeal.τ).loc Cert.OddReferenceIdeal.main_arg2)) (m ((c.tc : Thread Cert.OddReferenceIdeal.nD Cert.OddReferenceIdeal.τ).loc Cert.OddReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjIdeal_pre_finite_in [hProjIdeal : Cert.ProjIdeal.Facts] [hPre_finite_in : Cert.Pre_finite_in.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_in m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_ProjReferenceIdeal_pre_finite_in [hProjReferenceIdeal : Cert.ProjReferenceIdeal.Facts] [hPre_finite_in : Cert.Pre_finite_in.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_in m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddIdeal_pre_finite_odd [hOddIdeal : Cert.OddIdeal.Facts] [hPre_finite_odd : Cert.Pre_finite_odd.Facts] : Prop :=
  ∀ (m : (ℓ : Loc Cert.OddIdeal.nD Cert.OddIdeal.τ Cert.OddIdeal.sig) → Buf (Elt Ideal) ℓ) (g : Dev Cert.OddIdeal.nD → PrngReg), Pre_OddIdeal_finite_odd m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3))
      ∧ r.2.sem = fun _ => 0)

def quiescent_OddReferenceIdeal_pre_finite_odd [hOddReferenceIdeal : Cert.OddReferenceIdeal.Facts] [hPre_finite_odd : Cert.Pre_finite_odd.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal_finite_odd m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v8) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_Even_EvenIdeal : Prop :=
  True

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)
      ∧ m' ((c.tc : Thread Cert.EvenReferenceIdeal.nD Cert.EvenReferenceIdeal.τ).loc Cert.EvenReferenceIdeal.main_arg4) = m ((c.tc : Thread Cert.EvenIdeal.nD Cert.EvenIdeal.τ).loc Cert.EvenIdeal.main_arg4)) →
    ∃ (v0 : (c : Dev Cert.EvenIdeal.nD) → Buf (Elt Ideal) ((c.tc : Thread Cert.EvenIdeal.nD Cert.EvenIdeal.τ).loc Cert.EvenIdeal.main_v4)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v4) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v8) = v0 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4))

def preserves_Proj_ProjIdeal : Prop :=
  True

def algebraic_ProjIdeal_ProjReferenceIdeal_pre_finite_in [hProjIdeal : Cert.ProjIdeal.Facts] [hProjReferenceIdeal : Cert.ProjReferenceIdeal.Facts] [hPre_finite_in : Cert.Pre_finite_in.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_in m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v40)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v40) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v54) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Odd_OddIdeal : Prop :=
  True

def algebraic_OddIdeal_OddReferenceIdeal_pre_finite_odd [hOddIdeal : Cert.OddIdeal.Facts] [hOddReferenceIdeal : Cert.OddReferenceIdeal.Facts] [hPre_finite_odd : Cert.Pre_finite_odd.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal_finite_odd m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v86)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v86) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v118) = v0 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hEven : Cert.Even.Facts) (hEvenIdeal : Cert.EvenIdeal.Facts) (hEvenReferenceIdeal : Cert.EvenReferenceIdeal.Facts) (hProj : Cert.Proj.Facts) (hProjIdeal : Cert.ProjIdeal.Facts) (hProjReferenceIdeal : Cert.ProjReferenceIdeal.Facts) (hOdd : Cert.Odd.Facts) (hOddIdeal : Cert.OddIdeal.Facts) (hOddReferenceIdeal : Cert.OddReferenceIdeal.Facts) (hPre_finite : Cert.Pre_finite.Facts) (hPre_finite_in : Cert.Pre_finite_in.Facts) (hPre_finite_odd : Cert.Pre_finite_odd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixReferenceIdeal (hMixReferenceIdeal := hMixReferenceIdeal)
    ∧ quiescent_Even (hEven := hEven)
    ∧ quiescent_EvenIdeal (hEvenIdeal := hEvenIdeal)
    ∧ quiescent_EvenReferenceIdeal (hEvenReferenceIdeal := hEvenReferenceIdeal)
    ∧ quiescent_Proj (hProj := hProj)
    ∧ quiescent_ProjIdeal (hProjIdeal := hProjIdeal)
    ∧ quiescent_ProjIdeal_pre_finite_in (hProjIdeal := hProjIdeal) (hPre_finite_in := hPre_finite_in)
    ∧ quiescent_ProjReferenceIdeal (hProjReferenceIdeal := hProjReferenceIdeal)
    ∧ quiescent_ProjReferenceIdeal_pre_finite_in (hProjReferenceIdeal := hProjReferenceIdeal) (hPre_finite_in := hPre_finite_in)
    ∧ quiescent_Odd (hOdd := hOdd)
    ∧ quiescent_OddIdeal (hOddIdeal := hOddIdeal)
    ∧ quiescent_OddIdeal_pre_finite_odd (hOddIdeal := hOddIdeal) (hPre_finite_odd := hPre_finite_odd)
    ∧ quiescent_OddReferenceIdeal (hOddReferenceIdeal := hOddReferenceIdeal)
    ∧ quiescent_OddReferenceIdeal_pre_finite_odd (hOddReferenceIdeal := hOddReferenceIdeal) (hPre_finite_odd := hPre_finite_odd)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixReferenceIdeal (hMixIdeal := hMixIdeal) (hMixReferenceIdeal := hMixReferenceIdeal)
    ∧ preserves_Even_EvenIdeal
    ∧ algebraic_EvenIdeal_EvenReferenceIdeal (hEvenIdeal := hEvenIdeal) (hEvenReferenceIdeal := hEvenReferenceIdeal)
    ∧ preserves_Proj_ProjIdeal
    ∧ algebraic_ProjIdeal_ProjReferenceIdeal_pre_finite_in (hProjIdeal := hProjIdeal) (hProjReferenceIdeal := hProjReferenceIdeal) (hPre_finite_in := hPre_finite_in)
    ∧ preserves_Odd_OddIdeal
    ∧ algebraic_OddIdeal_OddReferenceIdeal_pre_finite_odd (hOddIdeal := hOddIdeal) (hOddReferenceIdeal := hOddReferenceIdeal) (hPre_finite_odd := hPre_finite_odd)
-- ==== Pre_finite.lean ====
abbrev S4x8192x1536 : Shape := ⟨3, ![4, 8192, 1536]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S4x8192x1536 : S_.BroadcastsInDim S4x8192x1536 (![] : Fin 0 → Fin S4x8192x1536.rank)
  reducesTo_S4x8192x1536_S_d0_1_2 : S4x8192x1536.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x8192x1536 .bf16) (main_arg1 : FVec F S4x64 .f32) (main_arg2 : FVec F S128 .f32) : IVec S_ 1 :=
  let main_v0 : FVec F S4x8192x1536 .f32 := (extf .f32 · bitsLt_bf16_f32) main_arg0
  let main_v1 : FVec F S4x8192x1536 .f32 := Host.absf main_v0
  let main_cst : FVec F S_ .f32 := constant S_ .f32 0x7F800000#32
  let main_v2 : FVec F S4x8192x1536 .f32 := broadcastInDim S4x8192x1536 ![] bcast_S_S4x8192x1536 main_cst
  let main_v3 : IVec S4x8192x1536 1 := cmpf .olt main_v1 main_v2
  let main_c : IVec S_ 1 := constantI S_ 1 1#1
  let main_v4 : IVec S_ 1 := (fun x v => Host.reduce IntOp.andi x v reducesTo_S4x8192x1536_S_d0_1_2 h_S_) main_v3 main_c
  let main_v5 : FVec F S4x64 .f32 := Host.absf main_arg1
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : IVec S_ 1 := andi main_v4 main_v8
  main_v9
-- ==== Pre_finite_in.lean ====
abbrev S32768x1024 : Shape := ⟨2, ![32768, 1024]⟩
abbrev S1024 : Shape := ⟨1, ![1024]⟩
abbrev S1024x4096 : Shape := ⟨2, ![1024, 4096]⟩
abbrev S4x64 : Shape := ⟨2, ![4, 64]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  reducesTo_S1024_S_d0 : S1024.ReducesTo [0] S_
  h_S_ : 0 < S_.numel
  slices_S1024x4096_S1024x1024_0_0 : S1024x4096.Slices ![0, 0] S1024x1024
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32768x1024 .f32) (main_arg1 : FVec F S1024 .f32) (main_arg2 : FVec F S1024x4096 .f32) (main_arg3 : FVec F S4x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := (extractStridedSlice S1024x1024 ![0, 0] · slices_S1024x4096_S1024x1024_0_0) main_arg2
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  main_v9
-- ==== Pre_finite_odd.lean ====
abbrev S32768x1024 : Shape := ⟨2, ![32768, 1024]⟩
abbrev S1024 : Shape := ⟨1, ![1024]⟩
abbrev S1024x3864 : Shape := ⟨2, ![1024, 3864]⟩
abbrev S6x64 : Shape := ⟨2, ![6, 64]⟩
abbrev S_ : Shape := ⟨0, ![]⟩
abbrev S1024x1024 : Shape := ⟨2, ![1024, 1024]⟩
abbrev S1024x512 : Shape := ⟨2, ![1024, 512]⟩
abbrev S1024x128 : Shape := ⟨2, ![1024, 128]⟩

class Facts : Prop where
  bcast_S_S1024 : S_.BroadcastsInDim S1024 (![] : Fin 0 → Fin S1024.rank)
  reducesTo_S1024_S_d0 : S1024.ReducesTo [0] S_
  h_S_ : 0 < S_.numel
  slices_S1024x3864_S1024x1024_0_0 : S1024x3864.Slices ![0, 0] S1024x1024
  bcast_S_S1024x1024 : S_.BroadcastsInDim S1024x1024 (![] : Fin 0 → Fin S1024x1024.rank)
  reducesTo_S1024x1024_S_d0_1 : S1024x1024.ReducesTo [0, 1] S_
  slices_S1024x3864_S1024x512_0_2048 : S1024x3864.Slices ![0, 2048] S1024x512
  bcast_S_S1024x512 : S_.BroadcastsInDim S1024x512 (![] : Fin 0 → Fin S1024x512.rank)
  reducesTo_S1024x512_S_d0_1 : S1024x512.ReducesTo [0, 1] S_
  slices_S1024x3864_S1024x128_0_2816 : S1024x3864.Slices ![0, 2816] S1024x128
  bcast_S_S1024x128 : S_.BroadcastsInDim S1024x128 (![] : Fin 0 → Fin S1024x128.rank)
  reducesTo_S1024x128_S_d0_1 : S1024x128.ReducesTo [0, 1] S_
  slices_S1024x3864_S1024x128_0_3072 : S1024x3864.Slices ![0, 3072] S1024x128

variable [Facts]

def fn_part1 {F : FTy → Type} [FloatOps F] (main_arg2 : FVec F S1024x3864 .f32) (main_v15 : IVec S_ 1) (main_v17 : FVec F S1024x128 .f32) : IVec S_ 1 :=
  let main_cst_4 : FVec F S_ .f32 := constant S_ .f32 0x7F800000#32
  let main_v18 : FVec F S1024x128 .f32 := broadcastInDim S1024x128 ![] bcast_S_S1024x128 main_cst_4
  let main_v19 : IVec S1024x128 1 := cmpf .olt main_v17 main_v18
  let main_c_5 : IVec S_ 1 := constantI S_ 1 1#1
  let main_v20 : IVec S_ 1 := (fun x v => Host.reduce IntOp.andi x v reducesTo_S1024x128_S_d0_1 h_S_) main_v19 main_c_5
  let main_v21 : IVec S_ 1 := andi main_v15 main_v20
  let main_v22 : FVec F S1024x128 .f32 := (extractStridedSlice S1024x128 ![0, 3072] · slices_S1024x3864_S1024x128_0_3072) main_arg2
  let main_v23 : FVec F S1024x128 .f32 := Host.absf main_v22
  let main_cst_6 : FVec F S_ .f32 := constant S_ .f32 0x7F800000#32
  let main_v24 : FVec F S1024x128 .f32 := broadcastInDim S1024x128 ![] bcast_S_S1024x128 main_cst_6
  let main_v25 : IVec S1024x128 1 := cmpf .olt main_v23 main_v24
  let main_c_7 : IVec S_ 1 := constantI S_ 1 1#1
  let main_v26 : IVec S_ 1 := (fun x v => Host.reduce IntOp.andi x v reducesTo_S1024x128_S_d0_1 h_S_) main_v25 main_c_7
  let main_v27 : IVec S_ 1 := andi main_v21 main_v26
  main_v27

def fn {F : FTy → Type} [FloatOps F] (main_arg0 : FVec F S32768x1024 .f32) (main_arg1 : FVec F S1024 .f32) (main_arg2 : FVec F S1024x3864 .f32) (main_arg3 : FVec F S6x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := (extractStridedSlice S1024x1024 ![0, 0] · slices_S1024x3864_S1024x1024_0_0) main_arg2
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S1024x512 .f32 := (extractStridedSlice S1024x512 ![0, 2048] · slices_S1024x3864_S1024x512_0_2048) main_arg2
  let main_v11 : FVec F S1024x512 .f32 := Host.absf main_v10
  let main_cst_2 : FVec F S_ .f32 := constant S_ .f32 0x7F800000#32
  let main_v12 : FVec F S1024x512 .f32 := broadcastInDim S1024x512 ![] bcast_S_S1024x512 main_cst_2
  let main_v13 : IVec S1024x512 1 := cmpf .olt main_v11 main_v12
  let main_c_3 : IVec S_ 1 := constantI S_ 1 1#1
  let main_v14 : IVec S_ 1 := (fun x v => Host.reduce IntOp.andi x v reducesTo_S1024x512_S_d0_1 h_S_) main_v13 main_c_3
  let main_v15 : IVec S_ 1 := andi main_v9 main_v14
  let main_v16 : FVec F S1024x128 .f32 := (extractStridedSlice S1024x128 ![0, 2816] · slices_S1024x3864_S1024x128_0_2816) main_arg2
  let main_v17 : FVec F S1024x128 .f32 := Host.absf main_v16
  fn_part1 (F := F) main_arg2 main_v15 main_v17
-- ==== Kernel.lean ====
abbrev S4x8192x1536 : Shape := ⟨3, ![4, 8192, 1536]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S1 : Shape := ⟨1, ![1]⟩
abbrev S1x128 : Shape := ⟨2, ![1, 128]⟩
abbrev S4x8192x512 : Shape := ⟨3, ![4, 8192, 512]⟩
abbrev S1x256x128 : Shape := ⟨3, ![1, 256, 128]⟩
abbrev S1x8192x128 : Shape := ⟨3, ![1, 8192, 128]⟩
abbrev S8192x128 : Shape := ⟨2, ![8192, 128]⟩
abbrev S128x8192 : Shape := ⟨2, ![128, 8192]⟩
abbrev S128x256 : Shape := ⟨2, ![128, 256]⟩
abbrev S256x1 : Shape := ⟨2, ![256, 1]⟩
abbrev S256x64 : Shape := ⟨2, ![256, 64]⟩
abbrev S256x128 : Shape := ⟨2, ![256, 128]⟩
abbrev S1x256 : Shape := ⟨2, ![1, 256]⟩
abbrev S256x256 : Shape := ⟨2, ![256, 256]⟩
abbrev S256 : Shape := ⟨1, ![256]⟩

abbrev nBuf : Space → Nat
  | .hbm => 25
  | .vmem => 14
  | .smem => 1
  | _ => 0

abbrev bufTy : (tb : Table) → Fin (tcTables nBuf tb) → BufTy
  | .hbm, ⟨0, _⟩ => ⟨S4x8192x1536, .bf16⟩
  | .hbm, ⟨1, _⟩ => ⟨S4x64, .f32⟩
  | .hbm, ⟨2, _⟩ => ⟨S128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1x128, .f32⟩
  | .hbm, ⟨24, _⟩ => ⟨S4x8192x512, .f32⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x128, .f32⟩
  | .local _ .vmem, ⟨7, _⟩ => ⟨S1x256x128, .f32⟩
  | .local _ .vmem, ⟨8, _⟩ => ⟨S1x256x128, .f32⟩
  | .local _ .vmem, ⟨9, _⟩ => ⟨S8192x128, .bf16⟩
  | .local _ .vmem, ⟨10, _⟩ => ⟨S8192x128, .bf16⟩
  | .local _ .vmem, ⟨11, _⟩ => ⟨S128x8192, .bf16⟩
  | .local _ .vmem, ⟨12, _⟩ => ⟨S128x256, .f32⟩
  | .local _ .vmem, ⟨13, _⟩ => ⟨S128x256, .f32⟩
  | .local _ .smem, ⟨0, _⟩ => ⟨S1, .f32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 32], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_1 : BitVec 32 := 0#32
  let v7 : BitVec 1 := Scalar.cmpi .ne v6 c0_i32_1
  v7

@[reducible] def k0_t1_loop : Scf.Loop 32 :=
  let c0_i32_56 : BitVec 32 := 0#32
  let c32_i32 : BitVec 32 := 32#32
  let v149 : BitVec 32 := Scalar.addi c0_i32_56 c32_i32
  let c1_i32_57 : BitVec 32 := 1#32
  ⟨c0_i32_56, v149, c1_i32_57⟩
def k0_mult1 (k0_t1 : Fin k0_t1_loop.trips) : BitVec 32 :=
  let c0_i32_56 : BitVec 32 := 0#32
  let c1_i32_57 : BitVec 32 := 1#32
  let arg14 : BitVec 32 := Scf.iv c0_i32_56 c1_i32_57 k0_t1
  let c256_i32_59 : BitVec 32 := 256#32
  let v150 : BitVec 32 := Scalar.muli arg14 c256_i32_59
  v150
def k0_off1 (k0_t1 : Fin k0_t1_loop.trips) : Fin 3 → Nat :=
  let c0_60 : Index := 0#32
  let c0_i32_56 : BitVec 32 := 0#32
  let c1_i32_57 : BitVec 32 := 1#32
  let arg14 : BitVec 32 := Scf.iv c0_i32_56 c1_i32_57 k0_t1
  let c256_i32_59 : BitVec 32 := 256#32
  let v150 : BitVec 32 := Scalar.muli arg14 c256_i32_59
  let v151 : BitVec 32 := v150
  let v152 : Index := Scalar.indexCast v151
  let c0_61 : Index := 0#32
  ![0, v152.toNat, 0]
def k0_off2 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let c256_i32_59 : BitVec 32 := 256#32
  let v150 : BitVec 32 := Scalar.muli arg14 c256_i32_59
  let v151 : BitVec 32 := v150
  let v157 : Index := Scalar.indexCast v151
  let c0_62 : Index := 0#32
  ![v157.toNat, 0]
def k0_off3 (k0_t1 : Fin k0_t1_loop.trips) : Fin 2 → Nat :=
  let c0_66 : Index := 0#32
  let c0_i32_56 : BitVec 32 := 0#32
  let c1_i32_57 : BitVec 32 := 1#32
  let arg14 : BitVec 32 := Scf.iv c0_i32_56 c1_i32_57 k0_t1
  let c256_i32_59 : BitVec 32 := 256#32
  let v150 : BitVec 32 := Scalar.muli arg14 c256_i32_59
  let v151 : BitVec 32 := v150
  let v173 : Index := Scalar.indexCast v151
  ![0, v173.toNat]
def k0_mult2 (i : grid0.Coords) : BitVec 32 :=
  let arg2 : BitVec 32 := BitVec.ofNat 32 (i 2).val
  let c256_i32 : BitVec 32 := 256#32
  let v31 : BitVec 32 := Scalar.muli arg2 c256_i32
  v31
def k0_off4 (i : grid0.Coords) : Fin 2 → Nat :=
  let c0_14 : Index := 0#32
  let arg2 : BitVec 32 := BitVec.ofNat 32 (i 2).val
  let c256_i32 : BitVec 32 := 256#32
  let v31 : BitVec 32 := Scalar.muli arg2 c256_i32
  let v32 : BitVec 32 := v31
  let v33 : Index := Scalar.indexCast v32
  ![0, v33.toNat]
def k0_off5 (i : grid0.Coords) : Fin 2 → Nat :=
  let arg2 : BitVec 32 := BitVec.ofNat 32 (i 2).val
  let c256_i32 : BitVec 32 := 256#32
  let v31 : BitVec 32 := Scalar.muli arg2 c256_i32
  let v32 : BitVec 32 := v31
  let v39 : Index := Scalar.indexCast v32
  let c0_16 : Index := 0#32
  ![v39.toNat, 0]
@[reducible] def k0_t2_loop (i : grid0.Coords) : Scf.Loop 32 :=
  let c0_i32_36 : BitVec 32 := 0#32
  let arg2 : BitVec 32 := BitVec.ofNat 32 (i 2).val
  let v102 : BitVec 32 := Scalar.subi arg2 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_38 : BitVec 32 := 1#32
  ⟨c0_i32_36, v106, c1_i32_38⟩
def k0_mult3 (i : grid0.Coords) (k0_t2 : Fin (k0_t2_loop i).trips) : BitVec 32 :=
  let c0_i32_36 : BitVec 32 := 0#32
  let c1_i32_38 : BitVec 32 := 1#32
  let arg14 : BitVec 32 := Scf.iv c0_i32_36 c1_i32_38 k0_t2
  let c256_i32_54 : BitVec 32 := 256#32
  let v139 : BitVec 32 := Scalar.muli arg14 c256_i32_54
  v139
def k0_off6 (i : grid0.Coords) (k0_t2 : Fin (k0_t2_loop i).trips) : Fin 2 → Nat :=
  let c0_55 : Index := 0#32
  let c0_i32_36 : BitVec 32 := 0#32
  let c1_i32_38 : BitVec 32 := 1#32
  let arg14 : BitVec 32 := Scf.iv c0_i32_36 c1_i32_38 k0_t2
  let c256_i32_54 : BitVec 32 := 256#32
  let v139 : BitVec 32 := Scalar.muli arg14 c256_i32_54
  let v140 : BitVec 32 := v139
  let v141 : Index := Scalar.indexCast v140
  ![0, v141.toNat]
def k0_off7 (i : grid0.Coords) (k0_t2 : Fin (k0_t2_loop i).trips) : Fin 2 → Nat :=
  let c0_i32_36 : BitVec 32 := 0#32
  let c1_i32_38 : BitVec 32 := 1#32
  let arg14 : BitVec 32 := Scf.iv c0_i32_36 c1_i32_38 k0_t2
  let c256_i32_54 : BitVec 32 := 256#32
  let v139 : BitVec 32 := Scalar.muli arg14 c256_i32_54
  let v140 : BitVec 32 := v139
  let v147 : Index := Scalar.indexCast v140
  let c0_57 : Index := 0#32
  ![v147.toNat, 0]
@[reducible] def k0_t3_loop (i : grid0.Coords) : Scf.Loop 32 :=
  let c0_i32_36 : BitVec 32 := 0#32
  let arg2 : BitVec 32 := BitVec.ofNat 32 (i 2).val
  let v102 : BitVec 32 := Scalar.subi arg2 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let v103 : BitVec 32 := Scalar.addi c0_i32_36 v102
  let c1_i32_39 : BitVec 32 := 1#32
  ⟨v106, v103, c1_i32_39⟩
def k0_mult4 (i : grid0.Coords) (k0_t3 : Fin (k0_t3_loop i).trips) : BitVec 32 :=
  let c0_i32_36 : BitVec 32 := 0#32
  let arg2 : BitVec 32 := BitVec.ofNat 32 (i 2).val
  let v102 : BitVec 32 := Scalar.subi arg2 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg14 : BitVec 32 := Scf.iv v106 c1_i32_39 k0_t3
  let c256_i32_54 : BitVec 32 := 256#32
  let v139 : BitVec 32 := Scalar.muli arg14 c256_i32_54
  v139
def k0_off8 (i : grid0.Coords) (k0_t3 : Fin (k0_t3_loop i).trips) : Fin 2 → Nat :=
  let c0_55 : Index := 0#32
  let c0_i32_36 : BitVec 32 := 0#32
  let arg2 : BitVec 32 := BitVec.ofNat 32 (i 2).val
  let v102 : BitVec 32 := Scalar.subi arg2 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg14 : BitVec 32 := Scf.iv v106 c1_i32_39 k0_t3
  let c256_i32_54 : BitVec 32 := 256#32
  let v139 : BitVec 32 := Scalar.muli arg14 c256_i32_54
  let v140 : BitVec 32 := v139
  let v141 : Index := Scalar.indexCast v140
  ![0, v141.toNat]
def k0_off9 (i : grid0.Coords) (k0_t3 : Fin (k0_t3_loop i).trips) : Fin 2 → Nat :=
  let c0_i32_36 : BitVec 32 := 0#32
  let arg2 : BitVec 32 := BitVec.ofNat 32 (i 2).val
  let v102 : BitVec 32 := Scalar.subi arg2 c0_i32_36
  let c1_i32_37 : BitVec 32 := 1#32
  let v104 : BitVec 32 := Scalar.divsi v102 c1_i32_37
  let v105 : BitVec 32 := Scalar.muli v104 c1_i32_37
  let v106 : BitVec 32 := Scalar.addi c0_i32_36 v105
  let c1_i32_39 : BitVec 32 := 1#32
  let arg14 : BitVec 32 := Scf.iv v106 c1_i32_39 k0_t3
  let c256_i32_54 : BitVec 32 := 256#32
  let v139 : BitVec 32 := Scalar.muli arg14 c256_i32_54
  let v140 : BitVec 32 := v139
  let v147 : Index := Scalar.indexCast v140
  let c0_57 : Index := 0#32
  ![v147.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x1536 : Shape := ⟨3, ![4, 8192, 1536]⟩
abbrev S4x64 : Shape := ⟨2, ![4, 64]⟩
abbrev S128 : Shape := ⟨1, ![128]⟩
abbrev S4x8192x512 : Shape := ⟨3, ![4, 8192, 512]⟩
abbrev S4x8192x4x2x64 : Shape := ⟨5, ![4, 8192, 4, 2, 64]⟩
abbrev S4x8192x4x128 : Shape := ⟨4, ![4, 8192, 4, 128]⟩
abbrev S1x64 : Shape := ⟨2, ![1, 64]⟩
abbrev S64 : Shape := ⟨1, ![64]⟩
abbrev S_ : Shape := ⟨0, ![]⟩
abbrev S4 : Shape := ⟨1, ![4]⟩
abbrev S1x4x1x1x1 : Shape := ⟨5, ![1, 4, 1, 1, 1]⟩
abbrev S4x4x2x8192x8192 : Shape := ⟨5, ![4, 4, 2, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x1x8192x8192 : Shape := ⟨5, ![1, 1, 1, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1536, .bf16⟩
  | .hbm, ⟨1, _⟩ => ⟨S4x64, .f32⟩
  | .hbm, ⟨2, _⟩ => ⟨S128, .f32⟩
  | .hbm, ⟨3, _⟩ => ⟨S4x8192x1536, .f32⟩
  | .hbm, ⟨4, _⟩ => ⟨S4x8192x512, .f32⟩
  | .hbm, ⟨5, _⟩ => ⟨S4x8192x4x2x64, .f32⟩
  | .hbm, ⟨6, _⟩ => ⟨S4x8192x512, .f32⟩
  | .hbm, ⟨7, _⟩ => ⟨S4x8192x4x2x64, .f32⟩
  | .hbm, ⟨8, _⟩ => ⟨S4x8192x512, .f32⟩
  | .hbm, ⟨9, _⟩ => ⟨S4x8192x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S1x4x1x1x1, .f32⟩
  | .hbm, ⟨43, _⟩ => ⟨S4x4x2x8192x8192, .f32⟩
  | .hbm, ⟨44, _⟩ => ⟨S8192, .i32⟩
  | .hbm, ⟨45, _⟩ => ⟨S8192x1, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i1⟩
  | .hbm, ⟨53, _⟩ => ⟨S8192x8192, .f32⟩
  | .hbm, ⟨54, _⟩ => ⟨S1x1x1x8192x8192, .f32⟩
  | .hbm, ⟨55, _⟩ => ⟨S1x4x1x8192x8192, .f32⟩
  | .hbm, ⟨56, _⟩ => ⟨S1x4x1x8192x8192, .f32⟩
  | .hbm, ⟨57, _⟩ => ⟨S1x4x1x8192x8192, .f32⟩
  | .hbm, ⟨58, _⟩ => ⟨S4x4x2x8192x8192, .f32⟩
  | .hbm, ⟨59, _⟩ => ⟨S4x4x2x8192x8192, .f32⟩
  | .hbm, ⟨60, _⟩ => ⟨S_, .f32⟩
  | .hbm, ⟨61, _⟩ => ⟨S_, .f32⟩
  | .hbm, ⟨62, _⟩ => ⟨S4x4x2x8192x8192, .i1⟩
  | .hbm, ⟨63, _⟩ => ⟨S4x4x2x8192x8192, .f32⟩
  | .hbm, ⟨64, _⟩ => ⟨S4x4x2x8192x8192, .f32⟩
  | .hbm, ⟨65, _⟩ => ⟨S_, .f32⟩
  | .hbm, ⟨66, _⟩ => ⟨S4x4x2x8192, .f32⟩
  | .hbm, ⟨67, _⟩ => ⟨S_, .f32⟩
  | .hbm, ⟨68, _⟩ => ⟨S4x4x2x8192, .f32⟩
  | .hbm, ⟨69, _⟩ => ⟨S4x4x2x8192, .f32⟩
  | .hbm, ⟨70, _⟩ => ⟨S4x4x2x8192x1, .f32⟩
  | .hbm, ⟨71, _⟩ => ⟨S4x4x2x8192x8192, .f32⟩
  | .hbm, ⟨72, _⟩ => ⟨S4x4x2x8192x8192, .f32⟩
  | .hbm, ⟨73, _⟩ => ⟨S4x4x2x8192x8192, .f32⟩
  | .hbm, ⟨74, _⟩ => ⟨S_, .f32⟩
  | .hbm, ⟨75, _⟩ => ⟨S4x4x2x8192, .f32⟩
  | .hbm, ⟨76, _⟩ => ⟨S4x4x2x8192x1, .f32⟩
  | .hbm, ⟨77, _⟩ => ⟨S4x4x2x8192x8192, .f32⟩
  | .hbm, ⟨78, _⟩ => ⟨S4x4x2x8192x8192, .f32⟩
  | .hbm, ⟨79, _⟩ => ⟨S4x4x1x8192x8192, .f32⟩
  | .hbm, ⟨80, _⟩ => ⟨S4x4x8192x8192, .f32⟩
  | .hbm, ⟨81, _⟩ => ⟨S4x4x1x8192x8192, .f32⟩
  | .hbm, ⟨82, _⟩ => ⟨S4x4x8192x8192, .f32⟩
  | .hbm, ⟨83, _⟩ => ⟨S4x4x8192x8192, .f32⟩
  | .hbm, ⟨84, _⟩ => ⟨S4x4x8192x8192, .f32⟩
  | .hbm, ⟨85, _⟩ => ⟨S4x4x8192x8192, .f32⟩
  | .hbm, ⟨86, _⟩ => ⟨S4x4x128x8192, .f32⟩
  | .hbm, ⟨87, _⟩ => ⟨S4x8192x4x128, .f32⟩
  | .hbm, ⟨88, _⟩ => ⟨S4x8192x4x128, .f32⟩
  | .hbm, ⟨89, _⟩ => ⟨S_, .f32⟩
  | .hbm, ⟨90, _⟩ => ⟨S4x8192x4, .f32⟩
  | .hbm, ⟨91, _⟩ => ⟨S4x8192x4x1, .f32⟩
  | .hbm, ⟨92, _⟩ => ⟨S_, .f32⟩
  | .hbm, ⟨93, _⟩ => ⟨S4x8192x4x1, .f32⟩
  | .hbm, ⟨94, _⟩ => ⟨S4x8192x4x1, .f32⟩
  | .hbm, ⟨95, _⟩ => ⟨S_, .f32⟩
  | .hbm, ⟨96, _⟩ => ⟨S4x8192x4x1, .f32⟩
  | .hbm, ⟨97, _⟩ => ⟨S4x8192x4x1, .f32⟩
  | .hbm, ⟨98, _⟩ => ⟨S4x8192x4x1, .f32⟩
  | .hbm, ⟨99, _⟩ => ⟨S4x8192x4x128, .f32⟩
  | .hbm, ⟨100, _⟩ => ⟨S4x8192x4x128, .f32⟩
  | .hbm, ⟨101, _⟩ => ⟨S1x1x1x128, .f32⟩
  | .hbm, ⟨102, _⟩ => ⟨S4x8192x4x128, .f32⟩
  | .hbm, ⟨103, _⟩ => ⟨S4x8192x4x128, .f32⟩
  | .hbm, ⟨104, _⟩ => ⟨S_, .f32⟩
  | .hbm, ⟨105, _⟩ => ⟨S4x8192x4x128, .f32⟩
  | .hbm, ⟨106, _⟩ => ⟨S4x8192x4x128, .f32⟩
  | .hbm, ⟨107, _⟩ => ⟨S4x8192x512, .f32⟩
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_13 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== Mix.lean ====
abbrev S32768x1024 : Shape := ⟨2, ![32768, 1024]⟩
abbrev S32768x512 : Shape := ⟨2, ![32768, 512]⟩
abbrev S32768x1536 : Shape := ⟨2, ![32768, 1536]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x1536, .f32⟩
  | .hbm, ⟨4, _⟩ => ⟨S1024x1024, .f32⟩
  | .hbm, ⟨5, _⟩ => ⟨S512x1024, .f32⟩
  | .hbm, ⟨6, _⟩ => ⟨S512x1024, .bf16⟩
  | .hbm, ⟨7, _⟩ => ⟨S512x1024, .f32⟩
  | .hbm, ⟨8, _⟩ => ⟨S512x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixReferenceIdeal.lean ====
abbrev S32768x1024 : Shape := ⟨2, ![32768, 1024]⟩
abbrev S32768x512 : Shape := ⟨2, ![32768, 512]⟩
abbrev S32768x1536 : Shape := ⟨2, ![32768, 1536]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x1536, .f32⟩
  | .hbm, ⟨4, _⟩ => ⟨S1024x1024, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Even.lean ====
abbrev S32768x1024 : Shape := ⟨2, ![32768, 1024]⟩
abbrev S32768x512 : Shape := ⟨2, ![32768, 512]⟩
abbrev S32768x2560 : Shape := ⟨2, ![32768, 2560]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2560, .f32⟩
  | .hbm, ⟨4, _⟩ => ⟨S1024x1024, .f32⟩
  | .hbm, ⟨5, _⟩ => ⟨S512x1024, .f32⟩
  | .hbm, ⟨6, _⟩ => ⟨S512x1024, .bf16⟩
  | .hbm, ⟨7, _⟩ => ⟨S512x1024, .f32⟩
  | .hbm, ⟨8, _⟩ => ⟨S512x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenReferenceIdeal.lean ====
abbrev S32768x1024 : Shape := ⟨2, ![32768, 1024]⟩
abbrev S32768x512 : Shape := ⟨2, ![32768, 512]⟩
abbrev S32768x2560 : Shape := ⟨2, ![32768, 2560]⟩
abbrev S1024x1024 : Shape := ⟨2, ![1024, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2560, .f32⟩
  | .hbm, ⟨4, _⟩ => ⟨S1024x1024, .f32⟩
  | .hbm, ⟨5, _⟩ => ⟨S32768x512, .f32⟩
  | .hbm, ⟨6, _⟩ => ⟨S32768x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x4096 : Shape := ⟨2, ![1024, 4096]⟩
abbrev S4x64 : Shape := ⟨2, ![4, 64]⟩
abbrev S1024x512 : Shape := ⟨2, ![1024, 512]⟩
abbrev S_ : Shape := ⟨0, ![]⟩
abbrev S512 : Shape := ⟨1, ![512]⟩
abbrev S1024x2560 : Shape := ⟨2, ![1024, 2560]⟩
abbrev S1x64 : Shape := ⟨2, ![1, 64]⟩
abbrev S64 : Shape := ⟨1, ![64]⟩
abbrev S8x64 : Shape := ⟨2, ![8, 64]⟩
abbrev S2560 : Shape := ⟨1, ![2560]⟩
abbrev S5x512 : Shape := ⟨2, ![5, 512]⟩
abbrev S5 : Shape := ⟨1, ![5]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x2560 : Shape := ⟨2, ![1, 2560]⟩
abbrev S32768x2560 : Shape := ⟨2, ![32768, 2560]⟩
abbrev S512x1024 : Shape := ⟨2, ![512, 1024]⟩
abbrev S1x512 : Shape := ⟨2, ![1, 512]⟩
abbrev S512x512 : Shape := ⟨2, ![512, 512]⟩
abbrev S512x1 : Shape := ⟨2, ![512, 1]⟩
abbrev S1 : Shape := ⟨1, ![1]⟩
abbrev S512x256 : Shape := ⟨2, ![512, 256]⟩

abbrev nBuf : Space → Nat
  | .hbm => 70
  | .vmem => 13
  | .smem => 1
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4x64, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S1024x2560, .f32⟩
  | .hbm, ⟨14, _⟩ => ⟨S1024x2560, .bf16⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S2560, .f32⟩
  | .hbm, ⟨29, _⟩ => ⟨S2560, .f32⟩
  | .hbm, ⟨30, _⟩ => ⟨S5x512, .f32⟩
  | .hbm, ⟨31, _⟩ => ⟨S_, .f32⟩
  | .hbm, ⟨32, _⟩ => ⟨S5, .f32⟩
  | .hbm, ⟨33, _⟩ => ⟨S_, .f32⟩
  | .hbm, ⟨34, _⟩ => ⟨S5, .f32⟩
  | .hbm, ⟨35, _⟩ => ⟨S5, .i1⟩
  | .hbm, ⟨36, _⟩ => ⟨S256, .i32⟩
  | .hbm, ⟨37, _⟩ => ⟨S_, .i32⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S_, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .bf16⟩
  | .hbm, ⟨66, _⟩ => ⟨S1x1024, .f32⟩
  | .hbm, ⟨67, _⟩ => ⟨S1x2560, .f32⟩
  | .hbm, ⟨68, _⟩ => ⟨S1x2560, .f32⟩
  | .hbm, ⟨69, _⟩ => ⟨S32768x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S256x256, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .smem, ⟨0, _⟩ => ⟨S5, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v28 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v27 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 5], ![false, false]⟩

abbrev pre0 : Pipeline.Prefetch sig := ⟨1, ![main_v27.idx], fun | 0 => main_v27.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v7 : Index := Scalar.indexCast arg1
  ![v7.toNat]
def k0_off2 (i : grid0.Coords) : Fin 1 → Nat :=
  let arg1 : BitVec 32 := BitVec.ofNat 32 (i 1).val
  let v12 : Index := Scalar.indexCast arg1
  ![v12.toNat]
def k0_cond2 (v8 : BitVec 32) : BitVec 1 :=
  let c0_i32_4 : BitVec 32 := 0#32
  let v9 : BitVec 1 := Scalar.cmpi .eq v8 c0_i32_4
  let v10 : BitVec 32 := Scalar.extui v9
  let c0_i32_5 : BitVec 32 := 0#32
  let v11 : BitVec 1 := Scalar.cmpi .ne v10 c0_i32_5
  v11

def k0_cond3 (v13 : BitVec 32) : BitVec 1 :=
  let c0_i32_6 : BitVec 32 := 0#32
  let v14 : BitVec 1 := Scalar.cmpi .ne v13 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S32768x1024 : Shape := ⟨2, ![32768, 1024]⟩
abbrev S1024 : Shape := ⟨1, ![1024]⟩
abbrev S1024x4096 : Shape := ⟨2, ![1024, 4096]⟩
abbrev S4x64 : Shape := ⟨2, ![4, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S32768x512 : Shape := ⟨2, ![32768, 512]⟩
abbrev S32768x8x64 : Shape := ⟨3, ![32768, 8, 64]⟩
abbrev S1x64 : Shape := ⟨2, ![1, 64]⟩
abbrev S64 : Shape := ⟨1, ![64]⟩
abbrev S32768x8 : Shape := ⟨2, ![32768, 8]⟩
abbrev S32768x8x1 : Shape := ⟨3, ![32768, 8, 1]⟩
abbrev S1x1x64 : Shape := ⟨3, ![1, 1, 64]⟩
abbrev S32768x2560 : Shape := ⟨2, ![32768, 2560]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4x64, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x4096, .f32⟩
  | .hbm, ⟨21, _⟩ => ⟨S32768x512, .f32⟩
  | .hbm, ⟨22, _⟩ => ⟨S32768x8x64, .f32⟩
  | .hbm, ⟨23, _⟩ => ⟨S1x64, .f32⟩
  | .hbm, ⟨24, _⟩ => ⟨S64, .f32⟩
  | .hbm, ⟨25, _⟩ => ⟨S32768x8x64, .f32⟩
  | .hbm, ⟨26, _⟩ => ⟨S_, .f32⟩
  | .hbm, ⟨27, _⟩ => ⟨S32768x8, .f32⟩
  | .hbm, ⟨28, _⟩ => ⟨S32768x8x1, .f32⟩
  | .hbm, ⟨29, _⟩ => ⟨S_, .f32⟩
  | .hbm, ⟨30, _⟩ => ⟨S32768x8x1, .f32⟩
  | .hbm, ⟨31, _⟩ => ⟨S32768x8x1, .f32⟩
  | .hbm, ⟨32, _⟩ => ⟨S_, .f32⟩
  | .hbm, ⟨33, _⟩ => ⟨S32768x8x1, .f32⟩
  | .hbm, ⟨34, _⟩ => ⟨S32768x8x1, .f32⟩
  | .hbm, ⟨35, _⟩ => ⟨S32768x8x1, .f32⟩
  | .hbm, ⟨36, _⟩ => ⟨S32768x8x64, .f32⟩
  | .hbm, ⟨37, _⟩ => ⟨S32768x8x64, .f32⟩
  | .hbm, ⟨38, _⟩ => ⟨S1x1x64, .f32⟩
  | .hbm, ⟨39, _⟩ => ⟨S32768x8x64, .f32⟩
  | .hbm, ⟨40, _⟩ => ⟨S32768x8x64, .f32⟩
  | .hbm, ⟨41, _⟩ => ⟨S_, .f32⟩
  | .hbm, ⟨42, _⟩ => ⟨S32768x8x64, .f32⟩
  | .hbm, ⟨43, _⟩ => ⟨S32768x8x64, .f32⟩
  | .hbm, ⟨44, _⟩ => ⟨S32768x512, .f32⟩
  | .hbm, ⟨45, _⟩ => ⟨S32768x8x64, .f32⟩
  | .hbm, ⟨46, _⟩ => ⟨S1x64, .f32⟩
  | .hbm, ⟨47, _⟩ => ⟨S64, .f32⟩
  | .hbm, ⟨48, _⟩ => ⟨S32768x8x64, .f32⟩
  | .hbm, ⟨49, _⟩ => ⟨S_, .f32⟩
  | .hbm, ⟨50, _⟩ => ⟨S32768x8, .f32⟩
  | .hbm, ⟨51, _⟩ => ⟨S32768x8x1, .f32⟩
  | .hbm, ⟨52, _⟩ => ⟨S_, .f32⟩
  | .hbm, ⟨53, _⟩ => ⟨S32768x8x1, .f32⟩
  | .hbm, ⟨54, _⟩ => ⟨S32768x8x1, .f32⟩
  | .hbm, ⟨55, _⟩ => ⟨S_, .f32⟩
  | .hbm, ⟨56, _⟩ => ⟨S32768x8x1, .f32⟩
  | .hbm, ⟨57, _⟩ => ⟨S32768x8x1, .f32⟩
  | .hbm, ⟨58, _⟩ => ⟨S32768x8x1, .f32⟩
  | .hbm, ⟨59, _⟩ => ⟨S32768x8x64, .f32⟩
  | .hbm, ⟨60, _⟩ => ⟨S32768x8x64, .f32⟩
  | .hbm, ⟨61, _⟩ => ⟨S1x1x64, .f32⟩
  | .hbm, ⟨62, _⟩ => ⟨S32768x8x64, .f32⟩
  | .hbm, ⟨63, _⟩ => ⟨S32768x8x64, .f32⟩
  | .hbm, ⟨64, _⟩ => ⟨S32768x512, .f32⟩
  | .hbm, ⟨65, _⟩ => ⟨S32768x512, .f32⟩
  | .hbm, ⟨66, _⟩ => ⟨S32768x1024, .f32⟩
  | .hbm, ⟨67, _⟩ => ⟨S32768x512, .f32⟩
  | .hbm, ⟨68, _⟩ => ⟨S32768x2560, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Odd.lean ====
abbrev S32768x1024 : Shape := ⟨2, ![32768, 1024]⟩
abbrev S1024 : Shape := ⟨1, ![1024]⟩
abbrev S1024x3864 : Shape := ⟨2, ![1024, 3864]⟩
abbrev S6x64 : Shape := ⟨2, ![6, 64]⟩
abbrev S1024x512 : Shape := ⟨2, ![1024, 512]⟩
abbrev S1024x128 : Shape := ⟨2, ![1024, 128]⟩
abbrev S1024x24 : Shape := ⟨2, ![1024, 24]⟩
abbrev S1024x64 : Shape := ⟨2, ![1024, 64]⟩
abbrev S1024x256 : Shape := ⟨2, ![1024, 256]⟩
abbrev S_ : Shape := ⟨0, ![]⟩
abbrev S1024x3072 : Shape := ⟨2, ![1024, 3072]⟩
abbrev S64 : Shape := ⟨1, ![64]⟩
abbrev S256 : Shape := ⟨1, ![256]⟩
abbrev S1x64 : Shape := ⟨2, ![1, 64]⟩
abbrev S8x64 : Shape := ⟨2, ![8, 64]⟩
abbrev S512 : Shape := ⟨1, ![512]⟩
abbrev S3072 : Shape := ⟨1, ![3072]⟩
abbrev S6x512 : Shape := ⟨2, ![6, 512]⟩
abbrev S6 : Shape := ⟨1, ![6]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x3072 : Shape := ⟨2, ![1, 3072]⟩
abbrev S32768x3072 : Shape := ⟨2, ![32768, 3072]⟩
abbrev S512x1024 : Shape := ⟨2, ![512, 1024]⟩
abbrev S1x512 : Shape := ⟨2, ![1, 512]⟩
abbrev S512x512 : Shape := ⟨2, ![512, 512]⟩
abbrev S512x1 : Shape := ⟨2, ![512, 1]⟩
abbrev S1 : Shape := ⟨1, ![1]⟩
abbrev S512x256 : Shape := ⟨2, ![512, 256]⟩

abbrev nBuf : Space → Nat
  | .hbm => 131
  | .vmem => 13
  | .smem => 1
  | _ => 0

abbrev hbmTy0_0 (i : Nat) : BufTy := match i % 128 with
  | 0 => ⟨S32768x1024, .f32⟩
  | 1 => ⟨S1024, .f32⟩
  | 2 => ⟨S1024x3864, .f32⟩
  | 3 => ⟨S6x64, .f32⟩
  | 4 => ⟨S1024x512, .f32⟩
  | 5 => ⟨S1024x512, .f32⟩
  | 6 => ⟨S1024x512, .f32⟩
  | 7 => ⟨S1024x512, .f32⟩
  | 8 => ⟨S1024x512, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S1024x128, .f32⟩
  | 15 => ⟨S1024x512, .f32⟩
  | 16 => ⟨S1024x24, .f32⟩
  | 17 => ⟨S1024x64, .f32⟩
  | 18 => ⟨S1024x64, .f32⟩
  | 19 => ⟨S1024x64, .f32⟩
  | 20 => ⟨S1024x64, .f32⟩
  | 21 => ⟨S1024x256, .f32⟩
  | 22 => ⟨S1024x64, .f32⟩
  | 23 => ⟨S1024x64, .f32⟩
  | 24 => ⟨S1024x64, .f32⟩
  | 25 => ⟨S1024x64, .f32⟩
  | 26 => ⟨S1024x256, .f32⟩
  | 27 => ⟨S_, .f32⟩
  | 28 => ⟨S1024x256, .f32⟩
  | 29 => ⟨S1024x3072, .f32⟩
  | 30 => ⟨S1024x3072, .bf16⟩
  | 31 => ⟨S_, .f32⟩
  | 32 => ⟨S64, .f32⟩
  | 33 => ⟨S_, .f32⟩
  | 34 => ⟨S64, .f32⟩
  | 35 => ⟨S_, .f32⟩
  | 36 => ⟨S64, .f32⟩
  | 37 => ⟨S_, .f32⟩
  | 38 => ⟨S64, .f32⟩
  | 39 => ⟨S256, .f32⟩
  | 40 => ⟨S1x64, .f32⟩
  | 41 => ⟨S64, .f32⟩
  | 42 => ⟨S1x64, .f32⟩
  | 43 => ⟨S8x64, .f32⟩
  | 44 => ⟨S512, .f32⟩
  | 45 => ⟨S_, .f32⟩
  | 46 => ⟨S512, .f32⟩
  | 47 => ⟨S512, .f32⟩
  | 48 => ⟨S1x64, .f32⟩
  | 49 => ⟨S64, .f32⟩
  | 50 => ⟨S1x64, .f32⟩
  | 51 => ⟨S8x64, .f32⟩
  | 52 => ⟨S512, .f32⟩
  | 53 => ⟨S_, .f32⟩
  | 54 => ⟨S512, .f32⟩
  | 55 => ⟨S1x64, .f32⟩
  | 56 => ⟨S64, .f32⟩
  | 57 => ⟨S1x64, .f32⟩
  | 58 => ⟨S8x64, .f32⟩
  | 59 => ⟨S512, .f32⟩
  | 60 => ⟨S_, .f32⟩
  | 61 => ⟨S512, .f32⟩
  | 62 => ⟨S512, .f32⟩
  | 63 => ⟨S1x64, .f32⟩
  | 64 => ⟨S64, .f32⟩
  | 65 => ⟨S_, .f32⟩
  | 66 => ⟨S64, .f32⟩
  | 67 => ⟨S_, .f32⟩
  | 68 => ⟨S64, .f32⟩
  | 69 => ⟨S256, .f32⟩
  | 70 => ⟨S1x64, .f32⟩
  | 71 => ⟨S64, .f32⟩
  | 72 => ⟨S_, .f32⟩
  | 73 => ⟨S64, .f32⟩
  | 74 => ⟨S_, .f32⟩
  | 75 => ⟨S64, .f32⟩
  | 76 => ⟨S256, .f32⟩
  | 77 => ⟨S_, .f32⟩
  | 78 => ⟨S512, .f32⟩
  | 79 => ⟨S3072, .f32⟩
  | 80 => ⟨S_, .f32⟩
  | 81 => ⟨S512, .f32⟩
  | 82 => ⟨S_, .f32⟩
  | 83 => ⟨S512, .f32⟩
  | 84 => ⟨S_, .f32⟩
  | 85 => ⟨S512, .f32⟩
  | 86 => ⟨S_, .f32⟩
  | 87 => ⟨S512, .f32⟩
  | 88 => ⟨S_, .f32⟩
  | 89 => ⟨S512, .f32⟩
  | 90 => ⟨S3072, .f32⟩
  | 91 => ⟨S6x512, .f32⟩
  | 92 => ⟨S_, .f32⟩
  | 93 => ⟨S6, .f32⟩
  | 94 => ⟨S_, .f32⟩
  | 95 => ⟨S6, .f32⟩
  | 96 => ⟨S6, .i1⟩
  | 97 => ⟨S256, .i32⟩
  | 98 => ⟨S_, .i32⟩
  | 99 => ⟨S_, .i32⟩
  | 100 => ⟨S256, .i32⟩
  | 101 => ⟨S256, .i32⟩
  | 102 => ⟨S256, .i32⟩
  | 103 => ⟨S_, .i32⟩
  | 104 => ⟨S256, .i32⟩
  | 105 => ⟨S256, .i1⟩
  | 106 => ⟨S256, .i32⟩
  | 107 => ⟨S256, .i32⟩
  | 108 => ⟨S_, .i32⟩
  | 109 => ⟨S256, .i32⟩
  | 110 => ⟨S256, .i1⟩
  | 111 => ⟨S256, .i1⟩
  | 112 => ⟨S_, .i32⟩
  | 113 => ⟨S256, .i32⟩
  | 114 => ⟨S256, .i32⟩
  | 115 => ⟨S256, .i32⟩
  | 116 => ⟨S256x1, .i32⟩
  | 117 => ⟨S1x256, .i32⟩
  | 118 => ⟨S256x256, .i32⟩
  | 119 => ⟨S256x256, .i32⟩
  | 120 => ⟨S256x256, .i1⟩
  | 121 => ⟨S_, .f32⟩
  | 122 => ⟨S_, .f32⟩
  | 123 => ⟨S256x256, .f32⟩
  | 124 => ⟨S256x256, .f32⟩
  | 125 => ⟨S256x256, .f32⟩
  | 126 => ⟨S256x256, .bf16⟩
  | 127 => ⟨S1x1024, .f32⟩
  | _ => ⟨S32768x1024, .f32⟩

abbrev hbmTy0_1 (i : Nat) : BufTy := match i % 128 with
  | 0 => ⟨S1x3072, .f32⟩
  | 1 => ⟨S1x3072, .f32⟩
  | 2 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S256x256, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .smem, ⟨0, _⟩ => ⟨S6, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_cst_14 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_17 : Ref sig .tc := ⟨.hbm, 92, rfl⟩
abbrev main_v70 : Ref sig .tc := ⟨.hbm, 93, rfl⟩
abbrev main_cst_18 : Ref sig .tc := ⟨.hbm, 94, rfl⟩
abbrev main_v71 : Ref sig .tc := ⟨.hbm, 95, rfl⟩
abbrev main_v72 : Ref sig .tc := ⟨.hbm, 96, rfl⟩
abbrev main_v74 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_c : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_c_0 : Ref sig .tc := ⟨.hbm, 112, rfl⟩
abbrev main_call0_v12 : Ref sig .tc := ⟨.hbm, 113, rfl⟩
abbrev main_call0_v13 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_19 : Ref sig .tc := ⟨.hbm, 121, rfl⟩
abbrev main_cst_20 : Ref sig .tc := ⟨.hbm, 122, rfl⟩
abbrev main_call1_v0 : Ref sig .tc := ⟨.hbm, 123, rfl⟩
abbrev main_call1_v1 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v73 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 6], ![false, false]⟩

abbrev pre0 : Pipeline.Prefetch sig := ⟨1, ![main_v73.idx], fun | 0 => main_v73.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v7 : Index := Scalar.indexCast arg1
  ![v7.toNat]
def k0_off2 (i : grid0.Coords) : Fin 1 → Nat :=
  let arg1 : BitVec 32 := BitVec.ofNat 32 (i 1).val
  let v12 : Index := Scalar.indexCast arg1
  ![v12.toNat]
def k0_cond2 (v8 : BitVec 32) : BitVec 1 :=
  let c0_i32_4 : BitVec 32 := 0#32
  let v9 : BitVec 1 := Scalar.cmpi .eq v8 c0_i32_4
  let v10 : BitVec 32 := Scalar.extui v9
  let c0_i32_5 : BitVec 32 := 0#32
  let v11 : BitVec 1 := Scalar.cmpi .ne v10 c0_i32_5
  v11

def k0_cond3 (v13 : BitVec 32) : BitVec 1 :=
  let c0_i32_6 : BitVec 32 := 0#32
  let v14 : BitVec 1 := Scalar.cmpi .ne v13 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OddReferenceIdeal.lean ====
abbrev S32768x1024 : Shape := ⟨2, ![32768, 1024]⟩
abbrev S1024 : Shape := ⟨1, ![1024]⟩
abbrev S1024x3864 : Shape := ⟨2, ![1024, 3864]⟩
abbrev S6x64 : Shape := ⟨2, ![6, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3864 : Shape := ⟨2, ![32768, 3864]⟩
abbrev S32768x512 : Shape := ⟨2, ![32768, 512]⟩
abbrev S32768x8x64 : Shape := ⟨3, ![32768, 8, 64]⟩
abbrev S1x64 : Shape := ⟨2, ![1, 64]⟩
abbrev S64 : Shape := ⟨1, ![64]⟩
abbrev S32768x8 : Shape := ⟨2, ![32768, 8]⟩
abbrev S32768x8x1 : Shape := ⟨3, ![32768, 8, 1]⟩
abbrev S1x1x64 : Shape := ⟨3, ![1, 1, 64]⟩
abbrev S32768x128 : Shape := ⟨2, ![32768, 128]⟩
abbrev S32768x2x64 : Shape := ⟨3, ![32768, 2, 64]⟩
abbrev S32768x2 : Shape := ⟨2, ![32768, 2]⟩
abbrev S32768x2x1 : Shape := ⟨3, ![32768, 2, 1]⟩
abbrev S32768x2x128 : Shape := ⟨3, ![32768, 2, 128]⟩
abbrev S32768x256 : Shape := ⟨2, ![32768, 256]⟩
abbrev S32768x3072 : Shape := ⟨2, ![32768, 3072]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S1024, .f32⟩
  | 2 => ⟨S1024x3864, .f32⟩
  | 3 => ⟨S6x64, .f32⟩
  | 4 => ⟨S32768x1024, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1024, .f32⟩
  | 16 => ⟨S32768x1024, .f32⟩
  | 17 => ⟨S1x1024, .f32⟩
  | 18 => ⟨S32768x1024, .f32⟩
  | 19 => ⟨S32768x1024, .f32⟩
  | 20 => ⟨S32768x3864, .f32⟩
  | 21 => ⟨S32768x512, .f32⟩
  | 22 => ⟨S32768x8x64, .f32⟩
  | 23 => ⟨S1x64, .f32⟩
  | 24 => ⟨S64, .f32⟩
  | 25 => ⟨S32768x8x64, .f32⟩
  | 26 => ⟨S_, .f32⟩
  | 27 => ⟨S32768x8, .f32⟩
  | 28 => ⟨S32768x8x1, .f32⟩
  | 29 => ⟨S_, .f32⟩
  | 30 => ⟨S32768x8x1, .f32⟩
  | 31 => ⟨S32768x8x1, .f32⟩
  | 32 => ⟨S_, .f32⟩
  | 33 => ⟨S32768x8x1, .f32⟩
  | 34 => ⟨S32768x8x1, .f32⟩
  | 35 => ⟨S32768x8x1, .f32⟩
  | 36 => ⟨S32768x8x64, .f32⟩
  | 37 => ⟨S32768x8x64, .f32⟩
  | 38 => ⟨S1x1x64, .f32⟩
  | 39 => ⟨S32768x8x64, .f32⟩
  | 40 => ⟨S32768x8x64, .f32⟩
  | 41 => ⟨S_, .f32⟩
  | 42 => ⟨S32768x8x64, .f32⟩
  | 43 => ⟨S32768x8x64, .f32⟩
  | 44 => ⟨S32768x512, .f32⟩
  | 45 => ⟨S32768x8x64, .f32⟩
  | 46 => ⟨S1x64, .f32⟩
  | 47 => ⟨S64, .f32⟩
  | 48 => ⟨S32768x8x64, .f32⟩
  | 49 => ⟨S_, .f32⟩
  | 50 => ⟨S32768x8, .f32⟩
  | 51 => ⟨S32768x8x1, .f32⟩
  | 52 => ⟨S_, .f32⟩
  | 53 => ⟨S32768x8x1, .f32⟩
  | 54 => ⟨S32768x8x1, .f32⟩
  | 55 => ⟨S_, .f32⟩
  | 56 => ⟨S32768x8x1, .f32⟩
  | 57 => ⟨S32768x8x1, .f32⟩
  | 58 => ⟨S32768x8x1, .f32⟩
  | 59 => ⟨S32768x8x64, .f32⟩
  | 60 => ⟨S32768x8x64, .f32⟩
  | 61 => ⟨S1x1x64, .f32⟩
  | 62 => ⟨S32768x8x64, .f32⟩
  | 63 => ⟨S32768x8x64, .f32⟩
  | 64 => ⟨S32768x512, .f32⟩
  | 65 => ⟨S32768x8x64, .f32⟩
  | 66 => ⟨S1x64, .f32⟩
  | 67 => ⟨S64, .f32⟩
  | 68 => ⟨S32768x8x64, .f32⟩
  | 69 => ⟨S_, .f32⟩
  | 70 => ⟨S32768x8, .f32⟩
  | 71 => ⟨S32768x8x1, .f32⟩
  | 72 => ⟨S_, .f32⟩
  | 73 => ⟨S32768x8x1, .f32⟩
  | 74 => ⟨S32768x8x1, .f32⟩
  | 75 => ⟨S_, .f32⟩
  | 76 => ⟨S32768x8x1, .f32⟩
  | 77 => ⟨S32768x8x1, .f32⟩
  | 78 => ⟨S32768x8x1, .f32⟩
  | 79 => ⟨S32768x8x64, .f32⟩
  | 80 => ⟨S32768x8x64, .f32⟩
  | 81 => ⟨S1x1x64, .f32⟩
  | 82 => ⟨S32768x8x64, .f32⟩
  | 83 => ⟨S32768x8x64, .f32⟩
  | 84 => ⟨S_, .f32⟩
  | 85 => ⟨S32768x8x64, .f32⟩
  | 86 => ⟨S32768x8x64, .f32⟩
  | 87 => ⟨S32768x128, .f32⟩
  | 88 => ⟨S32768x2x64, .f32⟩
  | 89 => ⟨S1x64, .f32⟩
  | 90 => ⟨S64, .f32⟩
  | 91 => ⟨S32768x2x64, .f32⟩
  | 92 => ⟨S_, .f32⟩
  | 93 => ⟨S32768x2, .f32⟩
  | 94 => ⟨S32768x2x1, .f32⟩
  | 95 => ⟨S_, .f32⟩
  | 96 => ⟨S32768x2x1, .f32⟩
  | 97 => ⟨S32768x2x1, .f32⟩
  | 98 => ⟨S_, .f32⟩
  | 99 => ⟨S32768x2x1, .f32⟩
  | 100 => ⟨S32768x2x1, .f32⟩
  | 101 => ⟨S32768x2x1, .f32⟩
  | 102 => ⟨S32768x2x64, .f32⟩
  | 103 => ⟨S32768x2x64, .f32⟩
  | 104 => ⟨S1x1x64, .f32⟩
  | 105 => ⟨S32768x2x64, .f32⟩
  | 106 => ⟨S32768x2x64, .f32⟩
  | 107 => ⟨S32768x128, .f32⟩
  | 108 => ⟨S32768x2x64, .f32⟩
  | 109 => ⟨S1x64, .f32⟩
  | 110 => ⟨S64, .f32⟩
  | 111 => ⟨S32768x2x64, .f32⟩
  | 112 => ⟨S_, .f32⟩
  | 113 => ⟨S32768x2, .f32⟩
  | 114 => ⟨S32768x2x1, .f32⟩
  | 115 => ⟨S_, .f32⟩
  | 116 => ⟨S32768x2x1, .f32⟩
  | 117 => ⟨S32768x2x1, .f32⟩
  | 118 => ⟨S_, .f32⟩
  | 119 => ⟨S32768x2x1, .f32⟩
  | 120 => ⟨S32768x2x1, .f32⟩
  | 121 => ⟨S32768x2x1, .f32⟩
  | 122 => ⟨S32768x2x64, .f32⟩
  | 123 => ⟨S32768x2x64, .f32⟩
  | 124 => ⟨S1x1x64, .f32⟩
  | 125 => ⟨S32768x2x64, .f32⟩
  | 126 => ⟨S32768x2x64, .f32⟩
  | 127 => ⟨S32768x128, .f32⟩
  | _ => ⟨S32768x1024, .f32⟩

abbrev hbmTy0_1 (i : Nat) : BufTy := match i % 128 with
  | 0 => ⟨S32768x2x64, .f32⟩
  | 1 => ⟨S32768x2x128, .f32⟩
  | 2 => ⟨S32768x128, .f32⟩
  | 3 => ⟨S32768x2x64, .f32⟩
  | 4 => ⟨S32768x2x128, .f32⟩
  | 5 => ⟨S32768x512, .f32⟩
  | 6 => ⟨S32768x512, .f32⟩
  | 7 => ⟨S32768x512, .f32⟩
  | 8 => ⟨S32768x512, .f32⟩
  | 9 => ⟨S32768x256, .f32⟩
  | 10 => ⟨S32768x256, .f32⟩
  | 11 => ⟨S32768x256, .f32⟩
  | 12 => ⟨S_, .f32⟩
  | 13 => ⟨S32768x256, .f32⟩
  | 14 => ⟨S32768x3072, .f32⟩
  | 15 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_cst_15 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_16 : Ref sig .tc := ⟨.hbm, 112, rfl⟩
abbrev main_v91 : Ref sig .tc := ⟨.hbm, 113, rfl⟩
abbrev main_v92 : Ref sig .tc := ⟨.hbm, 114, rfl⟩
abbrev main_cst_17 : Ref sig .tc := ⟨.hbm, 115, rfl⟩
abbrev main_v93 : Ref sig .tc := ⟨.hbm, 116, rfl⟩
abbrev main_v94 : Ref sig .tc := ⟨.hbm, 117, rfl⟩
abbrev main_cst_18 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_19 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩

abbrev nD : Nat := 1
abbrev τ : Topo := Topo.v7x

variable {F : FTy → Type} [FloatOps F]
-- ==== Proof.DiffFill.lean ====
/-
  The first loop of the kernel's body, which packs a head's keys and values into scratch: what its
  thirty-two trips leave there, tile by tile.
-/
module

public import proofs.«01_k».proof.Proof.Gen.KernelIdeal.Skeleton
public import proofs.«01_k».proof.Proof.Gen.KernelIdeal.Frame
public import Idealize.ShloMosaic.Lib.WritesUnit

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tiles -/

theorem keyTile_inb (n : Fin 32) : ∀ a, (![256 * n.val, 0] : Fin 2 → Nat) a + S256x128.size a ≤ S8192x128.size a := by
  have := n.isLt; intro a; fin_cases a
  · show 256 * n.val + 256 ≤ 8192; omega
  · show 0 + 128 ≤ 128; omega

theorem valTile_inb (n : Fin 32) : ∀ a, (![0, 256 * n.val] : Fin 2 → Nat) a + S128x256.size a ≤ S128x8192.size a := by
  have := n.isLt; intro a; fin_cases a
  · show 0 + 128 ≤ 128; omega
  · show 256 * n.val + 256 ≤ 8192; omega

theorem headTile_inb (n : Fin 32) : ∀ a, (![0, 256 * n.val, 0] : Fin 3 → Nat) a + S1x256x128.size a ≤ S1x8192x128.size a := by
  have := n.isLt; intro a; fin_cases a
  · show 0 + 1 ≤ 1; omega
  · show 256 * n.val + 256 ≤ 8192; omega
  · show 0 + 128 ≤ 128; omega

/-- Rows `256 n` to `256 n + 255` of a packed key array. -/
def keyTile (X : Vec F S8192x128 .bf16) (n : Fin 32) : Vec F S256x128 .bf16 :=
  fun y => X ((Rect.unit (s := S8192x128) ![256 * n.val, 0] S256x128.size (keyTile_inb n)).emb y)
/-- Columns `256 n` to `256 n + 255` of the packed value array. -/
def valTile (X : Vec F S128x8192 .bf16) (n : Fin 32) : Vec F S128x256 .bf16 :=
  fun y => X ((Rect.unit (s := S128x8192) ![0, 256 * n.val] S128x256.size (valTile_inb n)).emb y)
/-- Positions `256 n` to `256 n + 255` of a head's block. -/
def headTile (X : Vec F S1x8192x128 .bf16) (n : Fin 32) : Vec F S1x256x128 .bf16 :=
  fun y => X ((Rect.unit (s := S1x8192x128) ![0, 256 * n.val, 0] S1x256x128.size (headTile_inb n)).emb y)

theorem trips1 : k0_t1_loop.trips = 32 := by decide +kernel

/-- The trip of the packing loop that fills tile `n`. -/
def trip (n : Fin 32) : Fin k0_t1_loop.trips := ⟨n.val, trips1.symm ▸ n.isLt⟩

theorem off1_eq (k : Fin k0_t1_loop.trips) : k0_off1 k = ![0, 256 * k.val, 0] := by
  revert k; decide +kernel
theorem off2_eq (k : Fin k0_t1_loop.trips) : k0_off2 k = ![256 * k.val, 0] := by
  revert k; decide +kernel
theorem off3_eq (k : Fin k0_t1_loop.trips) : k0_off3 k = ![0, 256 * k.val] := by
  revert k; decide +kernel

/-- Scratch is filled up to tile `k` from the head's keys `kb` and values `vb`. -/
structure Filled (kb vb : Vec F S1x8192x128 .bf16) (X9 X10 : Vec F S8192x128 .bf16) (X11 : Vec F S128x8192 .bf16) (k : Nat) : Prop where
  k1 : ∀ n : Fin 32, n.val < k → keyTile X9 n = k0_pay23 (F := F) (headTile kb n)
  k2 : ∀ n : Fin 32, n.val < k → keyTile X10 n = k0_pay24 (F := F) (headTile kb n)
  vt : ∀ n : Fin 32, n.val < k → valTile X11 n = k0_pay25 (F := F) (headTile vb n)

/-- Storing a key tile: that tile holds what was stored, every other one what it held. -/
theorem keyTile_store (a : Memref sig .tc .vmem S8192x128 .bf16) (f : BufTy.Contents (Elt F) a.view.ty) (off : Fin 2 → Nat)
    (inb : ∀ x, off x + S256x128.size x ≤ S8192x128.size x) (w : Vec F S256x128 .bf16) (k n : Fin 32) (h : off = ![256 * k.val, 0]) :
    keyTile (F := F) (a.view.read (Elt F) (a.view.writes (Elt F) f [⟨Rect.unit (s := S8192x128) off S256x128.size inb, w⟩])) n
      = if n = k then w else keyTile (F := F) (a.view.read (Elt F) f) n := by
  subst h
  funext y
  split
  · rename_i e; subst e
    exact View.read_writes_cons_unit_of_mem a.view f inb w [] _ y rfl (fun x => by
      show (![256 * n.val, 0] : Fin 2 → Nat) x + 1 * (y x).val = _; rw [Nat.one_mul])
  · rename_i e
    have e' : n.val ≠ k.val := fun h => e (Fin.ext h)
    refine (View.read_writes_cons_unit_of_not_mem a.view f inb w [] _ rfl 0 ?_).trans rfl
    have hy : (y 0).val < 256 := (y 0).isLt
    show (256 * n.val + 1 * (y 0).val) < 256 * k.val ∨ 256 * k.val + 256 ≤ 256 * n.val + 1 * (y 0).val
    omega

/-- Storing a value tile. -/
theorem valTile_store (a : Memref sig .tc .vmem S128x8192 .bf16) (f : BufTy.Contents (Elt F) a.view.ty) (off : Fin 2 → Nat)
    (inb : ∀ x, off x + S128x256.size x ≤ S128x8192.size x) (w : Vec F S128x256 .bf16) (k n : Fin 32) (h : off = ![0, 256 * k.val]) :
    valTile (F := F) (a.view.read (Elt F) (a.view.writes (Elt F) f [⟨Rect.unit (s := S128x8192) off S128x256.size inb, w⟩])) n
      = if n = k then w else valTile (F := F) (a.view.read (Elt F) f) n := by
  subst h
  funext y
  split
  · rename_i e; subst e
    exact View.read_writes_cons_unit_of_mem a.view f inb w [] _ y rfl (fun x => by
      show (![0, 256 * n.val] : Fin 2 → Nat) x + 1 * (y x).val = _; rw [Nat.one_mul])
  · rename_i e
    have e' : n.val ≠ k.val := fun h => e (Fin.ext h)
    refine (View.read_writes_cons_unit_of_not_mem a.view f inb w [] _ rfl 1 ?_).trans rfl
    have hy : (y 1).val < 256 := (y 1).isLt
    show (256 * n.val + 1 * (y 1).val) < 256 * k.val ∨ 256 * k.val + 256 ≤ 256 * n.val + 1 * (y 1).val
    omega

/-- Loading a tile of keys, of values, or of a head's block. -/
theorem keyTile_load (a : Memref sig .tc .vmem S8192x128 .bf16) (f : BufTy.Contents (Elt F) a.view.ty) (off : Fin 2 → Nat)
    (inb : ∀ x, off x + S256x128.size x ≤ S8192x128.size x) (k : Fin 32) (h : off = ![256 * k.val, 0]) :
    a.view.readAt (Elt F) (Rect.unit (s := S8192x128) off S256x128.size inb).toLoadRect f = keyTile (F := F) (a.view.read (Elt F) f) k := by
  subst h; rfl
theorem valTile_load (a : Memref sig .tc .vmem S128x8192 .bf16) (f : BufTy.Contents (Elt F) a.view.ty) (off : Fin 2 → Nat)
    (inb : ∀ x, off x + S128x256.size x ≤ S128x8192.size x) (k : Fin 32) (h : off = ![0, 256 * k.val]) :
    a.view.readAt (Elt F) (Rect.unit (s := S128x8192) off S128x256.size inb).toLoadRect f = valTile (F := F) (a.view.read (Elt F) f) k := by
  subst h; rfl
theorem headTile_load (a : Memref sig .tc .vmem S1x8192x128 .bf16) (f : BufTy.Contents (Elt F) a.view.ty) (off : Fin 3 → Nat)
    (inb : ∀ x, off x + S1x256x128.size x ≤ S1x8192x128.size x) (k : Fin 32) (h : off = ![0, 256 * k.val, 0]) :
    a.view.readAt (Elt F) (Rect.unit (s := S1x8192x128) off S1x256x128.size inb).toLoadRect f = headTile (F := F) (a.view.read (Elt F) f) k := by
  subst h; rfl

section Body
variable (𝒱 : Variants) (c : Dev nD) (bd : Option 𝒱.V) (i : grid0.Coords)
  (arg3 : Memref sig .tc .smem S1 .f32) (harg3 : arg3.IsWhole) (arg4 : Memref sig .tc .vmem S1x256x128 .bf16) (harg4 : arg4.IsWhole)
  (arg5 : Memref sig .tc .vmem S1x8192x128 .bf16) (harg5 : arg5.IsWhole) (arg6 : Memref sig .tc .vmem S1x8192x128 .bf16) (harg6 : arg6.IsWhole)
  (arg7 : Memref sig .tc .vmem S1x128 .f32) (harg7 : arg7.IsWhole) (arg8 : Memref sig .tc .vmem S1x256x128 .f32) (harg8 : arg8.IsWhole)
  (arg9 : Memref sig .tc .vmem S8192x128 .bf16) (harg9 : arg9.IsWhole) (arg10 : Memref sig .tc .vmem S8192x128 .bf16) (harg10 : arg10.IsWhole)
  (arg11 : Memref sig .tc .vmem S128x8192 .bf16) (harg11 : arg11.IsWhole) (arg12 : Memref sig .tc .vmem S128x256 .f32) (harg12 : arg12.IsWhole)
  (arg13 : Memref sig .tc .vmem S128x256 .f32) (harg13 : arg13.IsWhole)

/-- Before trip `k` of the packing loop: the head's blocks as they were, scratch filled up to `k`. -/
def packInv (f5 : BufTy.Contents (Elt F) arg5.view.ty) (f6 : BufTy.Contents (Elt F) arg6.view.ty) (k : Nat) (_ : PUnit) : sProp 𝕄 :=
  iprop((arg5.view.loc (c : Thread nD τ) ↦[arg5.view.set]{fullShare} f5) ∗ (arg6.view.loc (c : Thread nD τ) ↦[arg6.view.set]{fullShare} f6)
    ∗ ∃ f9 f10 f11, (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11)
      ∗ ⌜Filled (arg5.view.read (Elt F) f5) (arg6.view.read (Elt F) f6) (arg9.view.read (Elt F) f9) (arg10.view.read (Elt F) f10) (arg11.view.read (Elt F) f11) k⌝)

theorem pack_step (h1 : k0_cond1 i = 1#1) (f5 : BufTy.Contents (Elt F) arg5.view.ty) (f6 : BufTy.Contents (Elt F) arg6.view.ty) (E : Set ℕ)
    (k : Fin k0_t1_loop.trips) (u : PUnit) :
    packInv c arg5 arg6 arg9 arg10 arg11 f5 f6 k.val u ⊢ wp frame (wpE (defs₀ (F := F)) 𝒱 (c : Thread nD τ) bd) E
      (k0_t1_body (F := F) i arg3 harg3 arg4 harg4 arg5 harg5 arg6 harg6 arg7 harg7 arg8 harg8 arg9 harg9 arg10 harg10 arg11 harg11 arg12 harg12 arg13 harg13 h1 k u)
      (packInv c arg5 arg6 arg9 arg10 arg11 f5 f6 (k.val + 1)) := by
  have hk : k.val < 32 := Nat.lt_of_lt_of_le k.isLt k0_t1_abs.2.1
  unfold packInv k0_t1_body
  iintro ⟨H5, H6, ⟨%f9, %f10, %f11, H9, H10, H11, %hfill⟩⟩
  sl_exec
  sl_step
  isplitl [H5]; · iexact H5
  isplitl [H6]; · iexact H6
  iexists _, _, _
  isplitl [H9]; · iexact H9
  isplitl [H10]; · iexact H10
  isplitl [H11]; · iexact H11
  ipureintro
  refine ⟨fun n hn => ?_, fun n hn => ?_, fun n hn => ?_⟩
  · refine (keyTile_store arg9 f9 _ _ _ ⟨k.val, hk⟩ n (off2_eq k)).trans ?_
    split
    · rename_i e; subst e
      exact congrArg (k0_pay23 (F := F)) (headTile_load arg5 f5 _ _ ⟨k.val, hk⟩ (off1_eq k))
    · rename_i e
      exact hfill.k1 n (by have : n.val ≠ k.val := fun h => e (Fin.ext h)
                           omega)
  · refine (keyTile_store arg10 f10 _ _ _ ⟨k.val, hk⟩ n (off2_eq k)).trans ?_
    split
    · rename_i e; subst e
      exact congrArg (k0_pay24 (F := F)) (headTile_load arg5 f5 _ _ ⟨k.val, hk⟩ (off1_eq k))
    · rename_i e
      exact hfill.k2 n (by have : n.val ≠ k.val := fun h => e (Fin.ext h)
                           omega)
  · refine (valTile_store arg11 f11 _ _ _ ⟨k.val, hk⟩ n (off3_eq k)).trans ?_
    split
    · rename_i e; subst e
      exact congrArg (k0_pay25 (F := F)) (headTile_load arg6 f6 _ _ ⟨k.val, hk⟩ (off1_eq k))
    · rename_i e
      exact hfill.vt n (by have : n.val ≠ k.val := fun h => e (Fin.ext h)
                           omega)

end Body

end Cert.KernelIdeal.Diff

end
-- ==== Proof.DiffBody.lean ====
/-
  One grid point of the kernel: the running state of the two softmaxes over the key tiles, the
  loop that carries it, and what the body leaves in the output block.
-/
module

public import proofs.«01_k».proof.Proof.DiffFill

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The running state -/

/-- What the loop over key tiles carries: the two running maxima, the two running sums, and the two
    weighted sums of the values. -/
structure St (F : FTy → Type) where
  m1 : FVec F S1x256 .f32
  l1 : FVec F S1x256 .f32
  m2 : FVec F S1x256 .f32
  l2 : FVec F S1x256 .f32
  a1 : Vec F S128x256 .f32
  a2 : Vec F S128x256 .f32

/-- After the diagonal tile. -/
def firstSt (i : grid0.Coords) (qb : Vec F S1x256x128 .bf16) (kt1 kt2 : Vec F S256x128 .bf16) (vt : Vec F S128x256 .bf16) : St F where
  m1 := k0_pay38 (BitVec.ofNat 32 (i 2).val) (k0_pay20 i) (k0_pay28 i qb) k0_pay32 kt1
  l1 := k0_pay41 (BitVec.ofNat 32 (i 2).val) (k0_pay20 i) (k0_pay28 i qb) k0_pay32 k0_pay33 kt1
  m2 := k0_pay44 k0_pay32 (k0_pay34 (BitVec.ofNat 32 (i 2).val) (k0_pay20 i)) (k0_pay43 (k0_pay29 i qb) kt2)
  l2 := k0_pay47 k0_pay32 k0_pay33 (k0_pay34 (BitVec.ofNat 32 (i 2).val) (k0_pay20 i)) (k0_pay37 (k0_pay29 i qb) kt2) (k0_pay43 (k0_pay29 i qb) kt2)
  a1 := k0_pay42 (BitVec.ofNat 32 (i 2).val) (k0_pay20 i) (k0_pay28 i qb) k0_pay32 vt kt1 k0_pay30
  a2 := k0_pay48 k0_pay32 vt (k0_pay34 (BitVec.ofNat 32 (i 2).val) (k0_pay20 i)) (k0_pay37 (k0_pay29 i qb) kt2) (k0_pay43 (k0_pay29 i qb) kt2) k0_pay31

/-- One more tile. -/
def nextSt (i : grid0.Coords) (k : Fin (k0_t2_loop i).trips) (qb : Vec F S1x256x128 .bf16) (kt1 kt2 : Vec F S256x128 .bf16)
    (vt : Vec F S128x256 .bf16) (s : St F) : St F where
  m1 := k0_pay5 i (BitVec.ofNat 32 (i 2).val) (k0_pay20 i) (k0_pay28 i qb) 0#32 1#32 k s.m1 kt1
  l1 := k0_pay8 i (BitVec.ofNat 32 (i 2).val) (k0_pay20 i) (k0_pay28 i qb) 0#32 1#32 k s.m1 s.l1 kt1
  m2 := k0_pay49 s.m2 (k0_pay10 i (BitVec.ofNat 32 (i 2).val) (k0_pay20 i) (k0_pay29 i qb) 0#32 1#32 k kt2)
  l2 := k0_pay52 s.m2 s.l2 (k0_pay2 i (BitVec.ofNat 32 (i 2).val) (k0_pay20 i) 0#32 1#32 k) (k0_pay4 (k0_pay29 i qb) kt2)
    (k0_pay10 i (BitVec.ofNat 32 (i 2).val) (k0_pay20 i) (k0_pay29 i qb) 0#32 1#32 k kt2)
  a1 := k0_pay9 i (BitVec.ofNat 32 (i 2).val) (k0_pay20 i) (k0_pay28 i qb) 0#32 1#32 k s.m1 vt kt1 s.a1
  a2 := k0_pay53 s.m2 vt (k0_pay2 i (BitVec.ofNat 32 (i 2).val) (k0_pay20 i) 0#32 1#32 k) (k0_pay4 (k0_pay29 i qb) kt2)
    (k0_pay10 i (BitVec.ofNat 32 (i 2).val) (k0_pay20 i) (k0_pay29 i qb) 0#32 1#32 k kt2) s.a2

theorem trips2 (i : grid0.Coords) : (k0_t2_loop i).trips = (i 2).val := by
  have h : ∀ n : Fin 32, Scf.trips 0#32 (Scalar.addi 0#32 (Scalar.muli (Scalar.divsi (Scalar.subi (BitVec.ofNat 32 n.val) 0#32) 1#32) 1#32)) 1#32 = n.val := by
    decide +kernel
  exact h (i 2)

theorem trips3 (i : grid0.Coords) : (k0_t3_loop i).trips = 0 := Nat.le_zero.mp (k0_t3_abs i).2.1

theorem trip_lt (i : grid0.Coords) (k : Fin (k0_t2_loop i).trips) : k.val < 32 := by
  have := Nat.lt_of_lt_of_le k.isLt (k0_t2_abs i).2.1; omega

theorem off4_eq (i : grid0.Coords) : k0_off4 i = ![0, 256 * (i 2).val] := by
  have h : ∀ n : Fin 32, (![0, (Scalar.indexCast (Scalar.muli (BitVec.ofNat 32 n.val) 256#32)).toNat] : Fin 2 → Nat) = ![0, 256 * n.val] := by
    decide +kernel
  exact h (i 2)
theorem off5_eq (i : grid0.Coords) : k0_off5 i = ![256 * (i 2).val, 0] := by
  have h : ∀ n : Fin 32, (![(Scalar.indexCast (Scalar.muli (BitVec.ofNat 32 n.val) 256#32)).toNat, 0] : Fin 2 → Nat) = ![256 * n.val, 0] := by
    decide +kernel
  exact h (i 2)
theorem off6_eq (i : grid0.Coords) (k : Fin (k0_t2_loop i).trips) : k0_off6 i k = ![0, 256 * k.val] := by
  have h : ∀ n : Fin 32, (![0, (Scalar.indexCast (Scalar.muli (Scf.iv 0#32 1#32 n.val) 256#32)).toNat] : Fin 2 → Nat) = ![0, 256 * n.val] := by
    decide +kernel
  exact h ⟨k.val, trip_lt i k⟩
theorem off7_eq (i : grid0.Coords) (k : Fin (k0_t2_loop i).trips) : k0_off7 i k = ![256 * k.val, 0] := by
  have h : ∀ n : Fin 32, (![(Scalar.indexCast (Scalar.muli (Scf.iv 0#32 1#32 n.val) 256#32)).toNat, 0] : Fin 2 → Nat) = ![256 * n.val, 0] := by
    decide +kernel
  exact h ⟨k.val, trip_lt i k⟩

/-- The state before trip `k` of the loop over the tiles below the diagonal. -/
def stAt (i : grid0.Coords) (qb : Vec F S1x256x128 .bf16) (T1 T2 : Fin 32 → Vec F S256x128 .bf16) (TV : Fin 32 → Vec F S128x256 .bf16) : Nat → St F
  | 0 => firstSt i qb (T1 (i 2)) (T2 (i 2)) (TV (i 2))
  | k + 1 => if h : k < (k0_t2_loop i).trips then
      nextSt i ⟨k, h⟩ qb (T1 ⟨k, trip_lt i ⟨k, h⟩⟩) (T2 ⟨k, trip_lt i ⟨k, h⟩⟩) (TV ⟨k, trip_lt i ⟨k, h⟩⟩) (stAt i qb T1 T2 TV k)
    else stAt i qb T1 T2 TV k

theorem stAt_succ (i : grid0.Coords) (qb : Vec F S1x256x128 .bf16) (T1 T2 : Fin 32 → Vec F S256x128 .bf16) (TV : Fin 32 → Vec F S128x256 .bf16)
    (k : Fin (k0_t2_loop i).trips) :
    stAt i qb T1 T2 TV (k.val + 1) = nextSt i k qb (T1 ⟨k.val, trip_lt i k⟩) (T2 ⟨k.val, trip_lt i k⟩) (TV ⟨k.val, trip_lt i k⟩) (stAt i qb T1 T2 TV k.val) :=
  dif_pos k.isLt

/-- What the body stores into the output block, from the blocks it reads. -/
def outBlk (i : grid0.Coords) (lam : Elt F .f32) (qb : Vec F S1x256x128 .bf16) (T1 T2 : Fin 32 → Vec F S256x128 .bf16)
    (TV : Fin 32 → Vec F S128x256 .bf16) (sub : Vec F S1x128 .f32) : Vec F S1x256x128 .f32 :=
  let s := stAt i qb T1 T2 TV (k0_t2_loop i).trips
  k0_pay1 (k0_pay59 s.l1 s.l2 s.a1 lam s.a2) (k0_pay60 s.l1 s.l2 s.a1 lam s.a2) sub

/-- A load of a whole accumulator reads it; a store of one leaves what was stored. -/
theorem acc_load (a : Memref sig .tc .vmem S128x256 .f32) (f : BufTy.Contents (Elt F) a.view.ty)
    (inb : ∀ x, (![0, 0] : Fin 2 → Nat) x + S128x256.size x ≤ S128x256.size x) :
    a.view.readAt (Elt F) (Rect.unit (s := S128x256) ![0, 0] S128x256.size inb).toLoadRect f = a.view.read (Elt F) f := by
  funext y
  refine congrArg (a.view.read (Elt F) f) (funext fun x => Fin.ext ?_)
  show (![0, 0] : Fin 2 → Nat) x + 1 * (y x).val = (y x).val
  fin_cases x
  · show 0 + 1 * (y 0).val = (y 0).val; omega
  · show 0 + 1 * (y 1).val = (y 1).val; omega
theorem acc_store (a : Memref sig .tc .vmem S128x256 .f32) (f : BufTy.Contents (Elt F) a.view.ty)
    (inb : ∀ x, (![0, 0] : Fin 2 → Nat) x + S128x256.size x ≤ S128x256.size x) (w : Vec F S128x256 .f32) (L : List (View.Piece (Elt F) S128x256 .f32)) :
    a.view.read (Elt F) (a.view.writes (Elt F) f (⟨Rect.unit (s := S128x256) ![0, 0] S128x256.size inb, w⟩ :: L)) = w := by
  funext y
  refine View.read_writes_cons_unit_of_mem a.view f inb w L y y rfl (fun x => ?_)
  fin_cases x
  · show (y 0).val = 0 + (y 0).val; omega
  · show (y 1).val = 0 + (y 1).val; omega

theorem sub_load (a : Memref sig .tc .vmem S1x128 .f32) (f : BufTy.Contents (Elt F) a.view.ty)
    (inb : ∀ x, (![0, 0] : Fin 2 → Nat) x + S1x128.size x ≤ S1x128.size x) :
    a.view.readAt (Elt F) (Rect.unit (s := S1x128) ![0, 0] S1x128.size inb).toLoadRect f = a.view.read (Elt F) f := by
  funext y
  refine congrArg (a.view.read (Elt F) f) (funext fun x => Fin.ext ?_)
  show (![0, 0] : Fin 2 → Nat) x + 1 * (y x).val = (y x).val
  fin_cases x
  · show 0 + 1 * (y 0).val = (y 0).val; omega
  · show 0 + 1 * (y 1).val = (y 1).val; omega
theorem out_store (a : Memref sig .tc .vmem S1x256x128 .f32) (f : BufTy.Contents (Elt F) a.view.ty)
    (inb : ∀ x, (![0, 0, 0] : Fin 3 → Nat) x + S1x256x128.size x ≤ S1x256x128.size x) (w : Vec F S1x256x128 .f32) (L : List (View.Piece (Elt F) S1x256x128 .f32)) :
    a.view.read (Elt F) (a.view.writes (Elt F) f (⟨Rect.unit (s := S1x256x128) ![0, 0, 0] S1x256x128.size inb, w⟩ :: L)) = w := by
  funext y
  refine View.read_writes_cons_unit_of_mem a.view f inb w L y y rfl (fun x => ?_)
  fin_cases x
  · show (y 0).val = 0 + (y 0).val; omega
  · show (y 1).val = 0 + (y 1).val; omega
  · show (y 2).val = 0 + (y 2).val; omega

section Body
variable (𝒱 : Variants) (c : Dev nD) (bd : Option 𝒱.V) (i : grid0.Coords)
  (arg3 : Memref sig .tc .smem S1 .f32) (harg3 : arg3.IsWhole) (arg4 : Memref sig .tc .vmem S1x256x128 .bf16) (harg4 : arg4.IsWhole)
  (arg5 : Memref sig .tc .vmem S1x8192x128 .bf16) (harg5 : arg5.IsWhole) (arg6 : Memref sig .tc .vmem S1x8192x128 .bf16) (harg6 : arg6.IsWhole)
  (arg7 : Memref sig .tc .vmem S1x128 .f32) (harg7 : arg7.IsWhole) (arg8 : Memref sig .tc .vmem S1x256x128 .f32) (harg8 : arg8.IsWhole)
  (arg9 : Memref sig .tc .vmem S8192x128 .bf16) (harg9 : arg9.IsWhole) (arg10 : Memref sig .tc .vmem S8192x128 .bf16) (harg10 : arg10.IsWhole)
  (arg11 : Memref sig .tc .vmem S128x8192 .bf16) (harg11 : arg11.IsWhole) (arg12 : Memref sig .tc .vmem S128x256 .f32) (harg12 : arg12.IsWhole)
  (arg13 : Memref sig .tc .vmem S128x256 .f32) (harg13 : arg13.IsWhole)

/-- The packed keys and values, as the tiles of the head's block. -/
abbrev K1 (kb : Vec F S1x8192x128 .bf16) (n : Fin 32) : Vec F S256x128 .bf16 := k0_pay23 (headTile kb n)
abbrev K2 (kb : Vec F S1x8192x128 .bf16) (n : Fin 32) : Vec F S256x128 .bf16 := k0_pay24 (headTile kb n)
abbrev VT (vb : Vec F S1x8192x128 .bf16) (n : Fin 32) : Vec F S128x256 .bf16 := k0_pay25 (headTile vb n)

/-- Before trip `k` of the loop over the key tiles: scratch packed, the carried values and the two
    accumulators those of the state. -/
def tileInv (qb : Vec F S1x256x128 .bf16) (kb vb : Vec F S1x8192x128 .bf16)
    (f9 : BufTy.Contents (Elt F) arg9.view.ty) (f10 : BufTy.Contents (Elt F) arg10.view.ty) (f11 : BufTy.Contents (Elt F) arg11.view.ty) (k : Nat)
    (acc : FVec F S1x256 .f32 × FVec F S1x256 .f32 × FVec F S1x256 .f32 × FVec F S1x256 .f32) : sProp 𝕄 :=
  iprop((arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11)
    ∗ ∃ f12 f13, (arg12.view.loc (c : Thread nD τ) ↦[arg12.view.set]{fullShare} f12) ∗ (arg13.view.loc (c : Thread nD τ) ↦[arg13.view.set]{fullShare} f13)
      ∗ ⌜acc = ((stAt i qb (K1 kb) (K2 kb) (VT vb) k).m1, (stAt i qb (K1 kb) (K2 kb) (VT vb) k).l1,
            (stAt i qb (K1 kb) (K2 kb) (VT vb) k).m2, (stAt i qb (K1 kb) (K2 kb) (VT vb) k).l2)
          ∧ arg12.view.read (Elt F) f12 = (stAt i qb (K1 kb) (K2 kb) (VT vb) k).a1
          ∧ arg13.view.read (Elt F) f13 = (stAt i qb (K1 kb) (K2 kb) (VT vb) k).a2⌝)

set_option maxHeartbeats 1600000 in
theorem tile_step (qb : Vec F S1x256x128 .bf16) (kb vb : Vec F S1x8192x128 .bf16)
    (f9 : BufTy.Contents (Elt F) arg9.view.ty) (f10 : BufTy.Contents (Elt F) arg10.view.ty) (f11 : BufTy.Contents (Elt F) arg11.view.ty)
    (hfill : Filled kb vb (arg9.view.read (Elt F) f9) (arg10.view.read (Elt F) f10) (arg11.view.read (Elt F) f11) 32)
    (v29 v30 : FVec F S1x256 .f32) (v34 : Vec F S128x256 .bf16) (v38 : F .f32) (v51 : FVec F S256x256 .f32) (v56 v67 : FVec F S1x256 .f32) (v77 : FVec F S256 .f32)
    (E : Set ℕ) (k : Fin (k0_t2_loop i).trips) (acc : FVec F S1x256 .f32 × FVec F S1x256 .f32 × FVec F S1x256 .f32 × FVec F S1x256 .f32) :
    tileInv c i arg9 arg10 arg11 arg12 arg13 qb kb vb f9 f10 f11 k.val acc ⊢ wp frame (wpE (defs₀ (F := F)) 𝒱 (c : Thread nD τ) bd) E
      (k0_t2_body (F := F) i arg3 harg3 arg4 harg4 arg5 harg5 arg6 harg6 arg7 harg7 arg8 harg8 arg9 harg9 arg10 harg10 arg11 harg11 arg12 harg12 arg13 harg13 (BitVec.ofNat 32 (i 2).val) (k0_pay20 i) (k0_pay28 i qb) (k0_pay29 i qb) v29 v30 v34 v38 v51 v56 v67 v77 k acc)
      (tileInv c i arg9 arg10 arg11 arg12 arg13 qb kb vb f9 f10 f11 (k.val + 1)) := by
  obtain ⟨arg15, arg16, arg17, arg18⟩ := acc
  unfold tileInv k0_t2_body
  iintro ⟨H9, H10, H11, ⟨%f12, %f13, H12, H13, %hs⟩⟩
  obtain ⟨hacc, h12, h13⟩ := hs
  obtain ⟨rfl, rfl, rfl, rfl⟩ : arg15 = _ ∧ arg16 = _ ∧ arg17 = _ ∧ arg18 = _ := by
    simpa only [Prod.mk.injEq] using hacc
  sl_exec_parts
  sl_step
  isplitl [H9]; · iexact H9
  isplitl [H10]; · iexact H10
  isplitl [H11]; · iexact H11
  iexists _, _
  isplitl [H12]; · iexact H12
  isplitl [H13]; · iexact H13
  ipureintro
  have e9 := (keyTile_load arg9 f9 (k0_off7 i k) (k0_off7_inb i k) ⟨k.val, trip_lt i k⟩ (off7_eq i k)).trans (hfill.k1 _ (trip_lt i k))
  have e10 := (keyTile_load arg10 f10 (k0_off7 i k) (k0_off7_inb i k) ⟨k.val, trip_lt i k⟩ (off7_eq i k)).trans (hfill.k2 _ (trip_lt i k))
  have e11 := (valTile_load arg11 f11 (k0_off6 i k) (k0_off6_inb i k) ⟨k.val, trip_lt i k⟩ (off6_eq i k)).trans (hfill.vt _ (trip_lt i k))
  have e12 := (acc_load arg12 f12 inb_S128x256_S128x256_0_0).trans h12
  have e13 := (acc_load arg13 f13 inb_S128x256_S128x256_0_0).trans h13
  rw [stAt_succ]
  unfold K1 K2 VT at *
  refine ⟨?_, ?_, ?_⟩
  · simp only [nextSt]; rw [← e9, ← e10]; rfl
  · simp only [nextSt]; rw [acc_store, ← e9, ← e11, ← e12]; rfl
  · simp only [nextSt]; rw [acc_store, ← e10, ← e11, ← e13]; rfl

/-- What the body finds: the five blocks it reads, the output block at anything, and scratch, packed
    unless this point packs it. -/
def bodyIn (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
    ∗ (∃ f8, (arg8.view.loc (c : Thread nD τ) ↦[arg8.view.set]{fullShare} f8))
    ∗ ∃ f9 f10 f11, (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ ⌜k0_cond1 i ≠ 1#1 → Filled (arg5.view.read (Elt F) f5) (arg6.view.read (Elt F) f6) (arg9.view.read (Elt F) f9) (arg10.view.read (Elt F) f10) (arg11.view.read (Elt F) f11) 32⌝
      ∗ (∃ f12, (arg12.view.loc (c : Thread nD τ) ↦[arg12.view.set]{fullShare} f12)) ∗ (∃ f13, (arg13.view.loc (c : Thread nD τ) ↦[arg13.view.set]{fullShare} f13)))

/-- What it leaves. -/
def bodyOut (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
    ∗ (∃ f8, (arg8.view.loc (c : Thread nD τ) ↦[arg8.view.set]{fullShare} f8) ∗ ⌜arg8.view.read (Elt F) f8 = outBlk i (arg3.view.read (Elt F) f3 (Rect.point (Rect.unit (s := S1) ![0] S1.size inb_S1_S1_0) numel1_S1))
        (arg4.view.read (Elt F) f4) (K1 (arg5.view.read (Elt F) f5)) (K2 (arg5.view.read (Elt F) f5)) (VT (arg6.view.read (Elt F) f6)) (arg7.view.read (Elt F) f7)⌝)
    ∗ ∃ f9 f10 f11, (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ ⌜Filled (arg5.view.read (Elt F) f5) (arg6.view.read (Elt F) f6) (arg9.view.read (Elt F) f9) (arg10.view.read (Elt F) f10) (arg11.view.read (Elt F) f11) 32⌝
      ∗ (∃ f12, (arg12.view.loc (c : Thread nD τ) ↦[arg12.view.set]{fullShare} f12)) ∗ (∃ f13, (arg13.view.loc (c : Thread nD τ) ↦[arg13.view.set]{fullShare} f13)))

/-- The first part of the body: scratch packed, the accumulators cleared, the queries read. -/
def part3Out (f4 : BufTy.Contents (Elt F) arg4.view.ty) (f5 : BufTy.Contents (Elt F) arg5.view.ty) (f6 : BufTy.Contents (Elt F) arg6.view.ty)
    (r : Σ' (arg2 : BitVec 32) (v4 : F .f32) (v18 : FVec F S256x128 .bf16) (v20 : FVec F S256x128 .bf16) (v29 : FVec F S1x256 .f32) (v30 : FVec F S1x256 .f32), BitVec 32) : sProp 𝕄 :=
  iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
    ∗ ∃ f9 f10 f11 f12 f13, (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ ⌜Filled (arg5.view.read (Elt F) f5) (arg6.view.read (Elt F) f6) (arg9.view.read (Elt F) f9) (arg10.view.read (Elt F) f10) (arg11.view.read (Elt F) f11) 32
        ∧ arg12.view.read (Elt F) f12 = k0_pay30 ∧ arg13.view.read (Elt F) f13 = k0_pay31
        ∧ r = ⟨(BitVec.ofNat 32 (i 2).val), k0_pay20 i, k0_pay28 i (arg4.view.read (Elt F) f4), k0_pay29 i (arg4.view.read (Elt F) f4), k0_pay32, k0_pay33, Scalar.muli (BitVec.ofNat 32 (i 2).val) 256#32⟩⌝)

theorem query_load (a : Memref sig .tc .vmem S1x256x128 .bf16) (f : BufTy.Contents (Elt F) a.view.ty)
    (inb : ∀ x, (![0, 0, 0] : Fin 3 → Nat) x + S1x256x128.size x ≤ S1x256x128.size x) :
    a.view.readAt (Elt F) (Rect.unit (s := S1x256x128) ![0, 0, 0] S1x256x128.size inb).toLoadRect f = a.view.read (Elt F) f := by
  funext y
  refine congrArg (a.view.read (Elt F) f) (funext fun x => Fin.ext ?_)
  show (![0, 0, 0] : Fin 3 → Nat) x + 1 * (y x).val = (y x).val
  fin_cases x
  · show 0 + 1 * (y 0).val = (y 0).val; omega
  · show 0 + 1 * (y 1).val = (y 1).val; omega
  · show 0 + 1 * (y 2).val = (y 2).val; omega

set_option maxHeartbeats 1600000 in
theorem part3_first (h1 : k0_cond1 i = 1#1) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (E : Set ℕ) :
    iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := F)) 𝒱 (c : Thread nD τ) bd) E
      (k0_part3 (F := F) i arg3 harg3 arg4 harg4 arg5 harg5 arg6 harg6 arg7 harg7 arg8 harg8 arg9 harg9 arg10 harg10 arg11 harg11 arg12 harg12 arg13 harg13) (part3Out c i arg4 arg5 arg6 arg9 arg10 arg11 arg12 arg13 f4 f5 f6) := by
  unfold part3Out
  iintro ⟨H4, H5, H6, H9, H10, H11, H12, H13⟩
  sl_unfold [k0_part3]
  sl_exec (disch := sl_exact h1)
  sl_for (packInv c arg5 arg6 arg9 arg10 arg11 f5 f6) $$ [H5 H6 H9 H10 H11]
  · intro k u
    exact pack_step 𝒱 c bd i arg3 harg3 arg4 harg4 arg5 harg5 arg6 harg6 arg7 harg7 arg8 harg8 arg9 harg9 arg10 harg10 arg11 harg11 arg12 harg12 arg13 harg13 h1 f5 f6 E k u
  · unfold packInv
    isplitl [H5]; · iexact H5
    isplitl [H6]; · iexact H6
    iexists _, _, _
    isplitl [H9]; · iexact H9
    isplitl [H10]; · iexact H10
    isplitl [H11]; · iexact H11
    ipureintro
    exact ⟨fun n hn => absurd hn (Nat.not_lt_zero _), fun n hn => absurd hn (Nat.not_lt_zero _), fun n hn => absurd hn (Nat.not_lt_zero _)⟩
  unfold packInv
  iintro %_ ⟨H5, H6, ⟨%g9, %g10, %g11, H9, H10, H11, %hfill1⟩⟩
  have hfill : Filled (arg5.view.read (Elt F) f5) (arg6.view.read (Elt F) f6) (arg9.view.read (Elt F) g9) (arg10.view.read (Elt F) g10) (arg11.view.read (Elt F) g11) 32 := by
    rw [← trips1]; exact hfill1
  sl_exec
  sl_step
  isplitl [H4]; · iexact H4
  isplitl [H5]; · iexact H5
  isplitl [H6]; · iexact H6
  iexists _, _, _, _, _
  isplitl [H9]; · iexact H9
  isplitl [H10]; · iexact H10
  isplitl [H11]; · iexact H11
  isplitl [H12]; · iexact H12
  isplitl [H13]; · iexact H13
  ipureintro
  have e4 := query_load arg4 f4 inb_S1x256x128_S1x256x128_0_0_0
  refine ⟨hfill, acc_store .., acc_store .., ?_⟩
  rw [← e4]; rfl

set_option maxHeartbeats 1600000 in
theorem part3_rest (h1 : ¬ k0_cond1 i = 1#1) (f4 : BufTy.Contents (Elt F) arg4.view.ty) (f5 : BufTy.Contents (Elt F) arg5.view.ty) (f6 : BufTy.Contents (Elt F) arg6.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (E : Set ℕ)
    (hfill : Filled (arg5.view.read (Elt F) f5) (arg6.view.read (Elt F) f6) (arg9.view.read (Elt F) f9) (arg10.view.read (Elt F) f10) (arg11.view.read (Elt F) f11) 32) :
    iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := F)) 𝒱 (c : Thread nD τ) bd) E
      (k0_part3 (F := F) i arg3 harg3 arg4 harg4 arg5 harg5 arg6 harg6 arg7 harg7 arg8 harg8 arg9 harg9 arg10 harg10 arg11 harg11 arg12 harg12 arg13 harg13) (part3Out c i arg4 arg5 arg6 arg9 arg10 arg11 arg12 arg13 f4 f5 f6) := by
  unfold part3Out
  iintro ⟨H4, H5, H6, H9, H10, H11, H12, H13⟩
  sl_unfold [k0_part3]
  sl_exec (disch := sl_exact h1)
  sl_step
  isplitl [H4]; · iexact H4
  isplitl [H5]; · iexact H5
  isplitl [H6]; · iexact H6
  iexists _, _, _, _, _
  isplitl [H9]; · iexact H9
  isplitl [H10]; · iexact H10
  isplitl [H11]; · iexact H11
  isplitl [H12]; · iexact H12
  isplitl [H13]; · iexact H13
  ipureintro
  have e4 := query_load arg4 f4 inb_S1x256x128_S1x256x128_0_0_0
  refine ⟨hfill, acc_store .., acc_store .., ?_⟩
  rw [← e4]; rfl

/-- The second part: the diagonal tile. -/
def part4Out (qb : Vec F S1x256x128 .bf16) (kb vb : Vec F S1x8192x128 .bf16) (f9 : BufTy.Contents (Elt F) arg9.view.ty) (f10 : BufTy.Contents (Elt F) arg10.view.ty) (f11 : BufTy.Contents (Elt F) arg11.view.ty)
    (r : Σ' (v34 : Vec F S128x256 .bf16) (v38 : F .f32) (v51 : FVec F S256x256 .f32) (v56 : FVec F S1x256 .f32) (v67 : FVec F S1x256 .f32), FVec F S256 .f32) : sProp 𝕄 :=
  iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ ∃ f12, (arg12.view.loc (c : Thread nD τ) ↦[arg12.view.set]{fullShare} f12)
      ∗ ⌜arg12.view.read (Elt F) f12 = (stAt i qb (K1 kb) (K2 kb) (VT vb) 0).a1
        ∧ r = ⟨VT vb (i 2), k0_pay34 (BitVec.ofNat 32 (i 2).val) (k0_pay20 i), k0_pay37 (k0_pay29 i qb) (K2 kb (i 2)), (stAt i qb (K1 kb) (K2 kb) (VT vb) 0).m1,
            (stAt i qb (K1 kb) (K2 kb) (VT vb) 0).l1, k0_pay43 (k0_pay29 i qb) (K2 kb (i 2))⟩⌝)

set_option maxHeartbeats 1600000 in
theorem part4_run (qb : Vec F S1x256x128 .bf16) (kb vb : Vec F S1x8192x128 .bf16) (f9 : BufTy.Contents (Elt F) arg9.view.ty) (f10 : BufTy.Contents (Elt F) arg10.view.ty) (f11 : BufTy.Contents (Elt F) arg11.view.ty) (f12 : BufTy.Contents (Elt F) arg12.view.ty) (E : Set ℕ)
    (hfill : Filled kb vb (arg9.view.read (Elt F) f9) (arg10.view.read (Elt F) f10) (arg11.view.read (Elt F) f11) 32)
    (h12 : arg12.view.read (Elt F) f12 = k0_pay30) (v32 : BitVec 32) :
    iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) ⊢ wp frame (wpE (defs₀ (F := F)) 𝒱 (c : Thread nD τ) bd) E
      (k0_part4 (F := F) i arg3 harg3 arg4 harg4 arg5 harg5 arg6 harg6 arg7 harg7 arg8 harg8 arg9 harg9 arg10 harg10 arg11 harg11 arg12 harg12 arg13 harg13 (BitVec.ofNat 32 (i 2).val) (k0_pay20 i) (k0_pay28 i qb) (k0_pay29 i qb) k0_pay32 k0_pay33 v32)
      (part4Out c i arg9 arg10 arg11 arg12 qb kb vb f9 f10 f11) := by
  unfold part4Out
  iintro ⟨H9, H10, H11, H12⟩
  sl_unfold [k0_part4]
  sl_exec
  sl_step
  isplitl [H9]; · iexact H9
  isplitl [H10]; · iexact H10
  isplitl [H11]; · iexact H11
  iexists _
  isplitl [H12]; · iexact H12
  ipureintro
  have e9 := (keyTile_load arg9 f9 (k0_off5 i) (k0_off5_inb i) (i 2) (off5_eq i)).trans (hfill.k1 _ (i 2).isLt)
  have e10 := (keyTile_load arg10 f10 (k0_off5 i) (k0_off5_inb i) (i 2) (off5_eq i)).trans (hfill.k2 _ (i 2).isLt)
  have e11 := (valTile_load arg11 f11 (k0_off4 i) (k0_off4_inb i) (i 2) (off4_eq i)).trans (hfill.vt _ (i 2).isLt)
  have e12 := (acc_load arg12 f12 inb_S128x256_S128x256_0_0).trans h12
  simp only [stAt, firstSt]
  unfold K1 K2 VT at *
  refine ⟨?_, ?_⟩
  · rw [acc_store, ← e9, ← e11, ← e12]
  · rw [← e9, ← e10, ← e11]

/-- The third part: the tiles below the diagonal, and the two normalisations. -/
def part5Out (qb : Vec F S1x256x128 .bf16) (kb vb : Vec F S1x8192x128 .bf16) (f3 : BufTy.Contents (Elt F) arg3.view.ty) (f9 : BufTy.Contents (Elt F) arg9.view.ty) (f10 : BufTy.Contents (Elt F) arg10.view.ty) (f11 : BufTy.Contents (Elt F) arg11.view.ty)
    (r : Σ' (v118 : FVec F S128x256 .f32), FVec F S256 .f32) : sProp 𝕄 :=
  iprop((arg3.view.loc (c : Thread nD τ) ↦[arg3.view.set]{fullShare} f3) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ ∃ f12 f13, (arg12.view.loc (c : Thread nD τ) ↦[arg12.view.set]{fullShare} f12) ∗ (arg13.view.loc (c : Thread nD τ) ↦[arg13.view.set]{fullShare} f13)
      ∗ ⌜r = ⟨k0_pay59 (stAt i qb (K1 kb) (K2 kb) (VT vb) (k0_t2_loop i).trips).l1 (stAt i qb (K1 kb) (K2 kb) (VT vb) (k0_t2_loop i).trips).l2
            (stAt i qb (K1 kb) (K2 kb) (VT vb) (k0_t2_loop i).trips).a1 (arg3.view.read (Elt F) f3 (Rect.point (Rect.unit (s := S1) ![0] S1.size inb_S1_S1_0) numel1_S1))
            (stAt i qb (K1 kb) (K2 kb) (VT vb) (k0_t2_loop i).trips).a2,
          k0_pay60 (stAt i qb (K1 kb) (K2 kb) (VT vb) (k0_t2_loop i).trips).l1 (stAt i qb (K1 kb) (K2 kb) (VT vb) (k0_t2_loop i).trips).l2
            (stAt i qb (K1 kb) (K2 kb) (VT vb) (k0_t2_loop i).trips).a1 (arg3.view.read (Elt F) f3 (Rect.point (Rect.unit (s := S1) ![0] S1.size inb_S1_S1_0) numel1_S1))
            (stAt i qb (K1 kb) (K2 kb) (VT vb) (k0_t2_loop i).trips).a2⟩⌝)

set_option maxHeartbeats 1600000 in
theorem part5_run (qb : Vec F S1x256x128 .bf16) (kb vb : Vec F S1x8192x128 .bf16) (f3 : BufTy.Contents (Elt F) arg3.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (E : Set ℕ)
    (hfill : Filled kb vb (arg9.view.read (Elt F) f9) (arg10.view.read (Elt F) f10) (arg11.view.read (Elt F) f11) 32)
    (h12 : arg12.view.read (Elt F) f12 = (stAt i qb (K1 kb) (K2 kb) (VT vb) 0).a1) (h13 : arg13.view.read (Elt F) f13 = k0_pay31) :
    iprop((arg3.view.loc (c : Thread nD τ) ↦[arg3.view.set]{fullShare} f3) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := F)) 𝒱 (c : Thread nD τ) bd) E
      (k0_part5 (F := F) i arg3 harg3 arg4 harg4 arg5 harg5 arg6 harg6 arg7 harg7 arg8 harg8 arg9 harg9 arg10 harg10 arg11 harg11 arg12 harg12 arg13 harg13 (BitVec.ofNat 32 (i 2).val) (k0_pay20 i) (k0_pay28 i qb) (k0_pay29 i qb) k0_pay32 k0_pay33
        (VT vb (i 2)) (k0_pay34 (BitVec.ofNat 32 (i 2).val) (k0_pay20 i)) (k0_pay37 (k0_pay29 i qb) (K2 kb (i 2))) (stAt i qb (K1 kb) (K2 kb) (VT vb) 0).m1
            (stAt i qb (K1 kb) (K2 kb) (VT vb) 0).l1 (k0_pay43 (k0_pay29 i qb) (K2 kb (i 2))))
      (part5Out c i arg3 arg9 arg10 arg11 arg12 arg13 qb kb vb f3 f9 f10 f11) := by
  have htr := trips3 i
  unfold part5Out
  iintro ⟨H3, H9, H10, H11, H12, H13⟩
  sl_unfold [k0_part5]
  sl_exec
  sl_for (tileInv c i arg9 arg10 arg11 arg12 arg13 qb kb vb f9 f10 f11) $$ [H9 H10 H11 H12 H13]
  · intro k acc
    exact tile_step 𝒱 c bd i arg3 harg3 arg4 harg4 arg5 harg5 arg6 harg6 arg7 harg7 arg8 harg8 arg9 harg9 arg10 harg10 arg11 harg11 arg12 harg12 arg13 harg13 qb kb vb f9 f10 f11 hfill k0_pay32 k0_pay33 (VT vb (i 2)) (k0_pay34 (BitVec.ofNat 32 (i 2).val) (k0_pay20 i)) (k0_pay37 (k0_pay29 i qb) (K2 kb (i 2))) (stAt i qb (K1 kb) (K2 kb) (VT vb) 0).m1
            (stAt i qb (K1 kb) (K2 kb) (VT vb) 0).l1 (k0_pay43 (k0_pay29 i qb) (K2 kb (i 2))) E k acc
  · unfold tileInv
    isplitl [H9]; · iexact H9
    isplitl [H10]; · iexact H10
    isplitl [H11]; · iexact H11
    iexists _, _
    isplitl [H12]; · iexact H12
    isplitl [H13]; · iexact H13
    ipureintro
    have e13 := (acc_load arg13 f13 inb_S128x256_S128x256_0_0).trans h13
    refine ⟨?_, ?_, ?_⟩
    · rfl
    · exact h12
    · refine (acc_store ..).trans ?_
      exact congrArg (k0_pay48 k0_pay32 (VT vb (i 2)) (k0_pay34 (BitVec.ofNat 32 (i 2).val) (k0_pay20 i)) (k0_pay37 (k0_pay29 i qb) (K2 kb (i 2))) (k0_pay43 (k0_pay29 i qb) (K2 kb (i 2)))) e13
  unfold tileInv
  iintro %acc ⟨H9, H10, H11, ⟨%g12, %g13, H12, H13, %hs⟩⟩
  obtain ⟨arg15, arg16, arg17, arg18⟩ := acc
  obtain ⟨hacc, h12', h13'⟩ := hs
  obtain ⟨rfl, rfl, rfl, rfl⟩ : arg15 = _ ∧ arg16 = _ ∧ arg17 = _ ∧ arg18 = _ := by
    simpa only [Prod.mk.injEq] using hacc
  sl_exec
  sl_step
  isplitl [H3]; · iexact H3
  isplitl [H9]; · iexact H9
  isplitl [H10]; · iexact H10
  isplitl [H11]; · iexact H11
  iexists _, _
  isplitl [H12]; · iexact H12
  isplitl [H13]; · iexact H13
  ipureintro
  have e12 := (acc_load arg12 g12 inb_S128x256_S128x256_0_0).trans h12'
  have e13 := (acc_load arg13 g13 inb_S128x256_S128x256_0_0).trans h13'
  rw [← e12, ← e13]; rfl

set_option maxHeartbeats 1600000 in
/-- The whole body at one grid point. -/
theorem body_run (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (E : Set ℕ) :
    bodyIn c i arg3 arg4 arg5 arg6 arg7 arg8 arg9 arg10 arg11 arg12 arg13 f3 f4 f5 f6 f7 ⊢ wp frame (wpE (defs₀ (F := F)) 𝒱 (c : Thread nD τ) bd) E
      (cc0_diff_attn (F := F) i arg3 harg3 arg4 harg4 arg5 harg5 arg6 harg6 arg7 harg7 arg8 harg8 arg9 harg9 arg10 harg10 arg11 harg11 arg12 harg12 arg13 harg13)
      fun _ => bodyOut c i arg3 arg4 arg5 arg6 arg7 arg8 arg9 arg10 arg11 arg12 arg13 f3 f4 f5 f6 f7 := by
  unfold bodyIn bodyOut
  iintro ⟨H3, H4, H5, H6, H7, ⟨%f8, H8⟩, ⟨%f9, %f10, %f11, H9, H10, H11, %hfill0, ⟨%f12, H12⟩, ⟨%f13, H13⟩⟩⟩
  sl_unfold [cc0_diff_attn]
  have hp3 : iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) ⊢ wp frame (wpE (defs₀ (F := F)) 𝒱 (c : Thread nD τ) bd) E
      (k0_part3 (F := F) i arg3 harg3 arg4 harg4 arg5 harg5 arg6 harg6 arg7 harg7 arg8 harg8 arg9 harg9 arg10 harg10 arg11 harg11 arg12 harg12 arg13 harg13) (part3Out c i arg4 arg5 arg6 arg9 arg10 arg11 arg12 arg13 f4 f5 f6) := by
    by_cases h1 : k0_cond1 i = 1#1
    · exact part3_first 𝒱 c bd i arg3 harg3 arg4 harg4 arg5 harg5 arg6 harg6 arg7 harg7 arg8 harg8 arg9 harg9 arg10 harg10 arg11 harg11 arg12 harg12 arg13 harg13 h1 f4 f5 f6 f9 f10 f11 f12 f13 E
    · exact part3_rest 𝒱 c bd i arg3 harg3 arg4 harg4 arg5 harg5 arg6 harg6 arg7 harg7 arg8 harg8 arg9 harg9 arg10 harg10 arg11 harg11 arg12 harg12 arg13 harg13 h1 f4 f5 f6 f9 f10 f11 f12 f13 E (hfill0 h1)
  iapply (exec_cut frame (wpE (defs₀ (F := F)) 𝒱 (c : Thread nD τ) bd) E hp3) $$ [H4 H5 H6 H9 H10 H11 H12 H13]
  · isplitl [H4]; · iexact H4
    isplitl [H5]; · iexact H5
    isplitl [H6]; · iexact H6
    isplitl [H9]; · iexact H9
    isplitl [H10]; · iexact H10
    isplitl [H11]; · iexact H11
    isplitl [H12]; · iexact H12
    iexact H13
  unfold part3Out
  iintro %r ⟨H4, H5, H6, ⟨%g9, %g10, %g11, %g12, %g13, H9, H10, H11, H12, H13, %hr⟩⟩
  obtain ⟨hfill, h12, h13, rfl⟩ := hr
  iapply (exec_cut frame (wpE (defs₀ (F := F)) 𝒱 (c : Thread nD τ) bd) E
    (part4_run 𝒱 c bd i arg3 harg3 arg4 harg4 arg5 harg5 arg6 harg6 arg7 harg7 arg8 harg8 arg9 harg9 arg10 harg10 arg11 harg11 arg12 harg12 arg13 harg13 (arg4.view.read (Elt F) f4) (arg5.view.read (Elt F) f5) (arg6.view.read (Elt F) f6) g9 g10 g11 g12 E hfill h12 _)) $$ [H9 H10 H11 H12]
  · isplitl [H9]; · iexact H9
    isplitl [H10]; · iexact H10
    isplitl [H11]; · iexact H11
    iexact H12
  unfold part4Out
  iintro %r ⟨H9, H10, H11, ⟨%g12', H12, %hr⟩⟩
  obtain ⟨h12', rfl⟩ := hr
  iapply (exec_cut frame (wpE (defs₀ (F := F)) 𝒱 (c : Thread nD τ) bd) E
    (part5_run 𝒱 c bd i arg3 harg3 arg4 harg4 arg5 harg5 arg6 harg6 arg7 harg7 arg8 harg8 arg9 harg9 arg10 harg10 arg11 harg11 arg12 harg12 arg13 harg13 (arg4.view.read (Elt F) f4) (arg5.view.read (Elt F) f5) (arg6.view.read (Elt F) f6) f3 g9 g10 g11 g12' g13 E hfill h12' h13)) $$ [H3 H9 H10 H11 H12 H13]
  · isplitl [H3]; · iexact H3
    isplitl [H9]; · iexact H9
    isplitl [H10]; · iexact H10
    isplitl [H11]; · iexact H11
    isplitl [H12]; · iexact H12
    iexact H13
  unfold part5Out
  iintro %r ⟨H3, H9, H10, H11, ⟨%k12, %k13, H12, H13, %hr⟩⟩
  obtain rfl := hr
  sl_exec
  sl_step
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    exact (out_store ..).trans (by rw [sub_load]; rfl)
  iexists _, _, _
  isplitl [H9]; · iexact H9
  isplitl [H10]; · iexact H10
  isplitl [H11]; · iexact H11
  isplitr; · ipureintro; exact hfill
  isplitl [H12]
  · iexists _; iexact H12
  iexists _; iexact H13

end Body

end Cert.KernelIdeal.Diff

end
-- ==== Proof.DiffFrame.lean ====
/-
  The launch of the kernel over its grid: what scratch holds between grid points, the body's obligation at
  every point, and the frame claim.
-/
module

public import proofs.«01_k».proof.Proof.DiffBody

@[expose] public section

set_option maxRecDepth 16384

noncomputable section

namespace Cert.KernelIdeal.Diff

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The five scratch buffers -/

abbrev scK1 : Memref sig .tc .vmem S8192x128 .bf16 := Memref.whole cc0_scratch0
abbrev scK2 : Memref sig .tc .vmem S8192x128 .bf16 := Memref.whole cc0_scratch1
abbrev scVT : Memref sig .tc .vmem S128x8192 .bf16 := Memref.whole cc0_scratch2
abbrev scA1 : Memref sig .tc .vmem S128x256 .f32 := Memref.whole cc0_scratch3
abbrev scA2 : Memref sig .tc .vmem S128x256 .f32 := Memref.whole cc0_scratch4

theorem pt_scK1 (c : Dev nD) (f : Buf (Elt F) ((c : Thread nD τ).loc cc0_scratch0)) :
    ((((c : Thread nD τ).loc cc0_scratch0) ↦{fullShare} f : sProp 𝕄)) = (scK1.view.loc (c : Thread nD τ) ↦[scK1.view.set]{fullShare} f) := by
  rw [show scK1.view.set = Finset.univ from View.set_whole _]
theorem pt_scK2 (c : Dev nD) (f : Buf (Elt F) ((c : Thread nD τ).loc cc0_scratch1)) :
    ((((c : Thread nD τ).loc cc0_scratch1) ↦{fullShare} f : sProp 𝕄)) = (scK2.view.loc (c : Thread nD τ) ↦[scK2.view.set]{fullShare} f) := by
  rw [show scK2.view.set = Finset.univ from View.set_whole _]
theorem pt_scVT (c : Dev nD) (f : Buf (Elt F) ((c : Thread nD τ).loc cc0_scratch2)) :
    ((((c : Thread nD τ).loc cc0_scratch2) ↦{fullShare} f : sProp 𝕄)) = (scVT.view.loc (c : Thread nD τ) ↦[scVT.view.set]{fullShare} f) := by
  rw [show scVT.view.set = Finset.univ from View.set_whole _]
theorem pt_scA1 (c : Dev nD) (f : Buf (Elt F) ((c : Thread nD τ).loc cc0_scratch3)) :
    ((((c : Thread nD τ).loc cc0_scratch3) ↦{fullShare} f : sProp 𝕄)) = (scA1.view.loc (c : Thread nD τ) ↦[scA1.view.set]{fullShare} f) := by
  rw [show scA1.view.set = Finset.univ from View.set_whole _]
theorem pt_scA2 (c : Dev nD) (f : Buf (Elt F) ((c : Thread nD τ).loc cc0_scratch4)) :
    ((((c : Thread nD τ).loc cc0_scratch4) ↦{fullShare} f : sProp 𝕄)) = (scA2.view.loc (c : Thread nD τ) ↦[scA2.view.set]{fullShare} f) := by
  rw [show scA2.view.set = Finset.univ from View.set_whole _]

/-- Before point `n`: the scratch buffers, the packed keys and values those of the head the point is in
    (no fact is needed where a head begins). -/
def tracked (c : Dev nD) (n : Nat) : sProp 𝕄 :=
  iprop((∃ f9 f10 f11, (scK1.view.loc (c : Thread nD τ) ↦[scK1.view.set]{fullShare} f9) ∗ (scK2.view.loc (c : Thread nD τ) ↦[scK2.view.set]{fullShare} f10)
      ∗ (scVT.view.loc (c : Thread nD τ) ↦[scVT.view.set]{fullShare} f11)
      ∗ ⌜∀ t : Fin cfg0.N, t.val = n → t.val % 32 ≠ 0 →
          Filled (iblk m c 2 t) (iblk m c 3 t) (scK1.view.read (Elt F) f9) (scK2.view.read (Elt F) f10) (scVT.view.read (Elt F) f11) 32⌝)
    ∗ (∃ f12, (scA1.view.loc (c : Thread nD τ) ↦[scA1.view.set]{fullShare} f12)) ∗ (∃ f13, (scA2.view.loc (c : Thread nD τ) ↦[scA2.view.set]{fullShare} f13))
    ∗ ∃ r, prngReg c r)

/-- The block written at a point. -/
def outAt (c : Dev nD) (t : Fin cfg0.N) : Vec F S1x256x128 .f32 :=
  outBlk (grid0.coords t) ((iblk m c 0 t : Vec F S1 .f32) (Rect.point (Rect.unit (s := S1) ![0] S1.size inb_S1_S1_0) numel1_S1))
    (iblk m c 1 t) (K1 (iblk m c 2 t)) (K2 (iblk m c 2 t)) (VT (iblk m c 3 t)) (iblk m c 4 t)

/-- The proof data of the launch. -/
def dats : (p : Fin 1) → (c : Dev nD) → Dat τ (Elt F) Unit ℕ (UR sig nD τ) ℕ (cfgs p) c
  | 0, c =>
    { A := fun w => V m c (Pipeline.arrRef spec0 w)
      after := fun w t => match w with
        | 0 => iblk m c 0 t
        | 1 => iblk m c 1 t
        | 2 => iblk m c 2 t
        | 3 => iblk m c 3 t
        | 4 => iblk m c 4 t
        | 5 => outAt m c t
      Φ := fun n => tracked m c n.val
      q := fun w => Pipeline.shareOf spec0 w
      owed := fun _ => 0 }

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-! ## Points of one head -/

theorem first_of_head : ∀ t : Fin grid0.N, t.val % 32 = 0 → k0_cond1 (grid0.coords t) = 1#1 := by decide +kernel

theorem keys_same (c : Dev nD) (t t' : Fin cfg0.N) (h : t'.val = t.val + 1) (hn : t'.val % 32 ≠ 0) : iblk m c 2 t' = iblk m c 2 t := by
  have hf : (cfg0.win 2).fetch t' = false := by
    rw [← Bool.not_eq_true]; exact fun e => hn ((fetch0_2 t').mp e)
  obtain ⟨ht, hix⟩ := (cfg0.win 2).index_eq_of_fetch rfl t' hf
  have e : (⟨t'.val - 1, Nat.lt_of_le_of_lt (Nat.sub_le _ _) t'.isLt⟩ : Fin cfg0.N) = t := Fin.ext (by show t'.val - 1 = t.val; omega)
  have := (dats m 0 c).fetched_congr 2 hix.symm rfl (iblk m c 2 t)
  rw [e] at this
  exact this.symm

theorem vals_same (c : Dev nD) (t t' : Fin cfg0.N) (h : t'.val = t.val + 1) (hn : t'.val % 32 ≠ 0) : iblk m c 3 t' = iblk m c 3 t := by
  have hf : (cfg0.win 3).fetch t' = false := by
    rw [← Bool.not_eq_true]; exact fun e => hn ((fetch0_3 t').mp e)
  obtain ⟨ht, hix⟩ := (cfg0.win 3).index_eq_of_fetch rfl t' hf
  have e : (⟨t'.val - 1, Nat.lt_of_le_of_lt (Nat.sub_le _ _) t'.isLt⟩ : Fin cfg0.N) = t := Fin.ext (by show t'.val - 1 = t.val; omega)
  have := (dats m 0 c).fetched_congr 3 hix.symm rfl (iblk m c 3 t)
  rw [e] at this
  exact this.symm

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t))

set_option maxHeartbeats 1600000 in
theorem sound_body (c : Dev nD) (t : Fin cfg0.N) :
    bodyPre m c t ⊢ wp frame (wpE (defs₀ (F := F)) Variants.none (c : Thread nD τ) none) Set.univ (bodyAt0 t) fun _ => bodyPost m c t := by
  unfold bodyPre bodyPost
  simp only [before0_0, before0_1, before0_2, before0_3, before0_4]
  rw [show (dats m 0 c).owesAt () t.succ = (dats m 0 c).owesAt () t.castSucc from rfl,
    show (dats m 0 c).Φ t.castSucc = tracked m c t.val from rfl, show (dats m 0 c).Φ t.succ = tracked m c (t.val + 1) from rfl,
    after0_0, after0_1, after0_2, after0_3, after0_4, after0_5]
  unfold tracked owns
  iintro ⟨⟨⟨%f9, %f10, %f11, H9, H10, H11, %hfill⟩, H12, H13, Hp⟩, Ho, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  have hr := body_run (F := F) Variants.none c none (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) scK1 (Memref.isWhole_whole _) scK2 (Memref.isWhole_whole _) scVT (Memref.isWhole_whole _)
    scA1 (Memref.isWhole_whole _) scA2 (Memref.isWhole_whole _) f3 f4 f5 f6 f7 Set.univ
  iapply (hr.trans (wp_wand frame (wpE (defs₀ (F := F)) Variants.none (c : Thread nD τ) none) Set.univ)) $$ [H3 H4 H5 H6 H7 H8 H9 H10 H11 H12 H13]
  · unfold bodyIn
    isplitl [H3]; · iexact H3
    isplitl [H4]; · iexact H4
    isplitl [H5]; · iexact H5
    isplitl [H6]; · iexact H6
    isplitl [H7]; · iexact H7
    isplitl [H8]; · iexists _; iexact H8
    iexists _, _, _
    isplitl [H9]; · iexact H9
    isplitl [H10]; · iexact H10
    isplitl [H11]; · iexact H11
    isplitr
    · ipureintro
      intro hne
      rw [e5, e6]
      exact hfill t rfl fun h0 => hne (first_of_head t h0)
    isplitl [H12]; · iexact H12
    iexact H13
  unfold bodyOut
  iintro %u ⟨H3, H4, H5, H6, H7, ⟨%g8, H8, %e8'⟩, ⟨%g9, %g10, %g11, H9, H10, H11, %hfill', H12, H13⟩⟩
  rw [e5, e6] at hfill'
  isplitl [H9 H10 H11 H12 H13 Hp]
  · isplitl [H9 H10 H11]
    · iexists _, _, _
      isplitl [H9]; · iexact H9
      isplitl [H10]; · iexact H10
      isplitl [H11]; · iexact H11
      ipureintro
      intro t' h1 h2
      rw [keys_same m c t t' h1 h2, vals_same m c t t' h1 h2]
      exact hfill'
    isplitl [H12]; · iexact H12
    isplitl [H13]; · iexact H13
    iexact Hp
  isplitl [Ho]; · iexact Ho
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  iexists _; isplitr
  · ipureintro
    refine e8'.trans ?_
    rw [e3, e4, e5, e6, e7]; rfl
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem scratch_in (c : Dev nD) : Pipeline.ΦA spec0 c ⊢ tracked (F := F) m c 0 := by
  unfold Pipeline.ΦA tracked
  rw [scopedRest0_eq]
  simp only [pt_scK1, pt_scK2, pt_scVT, pt_scA1, pt_scA2]
  iintro ⟨⟨⟨%f0, H0⟩, ⟨%f1, H1⟩, ⟨%f2, H2⟩, ⟨%f3, H3⟩, ⟨%f4, H4⟩⟩, Hp⟩
  isplitl [H0 H1 H2]
  · iexists _, _, _
    isplitl [H0]; · iexact H0
    isplitl [H1]; · iexact H1
    isplitl [H2]; · iexact H2
    ipureintro
    intro t ht hne
    exact absurd (by rw [ht]) hne
  isplitl [H3]; · iexists _; iexact H3
  isplitl [H4]; · iexists _; iexact H4
  iexact Hp

theorem scratch_out (c : Dev nD) (n : Nat) : tracked (F := F) m c n ⊢ Pipeline.ΦA spec0 c := by
  unfold Pipeline.ΦA tracked
  rw [scopedRest0_eq]
  simp only [pt_scK1, pt_scK2, pt_scVT, pt_scA1, pt_scA2]
  iintro ⟨⟨%f0, %f1, %f2, H0, H1, H2, -⟩, ⟨%f3, H3⟩, ⟨%f4, H4⟩, Hp⟩
  isplitr [Hp]
  · isplitl [H0]; · iexists _; iexact H0
    isplitl [H1]; · iexists _; iexact H1
    isplitl [H2]; · iexists _; iexact H2
    isplitl [H3]; · iexists _; iexact H3
    iexists _; iexact H4
  iexact Hp

set_option backward.isDefEq.respectTransparency.types false in
set_option maxHeartbeats 1600000 in
/-- The program runs, leaves every array as the launch's proof data says, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hin := fun c => scratch_in m c) (hout := fun c => scratch_out m c _)
    (Q' := fun r => Pipeline.FramePost cfgs (dats m) 0 (V m) r ∧ r.2.sem = fun _ => 0) (hQ' := fun _ h => h)

/-- The arguments are unchanged wherever the launch's post holds. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine ⟨?_, ?_, ?_⟩
  · exact ((h c).1 1).trans (((dats m 0 c).arrAt_in 1 rfl _).trans ((A_eq m c 1).trans (V_main_arg0 m c)))
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)

end Cert.KernelIdeal.Diff

end
-- ==== Proof.Soft.lean ====
/-
  The softmax of a row of real scores, taken tile by tile with a running maximum or at once, in
  exact arithmetic.
-/
module

public import Idealize.ShloMosaic.Lib.Pointwise

@[expose] public section

noncomputable section

namespace Cert.Soft

open Idealize.ShloMosaic

/-! ## One column of a step -/

/-- The new running maximum of a column. -/
def mNew (m σ : EReal) (t : Fin 256 → EReal) : EReal := max m (Finset.univ.fold max ⊥ t + σ)
/-- The exponentials of a column's scores against the new maximum. -/
def pNew (m σ : EReal) (t : Fin 256 → EReal) (j : Fin 256) : EReal := Ideal.exp (t j - (mNew m σ t - σ))
/-- The new running sum. -/
def lNew (m l σ : EReal) (t : Fin 256 → EReal) : EReal := Ideal.exp (m - mNew m σ t) * l + ∑ j, pNew m σ t j
/-- The new weighted sum of one value channel. -/
def aNew (m a σ : EReal) (t v : Fin 256 → EReal) : EReal := Ideal.exp (m - mNew m σ t) * a + ∑ j, v j * pNew m σ t j

/-! ## Sums and maxima of reals -/

theorem coe_sum {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem fold_max_le {ι : Type} (s : Finset ι) (t : ι → EReal) (j : ι) (hj : j ∈ s) : t j ≤ s.fold max ⊥ t :=
  Finset.le_fold_max (t j) |>.mpr (.inr ⟨j, hj, le_refl _⟩)

theorem fold_max_lt_top {ι : Type} (s : Finset ι) (t : ι → EReal) (h : ∀ j ∈ s, t j < ⊤) : s.fold max ⊥ t < ⊤ :=
  Finset.fold_max_lt ⊤ |>.mpr ⟨bot_lt_top, h⟩

/-- A row some of whose entries are masked, at least one not. -/
def masked {n : Nat} (p : Fin n → Prop) [DecidablePred p] (τ : Fin n → ℝ) (j : Fin n) : EReal := if p j then (τ j : EReal) else ⊥

theorem fold_masked {n : Nat} (p : Fin n → Prop) [DecidablePred p] (τ : Fin n → ℝ) (j : Fin n) (hj : p j) :
    ∃ ρ : ℝ, Finset.univ.fold max ⊥ (masked p τ) = (ρ : EReal) := by
  have h1 : Finset.univ.fold max ⊥ (masked p τ) < ⊤ := fold_max_lt_top _ _ fun x _ => by
    unfold masked; split
    · exact EReal.coe_lt_top _
    · exact bot_lt_top
  have h2 : (τ j : EReal) ≤ Finset.univ.fold max ⊥ (masked p τ) := by
    have := fold_max_le Finset.univ (masked p τ) j (Finset.mem_univ _)
    rwa [masked, if_pos hj] at this
  refine ⟨(Finset.univ.fold max ⊥ (masked p τ)).toReal, (EReal.coe_toReal h1.ne ?_).symm⟩
  intro h; rw [h] at h2; exact (EReal.bot_lt_coe _).not_ge h2

theorem exp_masked {n : Nat} (p : Fin n → Prop) [DecidablePred p] (τ : Fin n → ℝ) (c : ℝ) (j : Fin n) :
    Ideal.exp (masked p τ j - (c : EReal)) = ((if p j then Real.exp (τ j - c) else 0 : ℝ) : EReal) := by
  unfold masked
  split
  · rw [← EReal.coe_sub, Ideal.exp_coe]
  · rw [EReal.bot_sub, Ideal.exp_bot, EReal.coe_zero]

/-! ## The state of a column -/

/-- The running maximum is some real `μ`; the sums are those of the exponentials, `Z` and `W`, times `exp (-μ)`. -/
def Inv {E : Type} (m l : EReal) (a : E → EReal) (Z : ℝ) (W : E → ℝ) : Prop :=
  ∃ μ : ℝ, m = (μ : EReal) ∧ l = ((Real.exp (-μ) * Z : ℝ) : EReal) ∧ ∀ e, a e = ((Real.exp (-μ) * W e : ℝ) : EReal)

theorem sum_scaled (p : Fin 256 → Prop) [DecidablePred p] (τ : Fin 256 → ℝ) (c σ : ℝ) (v : Fin 256 → ℝ) :
    (∑ j, v j * (if p j then Real.exp (τ j - (c - σ)) else 0)) = Real.exp (-c) * ∑ j, (if p j then v j * Real.exp (τ j + σ) else 0) := by
  rw [Finset.mul_sum]
  refine Finset.sum_congr rfl fun j _ => ?_
  split
  · rw [show τ j - (c - σ) = -c + (τ j + σ) by ring, Real.exp_add]; ring
  · simp

theorem pNew_masked (p : Fin 256 → Prop) [DecidablePred p] (m : EReal) (τ : Fin 256 → ℝ) (c σ : ℝ) (h : mNew m (σ : EReal) (masked p τ) = (c : EReal)) (j : Fin 256) :
    pNew m (σ : EReal) (masked p τ) j = ((if p j then Real.exp (τ j - (c - σ)) else 0 : ℝ) : EReal) := by
  rw [pNew, h, ← EReal.coe_sub, exp_masked]

theorem sum_pNew (p : Fin 256 → Prop) [DecidablePred p] (m : EReal) (τ : Fin 256 → ℝ) (c σ : ℝ) (h : mNew m (σ : EReal) (masked p τ) = (c : EReal)) :
    (∑ j, pNew m (σ : EReal) (masked p τ) j) = ((Real.exp (-c) * ∑ j, (if p j then Real.exp (τ j + σ) else 0) : ℝ) : EReal) := by
  have := sum_scaled p τ c σ (fun _ => 1)
  simp only [one_mul] at this
  rw [← this, ← coe_sum]
  exact Finset.sum_congr rfl fun j _ => pNew_masked p m τ c σ h j

theorem sum_v_pNew (p : Fin 256 → Prop) [DecidablePred p] (m : EReal) (τ : Fin 256 → ℝ) (c σ : ℝ) (h : mNew m (σ : EReal) (masked p τ) = (c : EReal)) (v : Fin 256 → ℝ) :
    (∑ j, (v j : EReal) * pNew m (σ : EReal) (masked p τ) j) = ((Real.exp (-c) * ∑ j, (if p j then v j * Real.exp (τ j + σ) else 0) : ℝ) : EReal) := by
  rw [← sum_scaled p τ c σ v, ← coe_sum]
  refine Finset.sum_congr rfl fun j _ => ?_
  rw [pNew_masked p m τ c σ h j, ← EReal.coe_mul]

/-- The first tile. -/
theorem inv_first {E : Type} (p : Fin 256 → Prop) [DecidablePred p] (τ : Fin 256 → ℝ) (j0 : Fin 256) (h0 : p j0) (σ : ℝ) (v : E → Fin 256 → ℝ) :
    Inv (mNew ⊥ (σ : EReal) (masked p τ)) (lNew ⊥ 0 (σ : EReal) (masked p τ)) (fun e => aNew ⊥ 0 (σ : EReal) (masked p τ) (fun j => (v e j : EReal)))
      (∑ j, (if p j then Real.exp (τ j + σ) else 0)) (fun e => ∑ j, (if p j then v e j * Real.exp (τ j + σ) else 0)) := by
  obtain ⟨ρ, hρ⟩ := fold_masked p τ j0 h0
  have hm : mNew ⊥ (σ : EReal) (masked p τ) = ((ρ + σ : ℝ) : EReal) := by
    rw [mNew, hρ, ← EReal.coe_add]; exact max_eq_right bot_le
  refine ⟨ρ + σ, hm, ?_, fun e => ?_⟩
  · rw [lNew, mul_zero, zero_add, sum_pNew p ⊥ τ _ σ hm]
  · dsimp only
    rw [aNew, mul_zero, zero_add, sum_v_pNew p ⊥ τ _ σ hm]

/-- A further tile. -/
theorem inv_next {E : Type} (p : Fin 256 → Prop) [DecidablePred p] (τ : Fin 256 → ℝ) (j0 : Fin 256) (h0 : p j0) (σ : ℝ) (v : E → Fin 256 → ℝ)
    (m l : EReal) (a : E → EReal) (Z : ℝ) (W : E → ℝ) (hI : Inv m l a Z W) :
    Inv (mNew m (σ : EReal) (masked p τ)) (lNew m l (σ : EReal) (masked p τ)) (fun e => aNew m (a e) (σ : EReal) (masked p τ) (fun j => (v e j : EReal)))
      (Z + ∑ j, (if p j then Real.exp (τ j + σ) else 0)) (fun e => W e + ∑ j, (if p j then v e j * Real.exp (τ j + σ) else 0)) := by
  obtain ⟨μ, rfl, rfl, ha⟩ := hI
  obtain ⟨ρ, hρ⟩ := fold_masked p τ j0 h0
  have hm : mNew (μ : EReal) (σ : EReal) (masked p τ) = ((max μ (ρ + σ) : ℝ) : EReal) := by
    rw [mNew, hρ, ← EReal.coe_add]; exact (EReal.coe_strictMono.monotone.map_max).symm
  have hr : ∀ x : ℝ, Real.exp (μ - max μ (ρ + σ)) * (Real.exp (-μ) * x) = Real.exp (-(max μ (ρ + σ))) * x := fun x => by
    rw [← mul_assoc, ← Real.exp_add]; congr 2; ring
  refine ⟨max μ (ρ + σ), hm, ?_, fun e => ?_⟩
  · rw [lNew, sum_pNew p _ τ _ σ hm, hm, ← EReal.coe_sub, Ideal.exp_coe, ← EReal.coe_mul, ← EReal.coe_add, hr, ← mul_add]
  · dsimp only
    rw [aNew, sum_v_pNew p _ τ _ σ hm, hm, ha e, ← EReal.coe_sub, Ideal.exp_coe, ← EReal.coe_mul, ← EReal.coe_add, hr, ← mul_add]

theorem div_real (x y : ℝ) (h : y ≠ 0) : Ideal.div (x : EReal) (y : EReal) = ((x / y : ℝ) : EReal) := by
  rw [Ideal.div_coe h, ← EReal.coe_mul]; congr 1; ring

/-- The quotient of the two sums. -/
theorem inv_quot {E : Type} (m l : EReal) (a : E → EReal) (Z : ℝ) (W : E → ℝ) (hI : Inv m l a Z W) (hZ : Z ≠ 0) (e : E) :
    Ideal.div (a e) l = ((W e / Z : ℝ) : EReal) := by
  obtain ⟨μ, rfl, rfl, ha⟩ := hI
  rw [ha e, div_real _ _ (mul_ne_zero (Real.exp_ne_zero _) hZ), mul_div_mul_left _ _ (Real.exp_ne_zero _)]

/-! ## The softmax of a masked row at once -/

theorem row_softmax {n : Nat} (p : Fin n → Prop) [DecidablePred p] (τ : Fin n → ℝ) (j0 : Fin n) (h0 : p j0) (M : EReal)
    (hM : M = max ⊥ (Finset.univ.fold max ⊥ (masked p τ))) (k : Fin n) :
    Ideal.div (Ideal.exp (masked p τ k - M)) (∑ x, Ideal.exp (masked p τ x - M))
      = (((if p k then Real.exp (τ k) else 0) / ∑ x, (if p x then Real.exp (τ x) else 0) : ℝ) : EReal) := by
  obtain ⟨ρ, hρ⟩ := fold_masked p τ j0 h0
  rw [hρ, max_eq_right bot_le] at hM
  subst hM
  have e : ∀ x, (if p x then Real.exp (τ x - ρ) else 0) = Real.exp (-ρ) * (if p x then Real.exp (τ x) else 0) := fun x => by
    split
    · rw [← Real.exp_add]; congr 1; ring
    · simp
  have hs : (∑ x, Ideal.exp (masked p τ x - (ρ : EReal))) = ((Real.exp (-ρ) * ∑ x, (if p x then Real.exp (τ x) else 0) : ℝ) : EReal) := by
    rw [Finset.mul_sum, ← coe_sum]
    exact Finset.sum_congr rfl fun x _ => by rw [exp_masked, e]
  have hpos : 0 < ∑ x, (if p x then Real.exp (τ x) else 0) :=
    Finset.sum_pos' (fun x _ => by split <;> [exact (Real.exp_pos _).le; exact le_refl _]) ⟨j0, Finset.mem_univ _, by rw [if_pos h0]; exact Real.exp_pos _⟩
  rw [hs, exp_masked, e, div_real _ _ (mul_ne_zero (Real.exp_ne_zero _) hpos.ne'), mul_div_mul_left _ _ (Real.exp_ne_zero _)]

/-- A sum over the positions of a row up to `q`, as a sum over a range. -/
theorem sum_upto {n : Nat} (q : Fin n) (f : Nat → ℝ) :
    (∑ x : Fin n, (if x ≤ q then f x.val else 0)) = ∑ x ∈ Finset.range (q.val + 1), f x := by
  have h1 : (∑ x : Fin n, (if x ≤ q then f x.val else 0)) = ∑ x ∈ Finset.range n, (if x ≤ q.val then f x else 0) :=
    Fin.sum_univ_eq_sum_range (fun x => if x ≤ q.val then f x else 0) n
  rw [h1, ← Finset.sum_filter]
  refine Finset.sum_congr ?_ fun _ _ => rfl
  ext x
  have := q.isLt
  simp only [Finset.mem_filter, Finset.mem_range]
  omega

end Cert.Soft

end
-- ==== Proof.DiffTile.lean ====
/-
  What the payloads of one key tile compute, read at an index in exact arithmetic.
-/
module

public import proofs.«01_k».proof.Proof.DiffFrame
public import proofs.«01_k».proof.Proof.Soft

@[expose] public section

set_option maxRecDepth 16384

noncomputable section

namespace Cert.KernelIdeal.Diff

open Cert.KernelIdeal Cert.KernelIdeal.Gen
open Idealize.ShloMosaic Idealize.ShloMosaic.TcCoe
open Idealize.SL.Sem
open Cert.Soft

/-- A column of scores: the keys of a tile against one query. -/
def score (k : FVec Ideal S256x128 .bf16) (q : FVec Ideal S256x128 .bf16) (r j : Fin 256) : EReal := ∑ d : Fin 128, k (ix2 j d) * q (ix2 r d)

/-- The same with the keys after the query masked. -/
def scoreMasked (k : FVec Ideal S256x128 .bf16) (q : FVec Ideal S256x128 .bf16) (r j : Fin 256) : EReal := if j ≤ r then score k q r j else ⊥

theorem ofBits_bot : Ideal.ofBits .f32 0xFF800000#32 = ⊥ := by
  simp [Ideal.ofBits, Ideal.ieee]

theorem mask_bot : (Named.named (F := Ideal) (φ := .f32) κ "mask" 0xF149F2CA#32 : EReal) = ⊥ := rfl

theorem toInt_ofNat (n : Nat) (h : n < 2147483648) : (BitVec.ofNat 32 n).toInt = n := by
  rw [BitVec.toInt_eq_toNat_cond, BitVec.toNat_ofNat]; omega

theorem sitofp_ofNat (n : Nat) (h : n < 2147483648) : (FloatOps.sitofp (F := Ideal) .f32 (BitVec.ofNat 32 n) : EReal) = ((n : ℝ) : EReal) := by
  show (((BitVec.ofNat 32 n).toInt : ℝ) : EReal) = _
  rw [toInt_ofNat n h]; simp

theorem sle_ite (j r : Fin 256) (x y : EReal) :
    Scalar.select (IntOp.cmpi .sle (BitVec.ofNat 32 j.val) (BitVec.ofNat 32 r.val)) x y = if j ≤ r then x else y := by
  unfold Scalar.select IntOp.cmpi
  simp only [BitVec.sle, toInt_ofNat j.val (by omega), toInt_ofNat r.val (by omega)]
  by_cases h : j ≤ r
  · have : (j.val : Int) ≤ r.val := by exact_mod_cast h
    simp [h, this]
  · have : ¬ (j.val : Int) ≤ r.val := by intro h'; exact h (by exact_mod_cast h')
    simp [h, this]

theorem eq_zero_ite (n : Nat) (hn : n < 64) (x y : EReal) :
    Scalar.select (IntOp.cmpi .eq (BitVec.ofNat 32 n) 0#32) x y = if n = 0 then x else y := by
  unfold Scalar.select IntOp.cmpi
  by_cases h : n = 0
  · simp [h]
  · have : ¬ BitVec.ofNat 32 n = 0#32 := fun e => h (by have := congrArg BitVec.toNat e; simp at this; omega)
    have e : (BitVec.ofNat 32 n == 0#32) = false := by simpa using this
    simp [h, e]

/-- Of the products of the two augmenting columns only the first is there. -/
theorem aug_sum (c : EReal) :
    (∑ x : Fin 64, Scalar.select (IntOp.cmpi .eq (BitVec.ofNat 32 x.val) 0#32)
      (Scalar.select (IntOp.cmpi .eq (BitVec.ofNat 32 x.val) 0#32) c 0) 0) = c := by
  rw [Finset.sum_eq_single (0 : Fin 64)]
  · rw [eq_zero_ite _ (by decide)]; simp [Scalar.select, IntOp.cmpi]
  · intro b _ hb
    rw [eq_zero_ite _ b.isLt, if_neg]
    intro h; exact hb (Fin.ext h)
  · intro h; exact absurd (Finset.mem_univ _) h

theorem pay3_at (q : FVec Ideal S256x128 .bf16) (k : FVec Ideal S256x128 .bf16) (j r : Fin 256) :
    k0_pay3 (F := Ideal) q k (ix2 j r) = score k q r j := by
  pointwise [k0_pay3, score]
theorem pay4_at (q : FVec Ideal S256x128 .bf16) (k : FVec Ideal S256x128 .bf16) (j r : Fin 256) :
    k0_pay4 (F := Ideal) q k (ix2 j r) = score k q r j := by
  pointwise [k0_pay4, score]
theorem pay36_at (q : FVec Ideal S256x128 .bf16) (k : FVec Ideal S256x128 .bf16) (j r : Fin 256) :
    k0_pay36 (F := Ideal) q k (ix2 j r) = scoreMasked k q r j := by
  pointwise [k0_pay36, k0_pay35, scoreMasked, score]
  exact sle_ite ..
theorem pay37_at (q : FVec Ideal S256x128 .bf16) (k : FVec Ideal S256x128 .bf16) (j r : Fin 256) :
    k0_pay37 (F := Ideal) q k (ix2 j r) = scoreMasked k q r j := by
  pointwise [k0_pay37, k0_pay35, scoreMasked, score]
  exact sle_ite ..

/-! ## A tile below the diagonal -/

theorem pay5_at (i : grid0.Coords) (a : BitVec 32) (v : EReal) (q : FVec Ideal S256x128 .bf16) (c0 c1 : BitVec 32) (n : Fin (k0_t2_loop i).trips)
    (m : FVec Ideal S1x256 .f32) (k : FVec Ideal S256x128 .bf16) (r : Fin 256) :
    k0_pay5 (F := Ideal) i a v q c0 c1 n m k (ix2 0 r) = mNew (m (ix2 0 r)) (k0_pay2 (F := Ideal) i a v c0 c1 n) (score k q r) := by
  pointwise [k0_pay5, pay3_at, mNew, ofBits_bot]
theorem pay8_at (i : grid0.Coords) (a : BitVec 32) (v : EReal) (q : FVec Ideal S256x128 .bf16) (c0 c1 : BitVec 32) (n : Fin (k0_t2_loop i).trips)
    (m l : FVec Ideal S1x256 .f32) (k : FVec Ideal S256x128 .bf16) (r : Fin 256) :
    k0_pay8 (F := Ideal) i a v q c0 c1 n m l k (ix2 0 r) = lNew (m (ix2 0 r)) (l (ix2 0 r)) (k0_pay2 (F := Ideal) i a v c0 c1 n) (score k q r) := by
  pointwise [k0_pay8, k0_pay7, k0_pay6, pay5_at, pay3_at, lNew, pNew]
theorem pay9_at (i : grid0.Coords) (a : BitVec 32) (v : EReal) (q : FVec Ideal S256x128 .bf16) (c0 c1 : BitVec 32) (n : Fin (k0_t2_loop i).trips)
    (m : FVec Ideal S1x256 .f32) (vt : FVec Ideal S128x256 .bf16) (k : FVec Ideal S256x128 .bf16) (acc : FVec Ideal S128x256 .f32) (e : Fin 128) (r : Fin 256) :
    k0_pay9 (F := Ideal) i a v q c0 c1 n m vt k acc (ix2 e r) = aNew (m (ix2 0 r)) (acc (ix2 e r)) (k0_pay2 (F := Ideal) i a v c0 c1 n) (score k q r) (fun j => vt (ix2 e j)) := by
  pointwise [k0_pay9, k0_pay7, k0_pay6, pay5_at, pay3_at, aNew, pNew]
theorem pay49_at (i : grid0.Coords) (a : BitVec 32) (v : EReal) (q : FVec Ideal S256x128 .bf16) (c0 c1 : BitVec 32) (n : Fin (k0_t2_loop i).trips)
    (m : FVec Ideal S1x256 .f32) (k : FVec Ideal S256x128 .bf16) (r : Fin 256) :
    k0_pay49 (F := Ideal) m (k0_pay10 (F := Ideal) i a v q c0 c1 n k) (ix2 0 r) = mNew (m (ix2 0 r)) (k0_pay2 (F := Ideal) i a v c0 c1 n) (score k q r) := by
  pointwise [k0_pay49, k0_pay10, pay4_at, mNew, ofBits_bot]
theorem pay52_at (i : grid0.Coords) (a : BitVec 32) (v : EReal) (q : FVec Ideal S256x128 .bf16) (c0 c1 : BitVec 32) (n : Fin (k0_t2_loop i).trips)
    (m l : FVec Ideal S1x256 .f32) (k : FVec Ideal S256x128 .bf16) (r : Fin 256) :
    k0_pay52 (F := Ideal) m l (k0_pay2 (F := Ideal) i a v c0 c1 n) (k0_pay4 (F := Ideal) q k) (k0_pay10 (F := Ideal) i a v q c0 c1 n k) (ix2 0 r)
      = lNew (m (ix2 0 r)) (l (ix2 0 r)) (k0_pay2 (F := Ideal) i a v c0 c1 n) (score k q r) := by
  pointwise [k0_pay52, k0_pay51, k0_pay50, pay49_at, pay4_at, lNew, pNew]
theorem pay53_at (i : grid0.Coords) (a : BitVec 32) (v : EReal) (q : FVec Ideal S256x128 .bf16) (c0 c1 : BitVec 32) (n : Fin (k0_t2_loop i).trips)
    (m : FVec Ideal S1x256 .f32) (vt : FVec Ideal S128x256 .bf16) (k : FVec Ideal S256x128 .bf16) (acc : FVec Ideal S128x256 .f32) (e : Fin 128) (r : Fin 256) :
    k0_pay53 (F := Ideal) m vt (k0_pay2 (F := Ideal) i a v c0 c1 n) (k0_pay4 (F := Ideal) q k) (k0_pay10 (F := Ideal) i a v q c0 c1 n k) acc (ix2 e r)
      = aNew (m (ix2 0 r)) (acc (ix2 e r)) (k0_pay2 (F := Ideal) i a v c0 c1 n) (score k q r) (fun j => vt (ix2 e j)) := by
  pointwise [k0_pay53, k0_pay51, k0_pay50, pay49_at, pay4_at, aNew, pNew]

/-! ## The diagonal tile -/

theorem pay38_at (a : BitVec 32) (v : EReal) (q : FVec Ideal S256x128 .bf16) (m : FVec Ideal S1x256 .f32) (k : FVec Ideal S256x128 .bf16) (r : Fin 256) :
    k0_pay38 (F := Ideal) a v q m k (ix2 0 r) = mNew (m (ix2 0 r)) (k0_pay34 (F := Ideal) a v) (scoreMasked k q r) := by
  pointwise [k0_pay38, pay36_at, mNew, ofBits_bot]
theorem pay41_at (a : BitVec 32) (v : EReal) (q : FVec Ideal S256x128 .bf16) (m l : FVec Ideal S1x256 .f32) (k : FVec Ideal S256x128 .bf16) (r : Fin 256) :
    k0_pay41 (F := Ideal) a v q m l k (ix2 0 r) = lNew (m (ix2 0 r)) (l (ix2 0 r)) (k0_pay34 (F := Ideal) a v) (scoreMasked k q r) := by
  pointwise [k0_pay41, k0_pay40, k0_pay39, pay38_at, pay36_at, lNew, pNew]
theorem pay42_at (a : BitVec 32) (v : EReal) (q : FVec Ideal S256x128 .bf16) (m : FVec Ideal S1x256 .f32) (vt : FVec Ideal S128x256 .bf16)
    (k : FVec Ideal S256x128 .bf16) (acc : FVec Ideal S128x256 .f32) (e : Fin 128) (r : Fin 256) :
    k0_pay42 (F := Ideal) a v q m vt k acc (ix2 e r)
      = aNew (m (ix2 0 r)) (acc (ix2 e r)) (k0_pay34 (F := Ideal) a v) (scoreMasked k q r) (fun j => vt (ix2 e j)) := by
  pointwise [k0_pay42, k0_pay40, k0_pay39, pay38_at, pay36_at, aNew, pNew]
theorem pay44_at (σ : EReal) (q : FVec Ideal S256x128 .bf16) (m : FVec Ideal S1x256 .f32) (k : FVec Ideal S256x128 .bf16) (r : Fin 256) :
    k0_pay44 (F := Ideal) m σ (k0_pay43 (F := Ideal) q k) (ix2 0 r) = mNew (m (ix2 0 r)) σ (scoreMasked k q r) := by
  pointwise [k0_pay44, k0_pay43, pay37_at, mNew, ofBits_bot]
theorem pay47_at (σ : EReal) (q : FVec Ideal S256x128 .bf16) (m l : FVec Ideal S1x256 .f32) (k : FVec Ideal S256x128 .bf16) (r : Fin 256) :
    k0_pay47 (F := Ideal) m l σ (k0_pay37 (F := Ideal) q k) (k0_pay43 (F := Ideal) q k) (ix2 0 r) = lNew (m (ix2 0 r)) (l (ix2 0 r)) σ (scoreMasked k q r) := by
  pointwise [k0_pay47, k0_pay46, k0_pay45, pay44_at, pay37_at, lNew, pNew]
theorem pay48_at (σ : EReal) (q : FVec Ideal S256x128 .bf16) (m : FVec Ideal S1x256 .f32) (vt : FVec Ideal S128x256 .bf16)
    (k : FVec Ideal S256x128 .bf16) (acc : FVec Ideal S128x256 .f32) (e : Fin 128) (r : Fin 256) :
    k0_pay48 (F := Ideal) m vt σ (k0_pay37 (F := Ideal) q k) (k0_pay43 (F := Ideal) q k) acc (ix2 e r)
      = aNew (m (ix2 0 r)) (acc (ix2 e r)) σ (scoreMasked k q r) (fun j => vt (ix2 e j)) := by
  pointwise [k0_pay48, k0_pay46, k0_pay45, pay44_at, pay37_at, aNew, pNew]

theorem pay32_at (r : Fin 256) : k0_pay32 (F := Ideal) (ix2 0 r) = (⊥ : EReal) := by pointwise [k0_pay32]; exact mask_bot
theorem pay33_at (r : Fin 256) : k0_pay33 (F := Ideal) (ix2 0 r) = (0 : EReal) := by pointwise [k0_pay33]
theorem pay30_at (e : Fin 128) (r : Fin 256) : k0_pay30 (F := Ideal) (ix2 e r) = (0 : EReal) := by pointwise [k0_pay30]
theorem pay31_at (e : Fin 128) (r : Fin 256) : k0_pay31 (F := Ideal) (ix2 e r) = (0 : EReal) := by pointwise [k0_pay31]

/-! ## The augmented queries and keys, and the packed values -/

theorem score1_at (i : grid0.Coords) (x y : FVec Ideal S1x256x128 .bf16) (r j : Fin 256) :
    score (k0_pay23 (F := Ideal) y) (k0_pay28 (F := Ideal) i x) r j
      = (∑ d : Fin 64, y (ix3 0 j ⟨d.val, by omega⟩) * x (ix3 0 r ⟨d.val, by omega⟩)) + ((j.val : ℝ) : EReal) * k0_pay20 (F := Ideal) i := by
  pointwise [score, k0_pay28, k0_pay27, k0_pay26, k0_pay23, k0_pay22, k0_pay21]
  rw [aug_sum, sitofp_ofNat _ (by omega)]
theorem score2_at (i : grid0.Coords) (x y : FVec Ideal S1x256x128 .bf16) (r j : Fin 256) :
    score (k0_pay24 (F := Ideal) y) (k0_pay29 (F := Ideal) i x) r j
      = (∑ d : Fin 64, y (ix3 0 j ⟨64 + d.val, by omega⟩) * x (ix3 0 r ⟨64 + d.val, by omega⟩)) + ((j.val : ℝ) : EReal) * k0_pay20 (F := Ideal) i := by
  pointwise [score, k0_pay29, k0_pay27, k0_pay26, k0_pay24, k0_pay22, k0_pay21]
  rw [aug_sum, sitofp_ofNat _ (by omega)]
theorem pay25_at (x : FVec Ideal S1x256x128 .bf16) (e : Fin 128) (j : Fin 256) :
    k0_pay25 (F := Ideal) x (ix2 e j) = x (ix3 0 j e) := by
  pointwise [k0_pay25]

/-! ## The finish -/

theorem pay59_at (l1 l2 : FVec Ideal S1x256 .f32) (a1 a2 : FVec Ideal S128x256 .f32) (lam : EReal) (e : Fin 128) (r : Fin 256) :
    k0_pay59 (F := Ideal) l1 l2 a1 lam a2 (ix2 e r) = Ideal.div (a1 (ix2 e r)) (l1 (ix2 0 r)) - lam * Ideal.div (a2 (ix2 e r)) (l2 (ix2 0 r)) := by
  pointwise [k0_pay59]

/-- The norm and the scale of one output element, `d` its row of differences. -/
def normed (d : Fin 128 → EReal) (e : Fin 128) (w : EReal) : EReal :=
  d e * Ideal.rsqrt (Ideal.div (∑ x, d x * d x) (Ideal.ofBits .f32 0x43000000#32) + Ideal.ofBits .f32 0x358637BD#32) * (w * Ideal.ofBits .f32 0x3F4CCCCD#32)

theorem pay1_at (l1 l2 : FVec Ideal S1x256 .f32) (a1 a2 : FVec Ideal S128x256 .f32) (lam : EReal) (w : FVec Ideal S1x128 .f32) (r : Fin 256) (e : Fin 128) :
    k0_pay1 (F := Ideal) (k0_pay59 (F := Ideal) l1 l2 a1 lam a2) (k0_pay60 (F := Ideal) l1 l2 a1 lam a2) w (ix3 0 r e)
      = normed (fun x => k0_pay59 (F := Ideal) l1 l2 a1 lam a2 (ix2 x r)) e (w (ix2 0 e)) := by
  pointwise [k0_pay1, k0_pay60, normed]

theorem pay20_at (i : grid0.Coords) : k0_pay20 (F := Ideal) i = Ideal.exp2 (Ideal.div (Ideal.ofBits .f32 0xC1000000#32 * ((((i 1).val + 1 : ℕ) : ℝ) : EReal)) (Ideal.ofBits .f32 0x40800000#32)) := by
  have hi : (i 1).val < 4 := (i 1).isLt
  have e : IntOp.addi (BitVec.ofNat 32 (i 1).val) 1#32 = BitVec.ofNat 32 ((i 1).val + 1) := by
    apply BitVec.eq_of_toNat_eq; simp [IntOp.addi]
  have := sitofp_ofNat ((i 1).val + 1) (by omega)
  rw [← this, ← e]; rfl
theorem pay34_at (a : BitVec 32) (v : EReal) : k0_pay34 (F := Ideal) a v = v * 0 := by
  have e : IntOp.muli (IntOp.subi a a) 256#32 = BitVec.ofNat 32 0 := by
    show (a - a) * 256#32 = 0#32
    simp
  have := sitofp_ofNat 0 (by omega)
  rw [Nat.cast_zero, EReal.coe_zero] at this
  rw [← this, ← e]; rfl
theorem pay2_at (i : grid0.Coords) (v : EReal) (n : Fin (k0_t2_loop i).trips) :
    k0_pay2 (F := Ideal) i (BitVec.ofNat 32 (i 2).val) v 0#32 1#32 n = v * ((((n.val : ℝ) - ((i 2).val : ℝ)) * 256 : ℝ) : EReal) := by
  have h : ∀ a b : Fin 32, (IntOp.muli (IntOp.subi (Scf.iv 0#32 1#32 a.val) (BitVec.ofNat 32 b.val)) 256#32).toInt = ((a.val : Int) - b.val) * 256 := by
    decide +kernel
  have h' := h ⟨n.val, trip_lt i n⟩ (i 2)
  have e : (((((n.val : ℝ) - ((i 2).val : ℝ)) * 256 : ℝ)) : EReal) = (((IntOp.muli (IntOp.subi (Scf.iv 0#32 1#32 n.val) (BitVec.ofNat 32 (i 2).val)) 256#32).toInt : ℝ) : EReal) := by
    refine congrArg _ ?_
    have h2 := congrArg (Int.cast (R := ℝ)) h'
    push_cast at h2
    exact h2.symm
  rw [e]; rfl

end Cert.KernelIdeal.Diff

end
-- ==== Proof.Finite.lean ====
/-
  The precondition, read: every entry of the activations and of the lambda vectors is a real number.
-/
module

public import proofs.«01_k».proof.Defs
public import proofs.«01_k».proof.Proof.DiffTile

@[expose] public section

set_option maxRecDepth 16384

noncomputable section

namespace Cert.Finite

open Idealize.ShloMosaic

theorem facts : Cert.Pre_finite.Facts where
  bitsLt_bf16_f32 := by decide
  bcast_S_S4x8192x1536 := by decide
  reducesTo_S4x8192x1536_S_d0_1_2 := by decide
  h_S_ := by decide
  bcast_S_S4x64 := by decide
  reducesTo_S4x64_S_d0_1 := by decide

/-- A conjunction of bits that is one has only ones. -/
theorem and_one (a b : BitVec 1) (h : IntOp.andi a b = 1#1) : a = 1#1 ∧ b = 1#1 := by
  have key : ∀ a b : BitVec 1, a &&& b = 1#1 → a = 1#1 ∧ b = 1#1 := by decide
  exact key a b h

theorem fold_one {ι : Type} [DecidableEq ι] (s : Finset ι) (v : BitVec 1) (f : ι → BitVec 1) (h : s.fold IntOp.andi v f = 1#1) : ∀ i ∈ s, f i = 1#1 := by
  induction s using Finset.induction_on with
  | empty => intro i hi; exact absurd hi (Finset.notMem_empty i)
  | insert a s ha ih =>
    rw [Finset.fold_insert ha] at h
    have h2 := and_one _ _ h
    intro i hi
    rcases Finset.mem_insert.mp hi with rfl | hi
    · exact h2.1
    · exact ih h2.2 i hi

theorem reduce_one {s t u : Shape} {axes : List (Fin s.rank)} (x : s.Idx → BitVec 1) (init : u.Idx → BitVec 1) (h : s.ReducesTo axes t) (hu : 0 < u.numel) (j : t.Idx)
    (e : Host.reduce IntOp.andi x init h hu j = 1#1) (i : s.Idx) (hi : h.drop i = j) : x i = 1#1 := by
  classical
  rw [Host.reduce_eq_fold] at e
  exact fold_one _ _ _ e i (Finset.mem_filter.mpr ⟨Finset.mem_univ _, hi⟩)

theorem inf_top : Ideal.ofBits .f32 0x7F800000#32 = ⊤ := by
  simp [Ideal.ofBits, Ideal.ieee]

theorem lt_top_real (x : EReal) (h : Ideal.cmp .olt (max x (-x)) (Ideal.ofBits .f32 0x7F800000#32) = 1#1) : x ≠ ⊤ ∧ x ≠ ⊥ := by
  rw [inf_top] at h
  constructor
  · rintro rfl
    simp [Ideal.cmp] at h
  · rintro rfl
    simp [Ideal.cmp] at h

variable [Cert.Pre_finite.Facts]

theorem idx0 (a b : Cert.Pre_finite.S_.Idx) : a = b := funext fun i => i.elim0

theorem entries (A : FVec Ideal Cert.Pre_finite.S4x8192x1536 .bf16) (L : FVec Ideal Cert.Pre_finite.S4x64 .f32) (w : FVec Ideal Cert.Pre_finite.S128 .f32)
    (h : Cert.Pre_finite.fn (F := Ideal) A L w = fun _ => 1#1) :
    (∀ i, A i ≠ (⊤ : EReal) ∧ A i ≠ (⊥ : EReal)) ∧ ∀ i, L i ≠ (⊤ : EReal) ∧ L i ≠ (⊥ : EReal) := by
  have h1 := congrFun h (fun i => i.elim0)
  unfold Cert.Pre_finite.fn at h1
  dsimp only at h1
  have h0 := and_one _ _ h1
  clear h h1
  refine ⟨fun i => ?_, fun i => ?_⟩
  · have h := reduce_one _ _ _ _ _ h0.1 i (idx0 _ _)
    exact lt_top_real _ h
  · have h := reduce_one _ _ _ _ _ h0.2 i (idx0 _ _)
    exact lt_top_real _ h

end Cert.Finite

end
-- ==== Proof.DiffMath.lean ====
/-
  The layer's attention in the reals: the scores, the weights and their quotients, for both programs.
-/
module

public import proofs.«01_k».proof.Proof.Soft

@[expose] public section

noncomputable section

namespace Cert.Soft

open Idealize.ShloMosaic

/-! ## Constants -/

theorem ofBits_neg8 : Ideal.ofBits .f32 0xC1000000#32 = ((-8 : ℝ) : EReal) := by
  simp [Ideal.ofBits, Ideal.ieee, -EReal.coe_mul, -EReal.coe_neg]; norm_num
theorem ofBits_4 : Ideal.ofBits .f32 0x40800000#32 = ((4 : ℝ) : EReal) := by
  simp [Ideal.ofBits, Ideal.ieee, -EReal.coe_mul, -EReal.coe_neg]; norm_num
theorem ofBits_2 : Ideal.ofBits .f32 0x40000000#32 = ((2 : ℝ) : EReal) := by
  simp [Ideal.ofBits, Ideal.ieee, -EReal.coe_mul, -EReal.coe_neg]; norm_num
theorem ofBits_lam : ∃ r : ℝ, Ideal.ofBits .f32 0x3E4CCCCD#32 = (r : EReal) := by
  simp [Ideal.ofBits, Ideal.ieee, -EReal.coe_mul, -EReal.coe_neg]

/-! ## The reals behind the arguments -/

/-- Entry `c` of row `n` of batch `b`. -/
def ent (A : (⟨3, ![4, 8192, 1536]⟩ : Shape).Idx → EReal) (b n c : Nat) : ℝ :=
  if h : b < 4 ∧ n < 8192 ∧ c < 1536 then (A (ix3 (⟨b, h.1⟩ : Fin 4) (⟨n, h.2.1⟩ : Fin 8192) (⟨c, h.2.2⟩ : Fin 1536))).toReal else 0

theorem ent_eq (A : (⟨3, ![4, 8192, 1536]⟩ : Shape).Idx → EReal) (hA : ∀ i, A i ≠ ⊤ ∧ A i ≠ ⊥) (b : Fin 4) (n : Fin 8192) (c : Fin 1536) :
    A (ix3 b n c) = (ent A b n c : EReal) := by
  rw [ent, dif_pos ⟨b.isLt, n.isLt, c.isLt⟩]
  exact (EReal.coe_toReal (hA _).1 (hA _).2).symm

/-- The slope of head `h`. -/
def slopeR (h : Nat) : ℝ := Real.rpow 2 (-8 * ((h + 1 : Nat) : ℝ) / 4)

/-- The product of query row `q` with key row `k`, half `u` of head `h`. -/
def dotR (A : (⟨3, ![4, 8192, 1536]⟩ : Shape).Idx → EReal) (b h u q k : Nat) : ℝ :=
  ∑ d : Fin 64, ent A b q (h * 128 + u * 64 + d.val) * ent A b k (512 + (h * 128 + u * 64 + d.val))

/-- The weight of key `k` for query `q`, up to a factor of the query's. -/
def wt (A : (⟨3, ![4, 8192, 1536]⟩ : Shape).Idx → EReal) (b h u q k : Nat) : ℝ := Real.exp (dotR A b h u q k + slopeR h * (k : ℝ))

/-- Channel `e` of the attention of query `q`. -/
def attR (A : (⟨3, ![4, 8192, 1536]⟩ : Shape).Idx → EReal) (b h u q e : Nat) : ℝ :=
  (∑ k ∈ Finset.range (q + 1), ent A b k (1024 + (h * 128 + e)) * wt A b h u q k) / ∑ k ∈ Finset.range (q + 1), wt A b h u q k

/-- The difference of the two. -/
def diffR (A : (⟨3, ![4, 8192, 1536]⟩ : Shape).Idx → EReal) (lam : ℝ) (b h q e : Nat) : ℝ := attR A b h 0 q e - lam * attR A b h 1 q e

theorem wt_pos (A : (⟨3, ![4, 8192, 1536]⟩ : Shape).Idx → EReal) (b h u q k : Nat) : 0 < wt A b h u q k := Real.exp_pos _

theorem wt_sum_ne (A : (⟨3, ![4, 8192, 1536]⟩ : Shape).Idx → EReal) (b h u q : Nat) : (∑ k ∈ Finset.range (q + 1), wt A b h u q k) ≠ 0 :=
  (Finset.sum_pos (fun k _ => wt_pos A b h u q k) ⟨0, Finset.mem_range.mpr (Nat.succ_pos q)⟩).ne'

/-! ## A row at once -/

theorem att_row (A : (⟨3, ![4, 8192, 1536]⟩ : Shape).Idx → EReal) (b h u : Nat) (q : Fin 8192) (e : Nat) :
    (∑ x : Fin 8192, ent A b x.val (1024 + (h * 128 + e)) *
      ((if x ≤ q then Real.exp (dotR A b h u q.val x.val - slopeR h * ((q.val : ℝ) - (x.val : ℝ))) else 0)
        / ∑ y : Fin 8192, (if y ≤ q then Real.exp (dotR A b h u q.val y.val - slopeR h * ((q.val : ℝ) - (y.val : ℝ))) else 0)))
      = attR A b h u q.val e := by
  have e1 : ∀ y : Fin 8192, (if y ≤ q then Real.exp (dotR A b h u q.val y.val - slopeR h * ((q.val : ℝ) - (y.val : ℝ))) else 0)
      = Real.exp (-(slopeR h * (q.val : ℝ))) * (if y ≤ q then wt A b h u q.val y.val else 0) := fun y => by
    split
    · rw [wt, ← Real.exp_add]; congr 1; ring
    · rw [mul_zero]
  simp only [e1]
  rw [← Finset.mul_sum, sum_upto q (fun y => wt A b h u q.val y)]
  have e2 : ∀ x : Fin 8192, ent A b x.val (1024 + (h * 128 + e)) *
      (Real.exp (-(slopeR h * (q.val : ℝ))) * (if x ≤ q then wt A b h u q.val x.val else 0)
        / (Real.exp (-(slopeR h * (q.val : ℝ))) * ∑ k ∈ Finset.range (q.val + 1), wt A b h u q.val k))
      = (if x ≤ q then ent A b x.val (1024 + (h * 128 + e)) * wt A b h u q.val x.val else 0) / ∑ k ∈ Finset.range (q.val + 1), wt A b h u q.val k := fun x => by
    rw [mul_div_mul_left _ _ (Real.exp_ne_zero _), ← mul_div_assoc]
    split
    · rfl
    · rw [mul_zero]
  simp only [e2]
  rw [← Finset.sum_div, sum_upto q (fun k => ent A b k (1024 + (h * 128 + e)) * wt A b h u q.val k)]
  rfl

/-! ## A row tile by tile -/

/-- What one tile adds, its keys the rows from `256 n` on, the first query of the block in row `256 i`. -/
theorem tile_term (A : (⟨3, ![4, 8192, 1536]⟩ : Shape).Idx → EReal) (b h u q n i j : Nat) :
    Real.exp (dotR A b h u q (256 * n + j) + (j : ℝ) * slopeR h + slopeR h * (((n : ℝ) - (i : ℝ)) * 256))
      = Real.exp (-(slopeR h * ((i : ℝ) * 256))) * wt A b h u q (256 * n + j) := by
  rw [wt, ← Real.exp_add]; congr 1; push_cast; ring

theorem tile_sum (f : Nat → ℝ) (n : Nat) :
    (∑ x ∈ Finset.range (256 * n), f x) + ∑ j : Fin 256, f (256 * n + j.val) = ∑ x ∈ Finset.range (256 * (n + 1)), f x := by
  rw [mul_add, mul_one, Finset.sum_range_add, Fin.sum_univ_eq_sum_range (fun j => f (256 * n + j)) 256]

theorem tile_last (f : Nat → ℝ) (n r : Nat) :
    (∑ j ∈ Finset.range (r + 1), f (256 * n + j)) + ∑ x ∈ Finset.range (256 * n), f x = ∑ x ∈ Finset.range (256 * n + r + 1), f x := by
  rw [add_assoc, Finset.sum_range_add f (256 * n) (r + 1), add_comm]

end Cert.Soft

end
-- ==== Proof.DiffColumn.lean ====
/-
  The columns of the running state, tile by tile, and the output block of a grid point.
-/
module

public import proofs.«01_k».proof.Proof.DiffTile
public import proofs.«01_k».proof.Proof.DiffMath

@[expose] public section

set_option maxRecDepth 16384

noncomputable section

namespace Cert.KernelIdeal.Diff

open Cert.KernelIdeal Cert.KernelIdeal.Gen
open Idealize.ShloMosaic Idealize.ShloMosaic.TcCoe
open Idealize.SL.Sem
open Cert.Soft

theorem headTile_at (X : FVec Ideal S1x8192x128 .bf16) (n : Fin 32) (j : Fin 256) (d : Fin 128) :
    headTile (F := Ideal) X n (ix3 0 j d) = X (ix3 0 ⟨256 * n.val + j.val, by omega⟩ d) := by
  refine congrArg X (funext fun a => Fin.ext ?_)
  show (![0, 256 * n.val, 0] : Fin 3 → Nat) a + 1 * ((ix3 0 j d : S1x256x128.Idx) a).val = _
  fin_cases a
  · rfl
  · show 256 * n.val + 1 * j.val = 256 * n.val + j.val; omega
  · show 0 + 1 * d.val = d.val; omega

theorem slope_at (i : grid0.Coords) : k0_pay20 (F := Ideal) i = (slopeR (i 1).val : EReal) := by
  rw [pay20_at, ofBits_neg8, ofBits_4, ← EReal.coe_mul, div_real _ _ (by norm_num), Ideal.exp2_coe]
  rfl

section Column
variable (i : grid0.Coords) (b : Nat) (A : (⟨3, ![4, 8192, 1536]⟩ : Shape).Idx → EReal)
  (qb : FVec Ideal S1x256x128 .bf16) (kb vb : FVec Ideal S1x8192x128 .bf16)
  (hq : ∀ (r : Fin 256) (d : Fin 128), qb (ix3 0 r d) = (ent A b (256 * (i 2).val + r.val) ((i 1).val * 128 + d.val) : EReal))
  (hk : ∀ (n : Fin 8192) (d : Fin 128), kb (ix3 0 n d) = (ent A b n.val (512 + ((i 1).val * 128 + d.val)) : EReal))
  (hv : ∀ (n : Fin 8192) (e : Fin 128), vb (ix3 0 n e) = (ent A b n.val (1024 + ((i 1).val * 128 + e.val)) : EReal))
  (r : Fin 256)

/-- The score of key `j` of tile `n`, the tile's own offset left out. -/
def tau (u n : Nat) (j : Fin 256) : ℝ :=
  dotR A b (i 1).val u (256 * (i 2).val + r.val) (256 * n + j.val) + (j.val : ℝ) * slopeR (i 1).val

include hq hk in
theorem score1_real (n : Fin 32) : score (K1 (F := Ideal) kb n) (k0_pay28 (F := Ideal) i qb) r = fun j => (tau i b A r 0 n.val j : EReal) := by
  funext j
  rw [score1_at, slope_at, tau, dotR, EReal.coe_add, EReal.coe_mul, ← coe_sum]
  congr 1
  refine Finset.sum_congr rfl fun d _ => ?_
  rw [headTile_at, hk, hq, ← EReal.coe_mul, mul_comm]
  congr 3 <;> (try simp) <;> (try omega)

include hq hk in
theorem score2_real (n : Fin 32) : score (K2 (F := Ideal) kb n) (k0_pay29 (F := Ideal) i qb) r = fun j => (tau i b A r 1 n.val j : EReal) := by
  funext j
  rw [score2_at, slope_at, tau, dotR, EReal.coe_add, EReal.coe_mul, ← coe_sum]
  congr 1
  refine Finset.sum_congr rfl fun d _ => ?_
  have e : (i 1).val * 128 + (64 + d.val) = (i 1).val * 128 + 1 * 64 + d.val := by omega
  rw [headTile_at, hk, hq, ← EReal.coe_mul, mul_comm]
  dsimp only
  rw [e]

include hv in
theorem vals_real (n : Fin 32) (e : Fin 128) :
    (fun j => VT (F := Ideal) vb n (ix2 e j)) = fun j : Fin 256 => (ent A b (256 * n.val + j.val) (1024 + ((i 1).val * 128 + e.val)) : EReal) := by
  funext j
  show k0_pay25 (F := Ideal) (headTile (F := Ideal) vb n) (ix2 e j) = _
  rw [pay25_at, headTile_at, hv]

/-- The factor all of a query's weights carry. -/
def fac : ℝ := Real.exp (-(slopeR (i 1).val * (((i 2).val : ℝ) * 256)))

/-- The sum of a query's weights over the tiles taken before tile `n`. -/
def zAt (u n : Nat) : ℝ :=
  fac i * ((∑ j ∈ Finset.range (r.val + 1), wt A b (i 1).val u (256 * (i 2).val + r.val) (256 * (i 2).val + j))
    + ∑ x ∈ Finset.range (256 * n), wt A b (i 1).val u (256 * (i 2).val + r.val) x)
/-- The same with the values. -/
def wAt (u n : Nat) (e : Fin 128) : ℝ :=
  fac i * ((∑ j ∈ Finset.range (r.val + 1), ent A b (256 * (i 2).val + j) (1024 + ((i 1).val * 128 + e.val)) * wt A b (i 1).val u (256 * (i 2).val + r.val) (256 * (i 2).val + j))
    + ∑ x ∈ Finset.range (256 * n), ent A b x (1024 + ((i 1).val * 128 + e.val)) * wt A b (i 1).val u (256 * (i 2).val + r.val) x)

theorem z_first (u : Nat) : (∑ j : Fin 256, (if j ≤ r then Real.exp (tau i b A r u (i 2).val j + slopeR (i 1).val * 0) else 0)) = zAt i b A r u 0 := by
  rw [zAt, mul_zero 256, Finset.range_zero, Finset.sum_empty, add_zero, ← sum_upto r (fun j => wt A b (i 1).val u (256 * (i 2).val + r.val) (256 * (i 2).val + j)), Finset.mul_sum]
  refine Finset.sum_congr rfl fun j _ => ?_
  split
  · have := tile_term A b (i 1).val u (256 * (i 2).val + r.val) (i 2).val (i 2).val j.val
    rw [sub_self, zero_mul] at this
    rw [tau, this]; rfl
  · rw [mul_zero]
theorem w_first (u : Nat) (e : Fin 128) :
    (∑ j : Fin 256, (if j ≤ r then ent A b (256 * (i 2).val + j.val) (1024 + ((i 1).val * 128 + e.val)) * Real.exp (tau i b A r u (i 2).val j + slopeR (i 1).val * 0) else 0)) = wAt i b A r u 0 e := by
  rw [wAt, mul_zero 256, Finset.range_zero, Finset.sum_empty, add_zero, ← sum_upto r (fun j => ent A b (256 * (i 2).val + j) (1024 + ((i 1).val * 128 + e.val)) * wt A b (i 1).val u (256 * (i 2).val + r.val) (256 * (i 2).val + j)), Finset.mul_sum]
  refine Finset.sum_congr rfl fun j _ => ?_
  split
  · have := tile_term A b (i 1).val u (256 * (i 2).val + r.val) (i 2).val (i 2).val j.val
    rw [sub_self, zero_mul] at this
    rw [tau, this, mul_left_comm]; rfl
  · rw [mul_zero]

theorem z_next (u n : Nat) :
    zAt i b A r u n + (∑ j : Fin 256, (if True then Real.exp (tau i b A r u n j + slopeR (i 1).val * (((n : ℝ) - ((i 2).val : ℝ)) * 256)) else 0)) = zAt i b A r u (n + 1) := by
  rw [zAt, zAt, ← tile_sum, ← add_assoc (G := ℝ), mul_add (fac i) (_ + _), Finset.mul_sum (f := fun j : Fin 256 => wt A b (i 1).val u (256 * (i 2).val + r.val) (256 * n + j.val))]
  congr 1
  refine Finset.sum_congr rfl fun j _ => ?_
  rw [if_pos trivial, tau, tile_term]; rfl
theorem w_next (u n : Nat) (e : Fin 128) :
    wAt i b A r u n e + (∑ j : Fin 256, (if True then ent A b (256 * n + j.val) (1024 + ((i 1).val * 128 + e.val)) * Real.exp (tau i b A r u n j + slopeR (i 1).val * (((n : ℝ) - ((i 2).val : ℝ)) * 256)) else 0)) = wAt i b A r u (n + 1) e := by
  rw [wAt, wAt, ← tile_sum, ← add_assoc (G := ℝ), mul_add (fac i) (_ + _), Finset.mul_sum (f := fun j : Fin 256 => ent A b (256 * n + j.val) (1024 + ((i 1).val * 128 + e.val)) * wt A b (i 1).val u (256 * (i 2).val + r.val) (256 * n + j.val))]
  congr 1
  refine Finset.sum_congr rfl fun j _ => ?_
  rw [if_pos trivial, tau, tile_term, mul_left_comm]; rfl

theorem scoreMasked_eq (k q : FVec Ideal S256x128 .bf16) (τ : Fin 256 → ℝ) (h : score k q r = fun j => (τ j : EReal)) :
    scoreMasked k q r = masked (fun j => j ≤ r) τ := by
  funext j
  rw [scoreMasked, h, masked]
theorem score_eq (k q : FVec Ideal S256x128 .bf16) (τ : Fin 256 → ℝ) (h : score k q r = fun j => (τ j : EReal)) :
    score k q r = masked (fun _ => True) τ := by
  rw [h]; funext j
  rw [masked, if_pos trivial]

theorem inv_first_of (p : Fin 256 → Prop) [DecidablePred p] (τ : Fin 256 → ℝ) (j0 : Fin 256) (h0 : p j0) (σ : ℝ) (v : Fin 128 → Fin 256 → ℝ)
    (V : Fin 128 → Fin 256 → EReal) (hV : ∀ e, V e = fun j => (v e j : EReal)) :
    Inv (mNew ⊥ (σ : EReal) (masked p τ)) (lNew ⊥ 0 (σ : EReal) (masked p τ)) (fun e => aNew ⊥ 0 (σ : EReal) (masked p τ) (V e))
      (∑ j, (if p j then Real.exp (τ j + σ) else 0)) (fun e => ∑ j, (if p j then v e j * Real.exp (τ j + σ) else 0)) := by
  obtain rfl : V = fun e j => (v e j : EReal) := funext hV
  exact inv_first p τ j0 h0 σ v
theorem inv_next_of (p : Fin 256 → Prop) [DecidablePred p] (τ : Fin 256 → ℝ) (j0 : Fin 256) (h0 : p j0) (σ : ℝ) (v : Fin 128 → Fin 256 → ℝ)
    (V : Fin 128 → Fin 256 → EReal) (hV : ∀ e, V e = fun j => (v e j : EReal)) (m l : EReal) (a : Fin 128 → EReal) (Z : ℝ) (W : Fin 128 → ℝ) (hI : Inv m l a Z W) :
    Inv (mNew m (σ : EReal) (masked p τ)) (lNew m l (σ : EReal) (masked p τ)) (fun e => aNew m (a e) (σ : EReal) (masked p τ) (V e))
      (Z + ∑ j, (if p j then Real.exp (τ j + σ) else 0)) (fun e => W e + ∑ j, (if p j then v e j * Real.exp (τ j + σ) else 0)) := by
  obtain rfl : V = fun e j => (v e j : EReal) := funext hV
  exact inv_next p τ j0 h0 σ v m l a Z W hI

include hq hk hv in
theorem inv1 : ∀ n : Nat, n ≤ (i 2).val →
    Inv ((stAt (F := Ideal) i qb (K1 (F := Ideal) kb) (K2 (F := Ideal) kb) (VT (F := Ideal) vb) n).m1 (ix2 0 r)) ((stAt (F := Ideal) i qb (K1 (F := Ideal) kb) (K2 (F := Ideal) kb) (VT (F := Ideal) vb) n).l1 (ix2 0 r))
      (fun e : Fin 128 => (stAt (F := Ideal) i qb (K1 (F := Ideal) kb) (K2 (F := Ideal) kb) (VT (F := Ideal) vb) n).a1 (ix2 e r)) (zAt i b A r 0 n) (wAt i b A r 0 n)
  | 0, _ => by
    have hs := scoreMasked_eq r _ _ _ (score1_real i b A qb kb hq hk r (i 2))
    have hI := inv_first_of (fun j => j ≤ r) (tau i b A r 0 (i 2).val) r (le_refl r) (slopeR (i 1).val * 0)
      (fun (e : Fin 128) j => ent A b (256 * (i 2).val + j.val) (1024 + ((i 1).val * 128 + e.val)))
      (fun e j => VT (F := Ideal) vb (i 2) (ix2 e j)) (vals_real i b A vb hv (i 2))
    rw [z_first] at hI
    simp only [w_first] at hI
    rw [← hs, EReal.coe_mul, EReal.coe_zero, ← slope_at] at hI
    show Inv (k0_pay38 (F := Ideal) _ _ _ _ _ (ix2 0 r)) (k0_pay41 (F := Ideal) _ _ _ _ _ _ (ix2 0 r)) (fun e : Fin 128 => k0_pay42 (F := Ideal) _ _ _ _ _ _ _ (ix2 e r)) _ _
    simp only [pay38_at, pay41_at, pay42_at, pay32_at, pay33_at, pay30_at, pay34_at]
    exact hI
  | n + 1, hn => by
    have ih := inv1 n (by omega)
    have h32 : n < 32 := Nat.lt_of_lt_of_le hn (Nat.le_of_lt (i 2).isLt)
    have ht : n < (k0_t2_loop i).trips := by rw [trips2]; omega
    have hs := score_eq r _ _ _ (score1_real i b A qb kb hq hk r ⟨n, h32⟩)
    have hI := inv_next_of (fun _ => True) (tau i b A r 0 n) 0 trivial (slopeR (i 1).val * (((n : ℝ) - ((i 2).val : ℝ)) * 256))
      (fun (e : Fin 128) j => ent A b (256 * n + j.val) (1024 + ((i 1).val * 128 + e.val)))
      (fun e j => VT (F := Ideal) vb ⟨n, h32⟩ (ix2 e j)) (vals_real i b A vb hv ⟨n, h32⟩) _ _ _ _ _ ih
    rw [z_next] at hI
    simp only [w_next] at hI
    rw [← hs, EReal.coe_mul, ← slope_at] at hI
    rw [stAt_succ i qb (K1 (F := Ideal) kb) (K2 (F := Ideal) kb) (VT (F := Ideal) vb) ⟨n, ht⟩]
    show Inv (k0_pay5 (F := Ideal) _ _ _ _ _ _ _ _ _ (ix2 0 r)) (k0_pay8 (F := Ideal) _ _ _ _ _ _ _ _ _ _ (ix2 0 r)) (fun e : Fin 128 => k0_pay9 (F := Ideal) _ _ _ _ _ _ _ _ _ _ _ (ix2 e r)) _ _
    simp only [pay5_at, pay8_at, pay9_at, pay2_at]
    exact hI

include hq hk hv in
theorem inv2 : ∀ n : Nat, n ≤ (i 2).val →
    Inv ((stAt (F := Ideal) i qb (K1 (F := Ideal) kb) (K2 (F := Ideal) kb) (VT (F := Ideal) vb) n).m2 (ix2 0 r)) ((stAt (F := Ideal) i qb (K1 (F := Ideal) kb) (K2 (F := Ideal) kb) (VT (F := Ideal) vb) n).l2 (ix2 0 r))
      (fun e : Fin 128 => (stAt (F := Ideal) i qb (K1 (F := Ideal) kb) (K2 (F := Ideal) kb) (VT (F := Ideal) vb) n).a2 (ix2 e r)) (zAt i b A r 1 n) (wAt i b A r 1 n)
  | 0, _ => by
    have hs := scoreMasked_eq r _ _ _ (score2_real i b A qb kb hq hk r (i 2))
    have hI := inv_first_of (fun j => j ≤ r) (tau i b A r 1 (i 2).val) r (le_refl r) (slopeR (i 1).val * 0)
      (fun (e : Fin 128) j => ent A b (256 * (i 2).val + j.val) (1024 + ((i 1).val * 128 + e.val)))
      (fun e j => VT (F := Ideal) vb (i 2) (ix2 e j)) (vals_real i b A vb hv (i 2))
    rw [z_first] at hI
    simp only [w_first] at hI
    rw [← hs, EReal.coe_mul, EReal.coe_zero, ← slope_at] at hI
    show Inv (k0_pay44 (F := Ideal) _ _ _ (ix2 0 r)) (k0_pay47 (F := Ideal) _ _ _ _ _ (ix2 0 r)) (fun e : Fin 128 => k0_pay48 (F := Ideal) _ _ _ _ _ _ (ix2 e r)) _ _
    simp only [pay44_at, pay47_at, pay48_at, pay32_at, pay33_at, pay31_at, pay34_at]
    exact hI
  | n + 1, hn => by
    have ih := inv2 n (by omega)
    have h32 : n < 32 := Nat.lt_of_lt_of_le hn (Nat.le_of_lt (i 2).isLt)
    have ht : n < (k0_t2_loop i).trips := by rw [trips2]; omega
    have hs := score_eq r _ _ _ (score2_real i b A qb kb hq hk r ⟨n, h32⟩)
    have hI := inv_next_of (fun _ => True) (tau i b A r 1 n) 0 trivial (slopeR (i 1).val * (((n : ℝ) - ((i 2).val : ℝ)) * 256))
      (fun (e : Fin 128) j => ent A b (256 * n + j.val) (1024 + ((i 1).val * 128 + e.val)))
      (fun e j => VT (F := Ideal) vb ⟨n, h32⟩ (ix2 e j)) (vals_real i b A vb hv ⟨n, h32⟩) _ _ _ _ _ ih
    rw [z_next] at hI
    simp only [w_next] at hI
    rw [← hs, EReal.coe_mul, ← slope_at] at hI
    rw [stAt_succ i qb (K1 (F := Ideal) kb) (K2 (F := Ideal) kb) (VT (F := Ideal) vb) ⟨n, ht⟩]
    show Inv (k0_pay49 (F := Ideal) _ _ (ix2 0 r)) (k0_pay52 (F := Ideal) _ _ _ _ _ (ix2 0 r)) (fun e : Fin 128 => k0_pay53 (F := Ideal) _ _ _ _ _ _ (ix2 e r)) _ _
    simp only [pay49_at, pay52_at, pay53_at]
    simp only [pay2_at]
    exact hI

theorem quot_real (u : Nat) (e : Fin 128) : wAt i b A r u (i 2).val e / zAt i b A r u (i 2).val = attR A b (i 1).val u (256 * (i 2).val + r.val) e.val := by
  have h1 := tile_last (fun x => wt A b (i 1).val u (256 * (i 2).val + r.val) x) (i 2).val r.val
  have h2 := tile_last (fun x => ent A b x (1024 + ((i 1).val * 128 + e.val)) * wt A b (i 1).val u (256 * (i 2).val + r.val) x) (i 2).val r.val
  dsimp only at h1 h2
  rw [wAt, zAt, h1, h2, mul_div_mul_left _ _ (show fac i ≠ 0 from Real.exp_ne_zero _), attR]

theorem z_ne (u : Nat) : zAt i b A r u (i 2).val ≠ 0 := by
  rw [zAt, tile_last (fun x => wt A b (i 1).val u (256 * (i 2).val + r.val) x)]
  exact mul_ne_zero (Real.exp_ne_zero _) (wt_sum_ne A b _ u _)

include hq hk hv in
theorem outBlk_at (lam : ℝ) (sub : FVec Ideal S1x128 .f32) (e : Fin 128) :
    outBlk (F := Ideal) i (lam : EReal) qb (K1 (F := Ideal) kb) (K2 (F := Ideal) kb) (VT (F := Ideal) vb) sub (ix3 0 r e)
      = normed (fun x => (diffR A lam b (i 1).val (256 * (i 2).val + r.val) x.val : EReal)) e (sub (ix2 0 e)) := by
  have h1 := inv1 i b A qb kb vb hq hk hv r (i 2).val (le_refl _)
  have h2 := inv2 i b A qb kb vb hq hk hv r (i 2).val (le_refl _)
  rw [outBlk, trips2]
  dsimp only
  rw [pay1_at]
  congr 1
  funext x
  rw [pay59_at]
  have q1 := inv_quot _ _ _ _ _ h1 (z_ne i b A r 0) x
  have q2 := inv_quot _ _ _ _ _ h2 (z_ne i b A r 1) x
  dsimp only at q1 q2
  rw [q1, q2, quot_real, quot_real, ← EReal.coe_mul, ← EReal.coe_sub]
  rfl

end Column

end Cert.KernelIdeal.Diff

end
-- ==== Proof.DiffBlocks.lean ====
/-
  The blocks of a grid point, read at an index of the arrays they come from.
-/
module

public import proofs.«01_k».proof.Proof.DiffColumn
public import Idealize.ShloMosaic.Lib.Pipeline.ValueKit
public import Idealize.ShloMosaic.Lib.Claim

@[expose] public section

set_option maxRecDepth 16384

noncomputable section

namespace Cert.KernelIdeal.Diff

open Cert.KernelIdeal Cert.KernelIdeal.Gen
open Idealize.ShloMosaic Idealize.ShloMosaic.TcCoe
open Idealize.SL.Sem
open Idealize.ShloMosaic.Pipeline (Dat)
open Cert.Soft

variable (m : (ℓ : Loc nD τ sig) → Buf (Elt Ideal) ℓ)

theorem idx : ∀ t : Fin cfg0.N,
    win0_1.index t = ![(grid0.coords t 0).val, (grid0.coords t 2).val, (grid0.coords t 1).val]
      ∧ win0_2.index t = ![(grid0.coords t 0).val, 0, 4 + (grid0.coords t 1).val]
      ∧ win0_3.index t = ![(grid0.coords t 0).val, 0, 8 + (grid0.coords t 1).val]
      ∧ win0_4.index t = ![0, 0]
      ∧ win0_5.index t = ![(grid0.coords t 0).val, (grid0.coords t 2).val, (grid0.coords t 1).val]
      ∧ win0_0.index t = ![0]
      ∧ (grid0.coords t 0).val < 4 ∧ (grid0.coords t 1).val < 4 ∧ (grid0.coords t 2).val < 32 :=
  (by decide +kernel : ∀ t : Fin grid0.N, _)

theorem c0_lt (t : Fin cfg0.N) : (grid0.coords t 0).val < 4 := (idx t).2.2.2.2.2.2.1
theorem c1_lt (t : Fin cfg0.N) : (grid0.coords t 1).val < 4 := (idx t).2.2.2.2.2.2.2.1
theorem c2_lt (t : Fin cfg0.N) : (grid0.coords t 2).val < 32 := (idx t).2.2.2.2.2.2.2.2

theorem q_at (c : Dev nD) (t : Fin cfg0.N) (r : Fin 256) (d : Fin 128) :
    (show FVec Ideal S1x256x128 .bf16 from iblk m c 1 t) (ix3 0 r d)
      = (show FVec Ideal S4x8192x1536 .bf16 from m ((c : Thread nD τ).loc main_arg0))
          (ix3 ⟨(grid0.coords t 0).val, c0_lt t⟩ ⟨256 * (grid0.coords t 2).val + r.val, by have := c2_lt t; omega⟩ ⟨(grid0.coords t 1).val * 128 + d.val, by have := c1_lt t; omega⟩) := by
  have h0 := c0_lt t
  have h1 := c1_lt t
  have h2 := c2_lt t
  blk_ext [iblk, V, idx t]
theorem k_at (c : Dev nD) (t : Fin cfg0.N) (n : Fin 8192) (d : Fin 128) :
    (show FVec Ideal S1x8192x128 .bf16 from iblk m c 2 t) (ix3 0 n d)
      = (show FVec Ideal S4x8192x1536 .bf16 from m ((c : Thread nD τ).loc main_arg0))
          (ix3 ⟨(grid0.coords t 0).val, c0_lt t⟩ n ⟨512 + ((grid0.coords t 1).val * 128 + d.val), by have := c1_lt t; omega⟩) := by
  have h0 := c0_lt t
  have h1 := c1_lt t
  have h2 := c2_lt t
  blk_ext [iblk, V, idx t]
theorem v_at (c : Dev nD) (t : Fin cfg0.N) (n : Fin 8192) (d : Fin 128) :
    (show FVec Ideal S1x8192x128 .bf16 from iblk m c 3 t) (ix3 0 n d)
      = (show FVec Ideal S4x8192x1536 .bf16 from m ((c : Thread nD τ).loc main_arg0))
          (ix3 ⟨(grid0.coords t 0).val, c0_lt t⟩ n ⟨1024 + ((grid0.coords t 1).val * 128 + d.val), by have := c1_lt t; omega⟩) := by
  have h0 := c0_lt t
  have h1 := c1_lt t
  have h2 := c2_lt t
  blk_ext [iblk, V, idx t]
theorem sub_at (c : Dev nD) (t : Fin cfg0.N) (e : Fin 128) :
    (show FVec Ideal S1x128 .f32 from iblk m c 4 t) (ix2 0 e)
      = (show FVec Ideal S128 .f32 from m ((c : Thread nD τ).loc main_arg2)) (ix1 e) := by
  blk_point [iblk, V, idx t]

/-- The weight of the second softmax, as the host computes it. -/
def lamOf (L : FVec Ideal S4x64 .f32) : EReal :=
  Ideal.exp (∑ x : Fin 64, L (ix2 0 x) * L (ix2 1 x)) - Ideal.exp (∑ x : Fin 64, L (ix2 2 x) * L (ix2 3 x)) + Ideal.ofBits .f32 0x3E4CCCCD#32

theorem lam_host (L : FVec Ideal S4x64 .f32) (y : S1.Idx) :
    shapeCast S1
      (addf
        (subf
          (Host.exp (Host.reduceAdd (mulf (shapeCast S64 (extractStridedSlice S1x64 ![0, 0] L slices_S4x64_S1x64_0_0) shapeCasts_S1x64_S64)
            (shapeCast S64 (extractStridedSlice S1x64 ![1, 0] L slices_S4x64_S1x64_1_0) shapeCasts_S1x64_S64)) (constant S_ FTy.f32 0x00000000#32) reducesTo_S64_S_d0 h_S_))
          (Host.exp (Host.reduceAdd (mulf (shapeCast S64 (extractStridedSlice S1x64 ![2, 0] L slices_S4x64_S1x64_2_0) shapeCasts_S1x64_S64)
            (shapeCast S64 (extractStridedSlice S1x64 ![3, 0] L slices_S4x64_S1x64_3_0) shapeCasts_S1x64_S64)) (constant S_ FTy.f32 0x00000000#32) reducesTo_S64_S_d0 h_S_)))
        (constant S_ FTy.f32 0x3E4CCCCD#32)) shapeCasts_S_S1 y = lamOf L := by
  obtain rfl : y = ix1 0 := funext fun a => Fin.ext (by
    have := (y a).isLt
    fin_cases a
    have h : (y 0).val < 1 := (y 0).isLt
    show (y 0).val = 0
    omega)
  pointwise [lamOf]

theorem lam_at (c : Dev nD) (t : Fin cfg0.N) :
    (iblk m c 0 t : Vec Ideal S1 .f32) (Rect.point (Rect.unit (s := S1) ![0] S1.size inb_S1_S1_0) numel1_S1)
      = lamOf (show FVec Ideal S4x64 .f32 from m ((c : Thread nD τ).loc main_arg1)) := by
  blk_simp [iblk, idx t]
  entry_read
  exact lam_host _ _

end Cert.KernelIdeal.Diff

end
-- ==== Proof.DiffValue.lean ====
/-
  The kernel's result array, in exact arithmetic.
-/
module

public import proofs.«01_k».proof.Proof.DiffBlocks

@[expose] public section

set_option maxRecDepth 16384

noncomputable section

namespace Cert.KernelIdeal.Diff

open Cert.KernelIdeal Cert.KernelIdeal.Gen
open Idealize.ShloMosaic Idealize.ShloMosaic.TcCoe
open Idealize.SL.Sem
open Idealize.ShloMosaic.Pipeline (Dat)
open Cert.Soft

variable (m : (ℓ : Loc nD τ sig) → Buf (Elt Ideal) ℓ)

/-- The result at batch `b`, row `q`, column `x`. -/
def resAt (A : FVec Ideal S4x8192x1536 .bf16) (lam : ℝ) (w : FVec Ideal S128 .f32) (b q x : Nat) : EReal :=
  normed (fun e => (diffR A lam b (x / 128) q e.val : EReal)) ⟨x % 128, Nat.mod_lt _ (by decide)⟩ (w (ix1 ⟨x % 128, Nat.mod_lt _ (by decide)⟩))

/-- The result array. -/
def res (A : FVec Ideal S4x8192x1536 .bf16) (lam : ℝ) (w : FVec Ideal S128 .f32) : FVec Ideal S4x8192x512 .f32 :=
  fun y => resAt A lam w (y 0).val (y 1).val (y 2).val

theorem outAt_at (c : Dev nD) (hA : ∀ i, (show FVec Ideal S4x8192x1536 .bf16 from m ((c : Thread nD τ).loc main_arg0)) i ≠ (⊤ : EReal) ∧ (show FVec Ideal S4x8192x1536 .bf16 from m ((c : Thread nD τ).loc main_arg0)) i ≠ (⊥ : EReal))
    (lam : ℝ) (hl : lamOf (show FVec Ideal S4x64 .f32 from m ((c : Thread nD τ).loc main_arg1)) = (lam : EReal)) (t : Fin cfg0.N) (r : Fin 256) (e : Fin 128) :
    (show FVec Ideal S1x256x128 .f32 from outAt (F := Ideal) m c t) (ix3 0 r e)
      = resAt (show FVec Ideal S4x8192x1536 .bf16 from m ((c : Thread nD τ).loc main_arg0)) lam (show FVec Ideal S128 .f32 from m ((c : Thread nD τ).loc main_arg2))
          (grid0.coords t 0).val (256 * (grid0.coords t 2).val + r.val) ((grid0.coords t 1).val * 128 + e.val) := by
  have h0 := c0_lt t
  have h1 := c1_lt t
  have h2 := c2_lt t
  show (show FVec Ideal S1x256x128 .f32 from outBlk (grid0.coords t) ((iblk m c 0 t : Vec Ideal S1 .f32) (Rect.point (Rect.unit (s := S1) ![0] S1.size inb_S1_S1_0) numel1_S1))
    (iblk m c 1 t) (K1 (iblk m c 2 t)) (K2 (iblk m c 2 t)) (VT (iblk m c 3 t)) (iblk m c 4 t)) (ix3 0 r e) = _
  rw [lam_at, hl]
  refine (outBlk_at (grid0.coords t) (grid0.coords t 0).val (show FVec Ideal S4x8192x1536 .bf16 from m ((c : Thread nD τ).loc main_arg0)) (iblk m c 1 t) (iblk m c 2 t) (iblk m c 3 t)
    (fun r d => (q_at m c t r d).trans (ent_eq _ hA _ _ _)) (fun n d => (k_at m c t n d).trans (ent_eq _ hA _ _ _)) (fun n d => (v_at m c t n d).trans (ent_eq _ hA _ _ _)) r lam (iblk m c 4 t) e).trans ?_
  have e1 : ((grid0.coords t 1).val * 128 + e.val) / 128 = (grid0.coords t 1).val := by omega
  have e2 : ((grid0.coords t 1).val * 128 + e.val) % 128 = e.val := by omega
  have e3 : (⟨((grid0.coords t 1).val * 128 + e.val) % 128, Nat.mod_lt _ (by decide)⟩ : Fin 128) = e := Fin.ext e2
  rw [resAt, e1, e3]
  exact congrArg (normed _ e) (sub_at m c t e)

theorem final (c : Dev nD) (hA : ∀ i, (show FVec Ideal S4x8192x1536 .bf16 from m ((c : Thread nD τ).loc main_arg0)) i ≠ (⊤ : EReal) ∧ (show FVec Ideal S4x8192x1536 .bf16 from m ((c : Thread nD τ).loc main_arg0)) i ≠ (⊥ : EReal))
    (lam : ℝ) (hl : lamOf (show FVec Ideal S4x64 .f32 from m ((c : Thread nD τ).loc main_arg1)) = (lam : EReal)) :
    (dats m 0 c).arrAt 5 (cfgs 0).N
      = res (show FVec Ideal S4x8192x1536 .bf16 from m ((c : Thread nD τ).loc main_arg0)) lam (show FVec Ideal S128 .f32 from m ((c : Thread nD τ).loc main_arg2)) := by
  refine (dats m 0 c).arrAt_eq_of_covers 5 _ (by decide +kernel) fun t _ y => ?_
  blk_simp
  rw [after0_5]
  have h0 := c0_lt t
  have h1 := c1_lt t
  have h2 := c2_lt t
  have hy : y = (ix3 0 (y 1) (y 2) : S1x256x128.Idx) := by
    funext a
    fin_cases a
    · exact Fin.ext (by have h : (y 0).val < 1 := (y 0).isLt; show (y 0).val = 0; omega)
    · rfl
    · rfl
  generalize (y 1) = r at hy
  generalize (y 2) = e at hy
  subst hy
  refine (outAt_at m c hA lam hl t r e).trans ?_
  rw [res]
  blk_simp [idx t]
  rw [Nat.mul_comm 256]
  rfl

end Cert.KernelIdeal.Diff

end
-- ==== Proof.RefStages.lean ====
/-
  The reference, cut into stages.
-/
module

public import proofs.«01_k».proof.Proof.Gen.ReferenceIdeal.Run
public import Idealize.ShloMosaic.Lib.Pointwise

@[expose] public section

set_option maxRecDepth 16384

noncomputable section

namespace Cert.ReferenceIdeal.Diff

open Cert.ReferenceIdeal Cert.ReferenceIdeal.Gen
open Idealize.ShloMosaic Idealize.ShloMosaic.TcCoe
open Idealize.SL.Sem

/-! ## The stages -/

/-- The weight of the second softmax. -/
def rLam (arg1 : FVec Ideal S4x64 .f32) : FVec Ideal S_ .f32 :=
  have v7 : FVec Ideal S1x64 .f32 := (extractStridedSlice S1x64 ![0, 0] · slices_S4x64_S1x64_0_0) arg1
  have v8 : FVec Ideal S64 .f32 := shapeCast S64 v7 shapeCasts_S1x64_S64
  have v9 : FVec Ideal S1x64 .f32 := (extractStridedSlice S1x64 ![1, 0] · slices_S4x64_S1x64_1_0) arg1
  have v10 : FVec Ideal S64 .f32 := shapeCast S64 v9 shapeCasts_S1x64_S64
  have v11 : FVec Ideal S64 .f32 := mulf v8 v10
  have cst : FVec Ideal S_ .f32 := constant S_ .f32 0x00000000#32
  have v12 : FVec Ideal S_ .f32 := (fun x v => Host.reduceAdd x v reducesTo_S64_S_d0 h_S_) v11 cst
  have v13 : FVec Ideal S_ .f32 := Host.exp v12
  have v14 : FVec Ideal S1x64 .f32 := (extractStridedSlice S1x64 ![2, 0] · slices_S4x64_S1x64_2_0) arg1
  have v15 : FVec Ideal S64 .f32 := shapeCast S64 v14 shapeCasts_S1x64_S64
  have v16 : FVec Ideal S1x64 .f32 := (extractStridedSlice S1x64 ![3, 0] · slices_S4x64_S1x64_3_0) arg1
  have v17 : FVec Ideal S64 .f32 := shapeCast S64 v16 shapeCasts_S1x64_S64
  have v18 : FVec Ideal S64 .f32 := mulf v15 v17
  have cst_0 : FVec Ideal S_ .f32 := constant S_ .f32 0x00000000#32
  have v19 : FVec Ideal S_ .f32 := (fun x v => Host.reduceAdd x v reducesTo_S64_S_d0 h_S_) v18 cst_0
  have v20 : FVec Ideal S_ .f32 := Host.exp v19
  have v21 : FVec Ideal S_ .f32 := subf v13 v20
  have cst_1 : FVec Ideal S_ .f32 := constant S_ .f32 0x3E4CCCCD#32
  have v22 : FVec Ideal S_ .f32 := addf v21 cst_1
  v22

/-- The slopes of the heads. -/
def rSlope : FVec Ideal S4 .f32 :=
  have v23 : FVec Ideal S4 .f32 := sitofp .f32 (iotaInDim S4 32 0)
  have cst_2 : FVec Ideal S_ .f32 := constant S_ .f32 0x3F800000#32
  have v24 : FVec Ideal S4 .f32 := broadcastInDim S4 ![] bcast_S_S4 cst_2
  have v25 : FVec Ideal S4 .f32 := addf v24 v23
  have cst_3 : FVec Ideal S_ .f32 := constant S_ .f32 0xC1000000#32
  have v26 : FVec Ideal S4 .f32 := broadcastInDim S4 ![] bcast_S_S4 cst_3
  have v27 : FVec Ideal S4 .f32 := mulf v26 v25
  have cst_4 : FVec Ideal S_ .f32 := constant S_ .f32 0x40800000#32
  have v28 : FVec Ideal S4 .f32 := broadcastInDim S4 ![] bcast_S_S4 cst_4
  have v29 : FVec Ideal S4 .f32 := Host.divf v27 v28
  have cst_5 : FVec Ideal S_ .f32 := constant S_ .f32 0x40000000#32
  have v30 : FVec Ideal S4 .f32 := broadcastInDim S4 ![] bcast_S_S4 cst_5
  have v31 : FVec Ideal S4 .f32 := Host.powf v30 v29
  v31

/-- The masked scores with the distance taken off. -/
def rScore (arg0 : FVec Ideal S4x8192x1536 .bf16) (v31 : FVec Ideal S4 .f32) : FVec Ideal S4x4x2x8192x8192 .f32 :=
  have v0 : FVec Ideal S4x8192x1536 .f32 := (extf .f32 · bitsLt_bf16_f32) arg0
  have v1 : FVec Ideal S4x8192x512 .f32 := (extractStridedSlice S4x8192x512 ![0, 0, 0] · slices_S4x8192x1536_S4x8192x512_0_0_0) v0
  have v2 : FVec Ideal S4x8192x4x2x64 .f32 := shapeCast S4x8192x4x2x64 v1 shapeCasts_S4x8192x512_S4x8192x4x2x64
  have v3 : FVec Ideal S4x8192x512 .f32 := (extractStridedSlice S4x8192x512 ![0, 0, 512] · slices_S4x8192x1536_S4x8192x512_0_0_512) v0
  have v4 : FVec Ideal S4x8192x4x2x64 .f32 := shapeCast S4x8192x4x2x64 v3 shapeCasts_S4x8192x512_S4x8192x4x2x64
  have v32 : FVec Ideal S1x4x1x1x1 .f32 := broadcastInDim S1x4x1x1x1 ![1] bcast_S4_S1x4x1x1x1_1 v31
  have v33 : FVec Ideal S4x4x2x8192x8192 .f32 := (fun l r => Host.dotGeneral dot_S4x8192x4x2x64_S4x8192x4x2x64_S4x4x2x8192x8192_4_4_1_1_023_023 none l r) v2 v4
  have v34 : IVec S8192 32 := iotaInDim S8192 32 0
  have v35 : IVec S8192x1 32 := broadcastInDim S8192x1 ![0] bcast_S8192_S8192x1_0 v34
  have v36 : IVec S1x8192 32 := broadcastInDim S1x8192 ![1] bcast_S8192_S1x8192_1 v34
  have v37 : IVec S8192x8192 32 := broadcastInDim S8192x8192 ![0, 1] bcast_S8192x1_S8192x8192_0_1 v35
  have v38 : IVec S8192x8192 32 := broadcastInDim S8192x8192 ![0, 1] bcast_S1x8192_S8192x8192_0_1 v36
  have v39 : IVec S8192x8192 32 := subi v37 v38
  have c : IVec S_ 32 := constantI S_ 32 0#32
  have v40 : IVec S8192x8192 32 := broadcastInDim S8192x8192 ![] bcast_S_S8192x8192 c
  have v41 : IVec S8192x8192 1 := cmpi .sge v39 v40
  have v42 : FVec Ideal S8192x8192 .f32 := sitofp .f32 v39
  have v43 : FVec Ideal S1x1x1x8192x8192 .f32 := broadcastInDim S1x1x1x8192x8192 ![3, 4] bcast_S8192x8192_S1x1x1x8192x8192_3_4 v42
  have v44 : FVec Ideal S1x4x1x8192x8192 .f32 := broadcastInDim S1x4x1x8192x8192 ![0, 1, 2, 3, 4] bcast_S1x4x1x1x1_S1x4x1x8192x8192_0_1_2_3_4 v32
  have v45 : FVec Ideal S1x4x1x8192x8192 .f32 := broadcastInDim S1x4x1x8192x8192 ![0, 1, 2, 3, 4] bcast_S1x1x1x8192x8192_S1x4x1x8192x8192_0_1_2_3_4 v43
  have v46 : FVec Ideal S1x4x1x8192x8192 .f32 := mulf v44 v45
  have v47 : FVec Ideal S4x4x2x8192x8192 .f32 := broadcastInDim S4x4x2x8192x8192 ![0, 1, 2, 3, 4] bcast_S1x4x1x8192x8192_S4x4x2x8192x8192_0_1_2_3_4 v46
  have v48 : FVec Ideal S4x4x2x8192x8192 .f32 := subf v33 v47
  have cst_6 : FVec Ideal S_ .f32 := constant S_ .f32 0xFF800000#32
  have cv0 : FVec Ideal S_ .f32 := id cst_6
  have cv1 : IVec S4x4x2x8192x8192 1 := (broadcastInDim S4x4x2x8192x8192 ![3, 4] bcast_S8192x8192_S4x4x2x8192x8192_3_4) v41
  have cv2 : FVec Ideal S4x4x2x8192x8192 .f32 := (broadcastInDim S4x4x2x8192x8192 ![] bcast_S_S4x4x2x8192x8192) cv0
  have v49 : FVec Ideal S4x4x2x8192x8192 .f32 := select cv1 v48 cv2
  v49

/-- The rows' maxima. -/
def rRed (v49 : FVec Ideal S4x4x2x8192x8192 .f32) (c7 : FVec Ideal S_ .f32) : FVec Ideal S4x4x2x8192 .f32 :=
  Host.reduce (FloatOps.maximumf (F := Ideal) (φ := .f32)) v49 c7 reducesTo_S4x4x2x8192x8192_S4x4x2x8192_d4 h_S_

/-- The same, no less than the first value. -/
def rMax (v50 : FVec Ideal S4x4x2x8192 .f32) : FVec Ideal S4x4x2x8192 .f32 :=
  have cst_8 : FVec Ideal S_ .f32 := constant S_ .f32 0xFF800000#32
  have v51 : FVec Ideal S4x4x2x8192 .f32 := broadcastInDim S4x4x2x8192 ![] bcast_S_S4x4x2x8192 cst_8
  have v52 : FVec Ideal S4x4x2x8192 .f32 := maximumf v51 v50
  v52

/-- The exponentials against the row's maximum. -/
def rExp (v49 : FVec Ideal S4x4x2x8192x8192 .f32) (v52 : FVec Ideal S4x4x2x8192 .f32) : FVec Ideal S4x4x2x8192x8192 .f32 :=
  have v53 : FVec Ideal S4x4x2x8192x1 .f32 := broadcastInDim S4x4x2x8192x1 ![0, 1, 2, 3] bcast_S4x4x2x8192_S4x4x2x8192x1_0_1_2_3 v52
  have v54 : FVec Ideal S4x4x2x8192x8192 .f32 := broadcastInDim S4x4x2x8192x8192 ![0, 1, 2, 3, 4] bcast_S4x4x2x8192x1_S4x4x2x8192x8192_0_1_2_3_4 v53
  have v55 : FVec Ideal S4x4x2x8192x8192 .f32 := subf v49 v54
  have v56 : FVec Ideal S4x4x2x8192x8192 .f32 := Host.exp v55
  v56

/-- The probabilities. -/
def rProb (v56 : FVec Ideal S4x4x2x8192x8192 .f32) : FVec Ideal S4x4x2x8192x8192 .f32 :=
  have cst_9 : FVec Ideal S_ .f32 := constant S_ .f32 0x00000000#32
  have v57 : FVec Ideal S4x4x2x8192 .f32 := (fun x v => Host.reduceAdd x v reducesTo_S4x4x2x8192x8192_S4x4x2x8192_d4 h_S_) v56 cst_9
  have v58 : FVec Ideal S4x4x2x8192x1 .f32 := broadcastInDim S4x4x2x8192x1 ![0, 1, 2, 3] bcast_S4x4x2x8192_S4x4x2x8192x1_0_1_2_3 v57
  have v59 : FVec Ideal S4x4x2x8192x8192 .f32 := broadcastInDim S4x4x2x8192x8192 ![0, 1, 2, 3, 4] bcast_S4x4x2x8192x1_S4x4x2x8192x8192_0_1_2_3_4 v58
  have v60 : FVec Ideal S4x4x2x8192x8192 .f32 := Host.divf v56 v59
  v60

/-- The difference of the two softmaxes applied to the values. -/
def rDiff (arg0 : FVec Ideal S4x8192x1536 .bf16) (v22 : FVec Ideal S_ .f32) (v60 : FVec Ideal S4x4x2x8192x8192 .f32) : FVec Ideal S4x8192x4x128 .f32 :=
  have v0 : FVec Ideal S4x8192x1536 .f32 := (extf .f32 · bitsLt_bf16_f32) arg0
  have v5 : FVec Ideal S4x8192x512 .f32 := (extractStridedSlice S4x8192x512 ![0, 0, 1024] · slices_S4x8192x1536_S4x8192x512_0_0_1024) v0
  have v6 : FVec Ideal S4x8192x4x128 .f32 := shapeCast S4x8192x4x128 v5 shapeCasts_S4x8192x512_S4x8192x4x128
  have v61 : FVec Ideal S4x4x1x8192x8192 .f32 := (extractStridedSlice S4x4x1x8192x8192 ![0, 0, 0, 0, 0] · slices_S4x4x2x8192x8192_S4x4x1x8192x8192_0_0_0_0_0) v60
  have v62 : FVec Ideal S4x4x8192x8192 .f32 := shapeCast S4x4x8192x8192 v61 shapeCasts_S4x4x1x8192x8192_S4x4x8192x8192
  have v63 : FVec Ideal S4x4x1x8192x8192 .f32 := (extractStridedSlice S4x4x1x8192x8192 ![0, 0, 1, 0, 0] · slices_S4x4x2x8192x8192_S4x4x1x8192x8192_0_0_1_0_0) v60
  have v64 : FVec Ideal S4x4x8192x8192 .f32 := shapeCast S4x4x8192x8192 v63 shapeCasts_S4x4x1x8192x8192_S4x4x8192x8192
  have v65 : FVec Ideal S4x4x8192x8192 .f32 := broadcastInDim S4x4x8192x8192 ![] bcast_S_S4x4x8192x8192 v22
  have v66 : FVec Ideal S4x4x8192x8192 .f32 := mulf v65 v64
  have v67 : FVec Ideal S4x4x8192x8192 .f32 := subf v62 v66
  have v68 : FVec Ideal S4x4x128x8192 .f32 := (fun l r => Host.dotGeneral dot_S4x8192x4x128_S4x4x8192x8192_S4x4x128x8192_1_3_3_2_02_01 none l r) v6 v67
  have v69 : FVec Ideal S4x8192x4x128 .f32 := (transpose S4x8192x4x128 [0, 3, 1, 2] · transposes_S4x4x128x8192_S4x8192x4x128_0_3_1_2) v68
  v69

/-- The norm and the scale. -/
def rNorm (v69 : FVec Ideal S4x8192x4x128 .f32) (arg2 : FVec Ideal S128 .f32) : FVec Ideal S4x8192x512 .f32 :=
  have v70 : FVec Ideal S4x8192x4x128 .f32 := mulf v69 v69
  have cst_10 : FVec Ideal S_ .f32 := constant S_ .f32 0x00000000#32
  have v71 : FVec Ideal S4x8192x4 .f32 := (fun x v => Host.reduceAdd x v reducesTo_S4x8192x4x128_S4x8192x4_d3 h_S_) v70 cst_10
  have v72 : FVec Ideal S4x8192x4x1 .f32 := broadcastInDim S4x8192x4x1 ![0, 1, 2] bcast_S4x8192x4_S4x8192x4x1_0_1_2 v71
  have cst_11 : FVec Ideal S_ .f32 := constant S_ .f32 0x43000000#32
  have v73 : FVec Ideal S4x8192x4x1 .f32 := broadcastInDim S4x8192x4x1 ![] bcast_S_S4x8192x4x1 cst_11
  have v74 : FVec Ideal S4x8192x4x1 .f32 := Host.divf v72 v73
  have cst_12 : FVec Ideal S_ .f32 := constant S_ .f32 0x358637BD#32
  have v75 : FVec Ideal S4x8192x4x1 .f32 := broadcastInDim S4x8192x4x1 ![] bcast_S_S4x8192x4x1 cst_12
  have v76 : FVec Ideal S4x8192x4x1 .f32 := addf v74 v75
  have v77 : FVec Ideal S4x8192x4x1 .f32 := Host.rsqrt v76
  have v78 : FVec Ideal S4x8192x4x128 .f32 := broadcastInDim S4x8192x4x128 ![0, 1, 2, 3] bcast_S4x8192x4x1_S4x8192x4x128_0_1_2_3 v77
  have v79 : FVec Ideal S4x8192x4x128 .f32 := mulf v69 v78
  have v80 : FVec Ideal S1x1x1x128 .f32 := broadcastInDim S1x1x1x128 ![3] bcast_S128_S1x1x1x128_3 arg2
  have v81 : FVec Ideal S4x8192x4x128 .f32 := broadcastInDim S4x8192x4x128 ![0, 1, 2, 3] bcast_S1x1x1x128_S4x8192x4x128_0_1_2_3 v80
  have v82 : FVec Ideal S4x8192x4x128 .f32 := mulf v79 v81
  have cst_13 : FVec Ideal S_ .f32 := constant S_ .f32 0x3F4CCCCD#32
  have v83 : FVec Ideal S4x8192x4x128 .f32 := broadcastInDim S4x8192x4x128 ![] bcast_S_S4x8192x4x128 cst_13
  have v84 : FVec Ideal S4x8192x4x128 .f32 := mulf v82 v83
  have v85 : FVec Ideal S4x8192x512 .f32 := shapeCast S4x8192x512 v84 shapeCasts_S4x8192x4x128_S4x8192x512
  v85

theorem res_eq (m : (ℓ : Loc nD τ sig) → Buf (Elt Ideal) ℓ) (c : Dev nD) :
    Value.res_out0 (F := Ideal) m c
      = rNorm (rDiff (m ((c : Thread nD τ).loc main_arg0)) (rLam (m ((c : Thread nD τ).loc main_arg1)))
          (rProb (rExp (rScore (m ((c : Thread nD τ).loc main_arg0)) rSlope) (rMax (rRed (rScore (m ((c : Thread nD τ).loc main_arg0)) rSlope) (constant S_ .f32 0xFF800000#32)))))) (m ((c : Thread nD τ).loc main_arg2)) := rfl

end Cert.ReferenceIdeal.Diff

end
-- ==== Proof.RefRead.lean ====
/-
  The stages of the reference read at an index, in exact arithmetic.
-/
module

public import proofs.«01_k».proof.Proof.RefStages
public import proofs.«01_k».proof.Proof.DiffMath

@[expose] public section

set_option maxRecDepth 16384

noncomputable section

namespace Cert.ReferenceIdeal.Diff

open Cert.ReferenceIdeal Cert.ReferenceIdeal.Gen
open Idealize.ShloMosaic Idealize.ShloMosaic.TcCoe
open Idealize.SL.Sem

theorem fold_last (p : (⟨5, ![4, 4, 2, 8192, 8192]⟩ : Shape).Idx → EReal) (init : S_.Idx → EReal) (b : Fin 4) (h : Fin 4) (u : Fin 2) (q : Fin 8192) :
    Host.reduce (FloatOps.maximumf (F := Ideal) (φ := .f32)) p init reducesTo_S4x4x2x8192x8192_S4x4x2x8192_d4 h_S_ (ix4 b h u q)
      = Finset.univ.fold max (init ix0) (fun x => p (ix5 b h u q x)) := by
  refine (Host.reduce_eq_fold (FloatOps.maximumf (F := Ideal) (φ := .f32)) p init _ _ _).trans ?_
  refine (Shape.ReducesTo.fold_fiber_r5_a4 reducesTo_S4x4x2x8192x8192_S4x4x2x8192_d4 (ix4 b h u q) (FloatOps.maximumf (F := Ideal) (φ := .f32)) (init (Shape.Idx.first h_S_)) p).trans ?_
  have e : init (Shape.Idx.first h_S_) = init ix0 := congrArg init (funext fun a => a.elim0)
  rw [e]
  rfl

theorem rRed_at (s : FVec Ideal S4x4x2x8192x8192 .f32) (c7 : FVec Ideal S_ .f32) (b h : Fin 4) (u : Fin 2) (q : Fin 8192) :
    rRed s c7 (ix4 b h u q) = Finset.univ.fold max (c7 ix0) (fun x => s (ix5 b h u q x)) :=
  fold_last s c7 b h u q

theorem rMax_at (r : FVec Ideal S4x4x2x8192 .f32) (b h : Fin 4) (u : Fin 2) (q : Fin 8192) :
    rMax r (ix4 b h u q) = max (Ideal.ofBits .f32 0xFF800000#32) (r (ix4 b h u q)) := by
  pointwise [rMax]

theorem rExp_at (s : FVec Ideal S4x4x2x8192x8192 .f32) (M : FVec Ideal S4x4x2x8192 .f32) (b h : Fin 4) (u : Fin 2) (q k : Fin 8192) :
    rExp s M (ix5 b h u q k) = Ideal.exp (s (ix5 b h u q k) - M (ix4 b h u q)) := by
  pointwise [rExp]

theorem rProb_at (p : FVec Ideal S4x4x2x8192x8192 .f32) (b h : Fin 4) (u : Fin 2) (q k : Fin 8192) :
    rProb p (ix5 b h u q k) = Ideal.div (p (ix5 b h u q k)) (∑ x : Fin 8192, p (ix5 b h u q x)) := by
  pointwise [rProb]

theorem rScore_at (A : FVec Ideal S4x8192x1536 .bf16) (s : FVec Ideal S4 .f32) (b h : Fin 4) (u : Fin 2) (q k : Fin 8192) :
    rScore A s (ix5 b h u q k)
      = Scalar.select (IntOp.cmpi .sge (IntOp.subi (BitVec.ofNat 32 q.val) (BitVec.ofNat 32 k.val)) 0#32)
          ((∑ x : Fin 64, A (ix3 b q ⟨h.val * 128 + u.val * 64 + x.val, by omega⟩) * A (ix3 b k ⟨512 + (h.val * 128 + u.val * 64 + x.val), by omega⟩))
            - s (ix1 h) * FloatOps.sitofp (F := Ideal) .f32 (IntOp.subi (BitVec.ofNat 32 q.val) (BitVec.ofNat 32 k.val)))
          (Ideal.ofBits .f32 0xFF800000#32) := by
  pointwise [rScore]
  exact congrArg (Scalar.select _ _) rfl

theorem rDiff_at (A : FVec Ideal S4x8192x1536 .bf16) (L : FVec Ideal S_ .f32) (p : FVec Ideal S4x4x2x8192x8192 .f32) (b h : Fin 4) (q : Fin 8192) (e : Fin 128) :
    rDiff A L p (ix4 b q h e)
      = ∑ x : Fin 8192, A (ix3 b x ⟨1024 + (h.val * 128 + e.val), by omega⟩) * (p (ix5 b h 0 q x) - L ix0 * p (ix5 b h 1 q x)) := by
  pointwise [rDiff]

theorem rNorm_at (o : FVec Ideal S4x8192x4x128 .f32) (w : FVec Ideal S128 .f32) (b : Fin 4) (q : Fin 8192) (x : Fin 512) :
    rNorm o w (ix3 b q x)
      = o (ix4 b q ⟨x.val / 128, by omega⟩ ⟨x.val % 128, by omega⟩)
          * Ideal.rsqrt (Ideal.div (∑ e : Fin 128, o (ix4 b q ⟨x.val / 128, by omega⟩ e) * o (ix4 b q ⟨x.val / 128, by omega⟩ e)) (Ideal.ofBits .f32 0x43000000#32) + Ideal.ofBits .f32 0x358637BD#32)
          * w (ix1 ⟨x.val % 128, by omega⟩) * Ideal.ofBits .f32 0x3F4CCCCD#32 := by
  pointwise [rNorm]

theorem rSlope_at (h : Fin 4) :
    rSlope (ix1 h) = Ideal.pow (Ideal.ofBits .f32 0x40000000#32)
      (Ideal.div (Ideal.ofBits .f32 0xC1000000#32 * (1 + FloatOps.sitofp (F := Ideal) .f32 (BitVec.ofNat 32 h.val))) (Ideal.ofBits .f32 0x40800000#32)) := by
  pointwise [rSlope]

theorem rLam_at (L : FVec Ideal S4x64 .f32) :
    rLam L ix0 = Ideal.exp (∑ x : Fin 64, L (ix2 0 x) * L (ix2 1 x)) - Ideal.exp (∑ x : Fin 64, L (ix2 2 x) * L (ix2 3 x)) + Ideal.ofBits .f32 0x3E4CCCCD#32 := by
  pointwise [rLam]

end Cert.ReferenceIdeal.Diff

end
-- ==== Proof.RefValue.lean ====
/-
  The reference's value: the attentions of Proof/DiffMath.lean under the norm.
-/
module

public import proofs.«01_k».proof.Proof.RefRead

@[expose] public section

set_option maxRecDepth 16384

noncomputable section

namespace Cert.ReferenceIdeal.Diff

open Cert.ReferenceIdeal Cert.ReferenceIdeal.Gen
open Idealize.ShloMosaic Idealize.ShloMosaic.TcCoe
open Idealize.SL.Sem
open Cert.Soft

theorem toInt_ofNat (n : Nat) (h : n < 2147483648) : (BitVec.ofNat 32 n).toInt = n := by
  rw [BitVec.toInt_eq_toNat_cond, BitVec.toNat_ofNat]; omega

theorem toInt_sub (q k : Fin 8192) : (IntOp.subi (BitVec.ofNat 32 q.val) (BitVec.ofNat 32 k.val)).toInt = (q.val : Int) - k.val := by
  show (BitVec.ofNat 32 q.val - BitVec.ofNat 32 k.val).toInt = _
  rw [BitVec.toInt_sub, toInt_ofNat _ (by omega), toInt_ofNat _ (by omega)]
  exact Int.bmod_eq_of_le (by omega) (by omega)

theorem sitofp_sub (q k : Fin 8192) :
    (FloatOps.sitofp (F := Ideal) .f32 (IntOp.subi (BitVec.ofNat 32 q.val) (BitVec.ofNat 32 k.val)) : EReal) = (((q.val : ℝ) - (k.val : ℝ) : ℝ) : EReal) := by
  show (((IntOp.subi (BitVec.ofNat 32 q.val) (BitVec.ofNat 32 k.val)).toInt : ℝ) : EReal) = _
  rw [toInt_sub]; push_cast; rfl

theorem sge_ite (q k : Fin 8192) (x y : EReal) :
    Scalar.select (IntOp.cmpi .sge (IntOp.subi (BitVec.ofNat 32 q.val) (BitVec.ofNat 32 k.val)) 0#32) x y = if k ≤ q then x else y := by
  unfold Scalar.select IntOp.cmpi
  simp only [BitVec.sle, toInt_sub]
  by_cases h : k ≤ q
  · have h' : (k.val : Int) ≤ q.val := by exact_mod_cast h
    simp [h, h']
  · have h' : ¬ (k.val : Int) ≤ q.val := by intro h'; exact h (by exact_mod_cast h')
    simp [h, h']

theorem ofBits_bot : Ideal.ofBits .f32 0xFF800000#32 = ⊥ := by
  simp [Ideal.ofBits, Ideal.ieee]

theorem slope_at (h : Fin 4) : rSlope (ix1 h) = (slopeR h.val : EReal) := by
  have e : (FloatOps.sitofp (F := Ideal) .f32 (BitVec.ofNat 32 h.val) : EReal) = ((h.val : ℝ) : EReal) := by
    show (((BitVec.ofNat 32 h.val).toInt : ℝ) : EReal) = _
    rw [toInt_ofNat _ (by omega)]; simp
  have e1 : ((1 : EReal) + ((h.val : ℝ) : EReal)) = (((h.val + 1 : Nat) : ℝ) : EReal) := by
    rw [show (1 : EReal) = ((1 : ℝ) : EReal) from rfl, ← EReal.coe_add]; congr 1; push_cast; ring
  rw [rSlope_at, e, e1, ofBits_neg8, ofBits_4, ofBits_2, ← EReal.coe_mul, div_real _ _ (by norm_num), Ideal.pow_coe_coe]
  rfl

variable (A : FVec Ideal S4x8192x1536 .bf16) (hA : ∀ i, A i ≠ ⊤ ∧ A i ≠ ⊥)

/-- A score before the mask. -/
def tau (b h : Fin 4) (u : Fin 2) (q k : Fin 8192) : ℝ :=
  dotR A b.val h.val u.val q.val k.val - slopeR h.val * ((q.val : ℝ) - (k.val : ℝ))

include hA in
theorem score_real (b h : Fin 4) (u : Fin 2) (q : Fin 8192) :
    (fun k => rScore A rSlope (ix5 b h u q k)) = masked (fun k => k ≤ q) (tau A b h u q) := by
  funext k
  rw [rScore_at, sge_ite, ofBits_bot, slope_at, sitofp_sub, masked]
  have e : (∑ x : Fin 64, A (ix3 b q ⟨h.val * 128 + u.val * 64 + x.val, by omega⟩) * A (ix3 b k ⟨512 + (h.val * 128 + u.val * 64 + x.val), by omega⟩))
      = (dotR A b.val h.val u.val q.val k.val : EReal) := by
    rw [dotR, ← coe_sum]
    refine Finset.sum_congr rfl fun x _ => ?_
    rw [ent_eq A hA, ent_eq A hA, ← EReal.coe_mul]
  rw [e, ← EReal.coe_mul, ← EReal.coe_sub]
  rfl

/-- The reference's probabilities. -/
abbrev prob : FVec Ideal S4x4x2x8192x8192 .f32 :=
  rProb (rExp (rScore A rSlope) (rMax (rRed (rScore A rSlope) (constant S_ .f32 0xFF800000#32))))

include hA in
theorem prob_real (b h : Fin 4) (u : Fin 2) (q k : Fin 8192) :
    prob A (ix5 b h u q k)
      = (((if k ≤ q then Real.exp (tau A b h u q k) else 0) / ∑ x : Fin 8192, (if x ≤ q then Real.exp (tau A b h u q x) else 0) : ℝ) : EReal) := by
  have hc : (constant S_ .f32 0xFF800000#32 : FVec Ideal S_ .f32) ix0 = ⊥ := ofBits_bot
  have hs : ∀ x, rScore A rSlope (ix5 b h u q x) = masked (fun k => k ≤ q) (tau A b h u q) x := fun x => congrFun (score_real A hA b h u q) x
  rw [prob, rProb_at]
  simp only [rExp_at, rMax_at, rRed_at, hc, ofBits_bot, hs]
  exact row_softmax (fun k => k ≤ q) (tau A b h u q) q (le_refl q) _ rfl k

include hA in
theorem diff_real (L : FVec Ideal S_ .f32) (lam : ℝ) (hL : L ix0 = (lam : EReal)) (b h : Fin 4) (q : Fin 8192) (e : Fin 128) :
    rDiff A L (prob A) (ix4 b q h e) = (diffR A lam b.val h.val q.val e.val : EReal) := by
  rw [rDiff_at]
  simp only [prob_real A hA, hL, ent_eq A hA, ← EReal.coe_mul, ← EReal.coe_sub]
  rw [coe_sum]
  refine congrArg _ ?_
  rw [diffR, ← att_row A b.val h.val 0 q e.val, ← att_row A b.val h.val 1 q e.val, Finset.mul_sum, ← Finset.sum_sub_distrib]
  refine Finset.sum_congr rfl fun x _ => ?_
  have v0 : (0 : Fin 2).val = 0 := rfl
  have v1 : (1 : Fin 2).val = 1 := rfl
  simp only [tau, v0, v1]
  rw [mul_sub]
  exact congrArg₂ (fun x y : ℝ => x - y) rfl (mul_left_comm _ _ _)

theorem lam_real (L : FVec Ideal S4x64 .f32) (hL : ∀ i, L i ≠ ⊤ ∧ L i ≠ ⊥) : ∃ r : ℝ, rLam L ix0 = (r : EReal) := by
  have e : ∀ i, L i = ((L i).toReal : EReal) := fun i => (EReal.coe_toReal (hL i).1 (hL i).2).symm
  obtain ⟨r, hr⟩ := ofBits_lam
  rw [rLam_at, hr]
  have s : ∀ a b : Fin 4, (∑ x : Fin 64, L (ix2 a x) * L (ix2 b x)) = ((∑ x : Fin 64, (L (ix2 a x)).toReal * (L (ix2 b x)).toReal : ℝ) : EReal) := fun a b => by
    rw [← coe_sum]
    refine Finset.sum_congr rfl fun x _ => ?_
    rw [EReal.coe_mul, ← e, ← e]
  rw [s 0 1, s 2 3, Ideal.exp_coe, Ideal.exp_coe, ← EReal.coe_sub, ← EReal.coe_add]
  exact ⟨_, rfl⟩

end Cert.ReferenceIdeal.Diff

end
-- ==== Proof.Agree.lean ====
/-
  The reference's result is the kernel's result array.
-/
module

public import proofs.«01_k».proof.Proof.DiffValue
public import proofs.«01_k».proof.Proof.RefValue

@[expose] public section

set_option maxRecDepth 16384

noncomputable section

namespace Cert.Agree

open Idealize.ShloMosaic Idealize.ShloMosaic.TcCoe
open Idealize.SL.Sem
open Cert.Soft

/-- The kernel's lambda is the reference's. -/
theorem lam_eq (L : FVec Ideal Cert.KernelIdeal.S4x64 .f32) : Cert.KernelIdeal.Diff.lamOf L = Cert.ReferenceIdeal.Diff.rLam L ix0 :=
  (Cert.ReferenceIdeal.Diff.rLam_at L).symm

/-- On real activations and a real lambda the reference computes the array that the kernel writes. -/
theorem ref_res (A : FVec Ideal Cert.ReferenceIdeal.S4x8192x1536 .bf16) (L : FVec Ideal Cert.ReferenceIdeal.S4x64 .f32) (w : FVec Ideal Cert.ReferenceIdeal.S128 .f32)
    (hA : ∀ i, A i ≠ (⊤ : EReal) ∧ A i ≠ (⊥ : EReal)) (lam : ℝ) (hL : Cert.ReferenceIdeal.Diff.rLam L ix0 = (lam : EReal)) :
    Cert.ReferenceIdeal.Diff.rNorm (Cert.ReferenceIdeal.Diff.rDiff A (Cert.ReferenceIdeal.Diff.rLam L) (Cert.ReferenceIdeal.Diff.prob A)) w
      = Cert.KernelIdeal.Diff.res A lam w := by
  funext y
  have hy : y = (ix3 (y 0) (y 1) (y 2) : Cert.ReferenceIdeal.S4x8192x512.Idx) := by
    funext a
    fin_cases a <;> rfl
  generalize (y 0) = b at hy
  generalize (y 1) = q at hy
  generalize (y 2) = x at hy
  subst hy
  have d : ∀ (h : Fin 4) (e : Fin 128), Cert.ReferenceIdeal.Diff.rDiff A (Cert.ReferenceIdeal.Diff.rLam L) (Cert.ReferenceIdeal.Diff.prob A) (ix4 b q h e)
      = (diffR A lam b.val h.val q.val e.val : EReal) := fun h e => Cert.ReferenceIdeal.Diff.diff_real A hA (Cert.ReferenceIdeal.Diff.rLam L) lam hL b h q e
  generalize Cert.ReferenceIdeal.Diff.rDiff A (Cert.ReferenceIdeal.Diff.rLam L) (Cert.ReferenceIdeal.Diff.prob A) = o at d
  refine (Cert.ReferenceIdeal.Diff.rNorm_at o w b q x).trans ?_
  simp only [d]
  rw [mul_assoc]
  rfl

end Cert.Agree

end
-- ==== Proof.MixValue.lean ====
/-
  The output projection: what a block of the kernel computes, and its result array.
-/
module

public import proofs.«01_k».proof.Proof.Gen.MixIdeal.Value
public import Idealize.ShloMosaic.Lib.Pipeline.ValueKit
public import Idealize.ShloMosaic.Lib.Claim
public import Idealize.ShloMosaic.Lib.Pointwise

@[expose] public section

set_option maxRecDepth 16384

noncomputable section

namespace Cert.MixIdeal.Mix

open Cert.MixIdeal Cert.MixIdeal.Gen
open Idealize.ShloMosaic Idealize.ShloMosaic.TcCoe
open Idealize.SL.Sem
open Idealize.ShloMosaic.Pipeline (Dat)

variable (m : (ℓ : Loc nD τ sig) → Buf (Elt Ideal) ℓ)

/-- An output of a mixer times the gate: `o * (z * logistic z)`. -/
def gated (o z : EReal) : EReal := o * (z * Ideal.logistic z)

theorem pay_at (za zb oa ob : Vec Ideal S512x512 .f32) (x : Vec Ideal S512x1024 .f32) (wa wb : Vec Ideal S512x1024 .bf16) (r : Fin 512) (e : Fin 1024) :
    k0_pay1 (F := Ideal) za zb oa ob x wa wb (ix2 r e)
      = x (ix2 r e) + (∑ k : Fin 512, gated (oa (ix2 r k)) (za (ix2 r k)) * wa (ix2 k e)) + ∑ k : Fin 512, gated (ob (ix2 r k)) (zb (ix2 r k)) * wb (ix2 k e) := by
  pointwise [k0_pay1, gated]

/-- The result at row `r`, column `e`. -/
def resAt (x : FVec Ideal S32768x1024 .f32) (oa ob : FVec Ideal S32768x512 .f32) (z : FVec Ideal S32768x1536 .f32) (w : FVec Ideal S1024x1024 .f32)
    (r : Fin 32768) (e : Fin 1024) : EReal :=
  x (ix2 r e) + (∑ k : Fin 512, gated (oa (ix2 r k)) (z (ix2 r ⟨k.val, by omega⟩)) * w (ix2 ⟨k.val, by omega⟩ e))
    + ∑ k : Fin 512, gated (ob (ix2 r k)) (z (ix2 r ⟨512 + k.val, by omega⟩)) * w (ix2 ⟨512 + k.val, by omega⟩ e)

/-- The result array. -/
def res (x : FVec Ideal S32768x1024 .f32) (oa ob : FVec Ideal S32768x512 .f32) (z : FVec Ideal S32768x1536 .f32) (w : FVec Ideal S1024x1024 .f32) : FVec Ideal S32768x1024 .f32 :=
  fun y => resAt x oa ob z w (y 0) (y 1)

theorem idx : ∀ t : Fin cfg0.N,
    win0_0.index t = ![(grid0.coords t 0).val, 0] ∧ win0_1.index t = ![(grid0.coords t 0).val, 0] ∧ win0_2.index t = ![(grid0.coords t 0).val, 0]
      ∧ win0_3.index t = ![(grid0.coords t 0).val, 0] ∧ win0_4.index t = ![(grid0.coords t 0).val, 1] ∧ win0_5.index t = ![0, 0] ∧ win0_6.index t = ![0, 0]
      ∧ win0_7.index t = ![(grid0.coords t 0).val, 0] ∧ (grid0.coords t 0).val < 64 :=
  (by decide +kernel : ∀ t : Fin grid0.N, _)

theorem c0_lt (t : Fin cfg0.N) : (grid0.coords t 0).val < 64 := (idx t).2.2.2.2.2.2.2.2

theorem x_at (c : Dev nD) (t : Fin cfg0.N) (r : Fin 512) (e : Fin 1024) :
    (show FVec Ideal S512x1024 .f32 from iblk m c 0 t) (ix2 r e)
      = (show FVec Ideal S32768x1024 .f32 from m ((c : Thread nD τ).loc main_arg0)) (ix2 ⟨512 * (grid0.coords t 0).val + r.val, by have := c0_lt t; omega⟩ e) := by
  have h0 := c0_lt t
  blk_ext [iblk, V, idx t]
theorem oa_at (c : Dev nD) (t : Fin cfg0.N) (r : Fin 512) (k : Fin 512) :
    (show FVec Ideal S512x512 .f32 from iblk m c 1 t) (ix2 r k)
      = (show FVec Ideal S32768x512 .f32 from m ((c : Thread nD τ).loc main_arg1)) (ix2 ⟨512 * (grid0.coords t 0).val + r.val, by have := c0_lt t; omega⟩ k) := by
  have h0 := c0_lt t
  blk_ext [iblk, V, idx t]
theorem ob_at (c : Dev nD) (t : Fin cfg0.N) (r : Fin 512) (k : Fin 512) :
    (show FVec Ideal S512x512 .f32 from iblk m c 2 t) (ix2 r k)
      = (show FVec Ideal S32768x512 .f32 from m ((c : Thread nD τ).loc main_arg2)) (ix2 ⟨512 * (grid0.coords t 0).val + r.val, by have := c0_lt t; omega⟩ k) := by
  have h0 := c0_lt t
  blk_ext [iblk, V, idx t]
theorem za_at (c : Dev nD) (t : Fin cfg0.N) (r : Fin 512) (k : Fin 512) :
    (show FVec Ideal S512x512 .f32 from iblk m c 3 t) (ix2 r k)
      = (show FVec Ideal S32768x1536 .f32 from m ((c : Thread nD τ).loc main_arg3)) (ix2 ⟨512 * (grid0.coords t 0).val + r.val, by have := c0_lt t; omega⟩ ⟨k.val, by omega⟩) := by
  have h0 := c0_lt t
  blk_ext [iblk, V, idx t]
theorem zb_at (c : Dev nD) (t : Fin cfg0.N) (r : Fin 512) (k : Fin 512) :
    (show FVec Ideal S512x512 .f32 from iblk m c 4 t) (ix2 r k)
      = (show FVec Ideal S32768x1536 .f32 from m ((c : Thread nD τ).loc main_arg3)) (ix2 ⟨512 * (grid0.coords t 0).val + r.val, by have := c0_lt t; omega⟩ ⟨512 + k.val, by omega⟩) := by
  have h0 := c0_lt t
  blk_ext [iblk, V, idx t]
theorem wa_at (c : Dev nD) (t : Fin cfg0.N) (k : Fin 512) (e : Fin 1024) :
    (show FVec Ideal S512x1024 .bf16 from iblk m c 5 t) (ix2 k e)
      = (show FVec Ideal S1024x1024 .f32 from m ((c : Thread nD τ).loc main_arg4)) (ix2 ⟨k.val, by omega⟩ e) := by
  blk_point [iblk, V, idx t]
theorem wb_at (c : Dev nD) (t : Fin cfg0.N) (k : Fin 512) (e : Fin 1024) :
    (show FVec Ideal S512x1024 .bf16 from iblk m c 6 t) (ix2 k e)
      = (show FVec Ideal S1024x1024 .f32 from m ((c : Thread nD τ).loc main_arg4)) (ix2 ⟨512 + k.val, by omega⟩ e) := by
  blk_point [iblk, V, idx t]

theorem out_eq (x0 : Vec Ideal S512x1024 .f32) (x1 x2 x3 x4 : Vec Ideal S512x512 .f32) (x5 x6 : Vec Ideal S512x1024 .bf16) :
    out0_7 (F := Ideal) x0 x1 x2 x3 x4 x5 x6 = k0_pay1 (F := Ideal) x3 x4 x1 x2 x0 x5 x6 := by
  have z : (![0, 0] : Fin 2 → Nat) = fun _ => 0 := by
    funext a
    fin_cases a <;> rfl
  unfold out0_7
  refine (View.canon_unit_zero z inb_S512x1024_S512x1024_0_0 _).trans ?_
  have l1 : ∀ {ε : EltTy} (x : Vec Ideal S512x1024 ε), View.ld x r0_1 = x := fun x => View.ld_unit_zero z inb_S512x1024_S512x1024_0_0 x
  have l0 : ∀ {ε : EltTy} (x : Vec Ideal S512x512 ε), View.ld x r0_0 = x := fun x => View.ld_unit_zero z inb_S512x512_S512x512_0_0 x
  rw [l0, l0, l0, l0, l1, l1, l1]

theorem out_at (c : Dev nD) (t : Fin cfg0.N) (r : Fin 512) (e : Fin 1024) :
    (show FVec Ideal S512x1024 .f32 from out0_7 (F := Ideal) (iblk m c 0 t) (iblk m c 1 t) (iblk m c 2 t) (iblk m c 3 t) (iblk m c 4 t) (iblk m c 5 t) (iblk m c 6 t)) (ix2 r e)
      = resAt (show FVec Ideal S32768x1024 .f32 from m ((c : Thread nD τ).loc main_arg0)) (show FVec Ideal S32768x512 .f32 from m ((c : Thread nD τ).loc main_arg1))
          (show FVec Ideal S32768x512 .f32 from m ((c : Thread nD τ).loc main_arg2)) (show FVec Ideal S32768x1536 .f32 from m ((c : Thread nD τ).loc main_arg3))
          (show FVec Ideal S1024x1024 .f32 from m ((c : Thread nD τ).loc main_arg4)) ⟨512 * (grid0.coords t 0).val + r.val, by have := c0_lt t; omega⟩ e := by
  refine (congrFun (out_eq _ _ _ _ _ _ _) (ix2 r e)).trans ((pay_at _ _ _ _ _ _ _ r e).trans ?_)
  rw [resAt]
  refine congrArg₂ (· + ·) (congrArg₂ (· + ·) (x_at m c t r e) (Finset.sum_congr rfl fun k _ => ?_)) (Finset.sum_congr rfl fun k _ => ?_)
  · exact congrArg₂ (· * ·) (congrArg₂ gated (oa_at m c t r k) (za_at m c t r k)) (wa_at m c t k e)
  · exact congrArg₂ (· * ·) (congrArg₂ gated (ob_at m c t r k) (zb_at m c t r k)) (wb_at m c t k e)

theorem final (c : Dev nD) :
    (dats m 0 c).arrAt 7 cfg0.N
      = res (show FVec Ideal S32768x1024 .f32 from m ((c : Thread nD τ).loc main_arg0)) (show FVec Ideal S32768x512 .f32 from m ((c : Thread nD τ).loc main_arg1))
          (show FVec Ideal S32768x512 .f32 from m ((c : Thread nD τ).loc main_arg2)) (show FVec Ideal S32768x1536 .f32 from m ((c : Thread nD τ).loc main_arg3))
          (show FVec Ideal S1024x1024 .f32 from m ((c : Thread nD τ).loc main_arg4)) := by
  refine (dats m 0 c).arrAt_eq_of_covers 7 _ (by decide +kernel) fun t _ y => ?_
  blk_simp
  rw [after0_7]
  have h0 := c0_lt t
  have hy : y = (ix2 (y 0) (y 1) : S512x1024.Idx) := by
    funext a
    fin_cases a <;> rfl
  generalize (y 0) = r at hy
  generalize (y 1) = e at hy
  subst hy
  refine (out_at m c t r e).trans ?_
  rw [res]
  blk_simp [idx t]
  refine congrArg₂ (resAt _ _ _ _ _) (Fin.ext ?_) (Fin.ext ?_)
  · show 512 * (grid0.coords t 0).val + r.val = _
    blk_simp [idx t]
    rw [Nat.mul_comm]
  · blk_simp [idx t]

end Cert.MixIdeal.Mix

end
-- ==== Proof.MixRef.lean ====
/-
  The output projection: the reference's array is the kernel's.
-/
module

public import proofs.«01_k».proof.Proof.MixValue
public import proofs.«01_k».proof.Proof.Gen.MixReferenceIdeal.Run

@[expose] public section

set_option maxRecDepth 16384

noncomputable section

namespace Cert.MixReferenceIdeal.Mix

open Cert.MixReferenceIdeal Cert.MixReferenceIdeal.Gen
open Idealize.ShloMosaic Idealize.ShloMosaic.TcCoe
open Cert.MixIdeal.Mix (gated resAt res)

/-- A mixer's output times the gate of its columns. -/
def rGate (o z : FVec Ideal S32768x512 .f32) : FVec Ideal S32768x512 .f32 :=
  mulf o (mulf z (Host.divf (broadcastInDim S32768x512 ![] bcast_S_S32768x512 (constant S_ .f32 0x3F800000#32))
    (addf (broadcastInDim S32768x512 ![] bcast_S_S32768x512 (constant S_ .f32 0x3F800000#32)) (Host.exp (Host.negf z)))))

/-- The two gated outputs side by side. -/
def rCat (a b : FVec Ideal S32768x512 .f32) : FVec Ideal S32768x1024 .f32 :=
  concatenate S32768x1024 1 [⟨S32768x512, a⟩, ⟨S32768x512, b⟩] concatenates_S32768x512_S32768x512_S32768x1024_d1

/-- The reference's array. -/
def rMix (x : FVec Ideal S32768x1024 .f32) (oa ob : FVec Ideal S32768x512 .f32) (z : FVec Ideal S32768x1536 .f32) (w : FVec Ideal S1024x1024 .f32) : FVec Ideal S32768x1024 .f32 :=
  addf x (Host.dotGeneral dot_S32768x1024_S1024x1024_S32768x1024_1_0_0_1_n_n none
    (rCat (rGate oa (extractStridedSlice S32768x512 ![0, 0] z slices_S32768x1536_S32768x512_0_0))
      (rGate ob (extractStridedSlice S32768x512 ![0, 512] z slices_S32768x1536_S32768x512_0_512))) w)

theorem rGate_at (o z : FVec Ideal S32768x512 .f32) (r : Fin 32768) (k : Fin 512) : rGate o z (ix2 r k) = gated (o (ix2 r k)) (z (ix2 r k)) := by
  have e : Ideal.ofBits .f32 0x3F800000#32 = 1 := by
    have u : Ideal.ofBits .f32 0x3F800000#32 = ((1 : ℝ) : EReal) := by
      simp [Ideal.ofBits, Ideal.ieee, -EReal.coe_mul, -EReal.coe_neg]; norm_num
    exact u.trans EReal.coe_one
  rw [gated, Ideal.logistic, ← e]
  pointwise [rGate]

theorem rCat_left (a b : FVec Ideal S32768x512 .f32) (r : Fin 32768) (k : Fin 512) : rCat a b (ix2 r ⟨k.val, by omega⟩) = a (ix2 r k) := by
  pointwise [rCat]

theorem rCat_right (a b : FVec Ideal S32768x512 .f32) (r : Fin 32768) (k : Fin 512) : rCat a b (ix2 r ⟨512 + k.val, by omega⟩) = b (ix2 r k) := by
  pointwise [rCat]

theorem rMix_at (x : FVec Ideal S32768x1024 .f32) (c : FVec Ideal S32768x1024 .f32) (w : FVec Ideal S1024x1024 .f32) (r : Fin 32768) (e : Fin 1024) :
    addf x (Host.dotGeneral dot_S32768x1024_S1024x1024_S32768x1024_1_0_0_1_n_n none c w) (ix2 r e)
      = x (ix2 r e) + ∑ k : Fin 1024, c (ix2 r k) * w (ix2 k e) := by
  pointwise []

theorem sum_halves (f : Fin 1024 → EReal) : ∑ k, f k = (∑ k : Fin 512, f ⟨k.val, by omega⟩) + ∑ k : Fin 512, f ⟨512 + k.val, by omega⟩ :=
  Fin.sum_univ_add (a := 512) (b := 512) f

theorem slice_lo (z : FVec Ideal S32768x1536 .f32) (r : Fin 32768) (k : Fin 512) :
    extractStridedSlice S32768x512 ![0, 0] z slices_S32768x1536_S32768x512_0_0 (ix2 r k) = z (ix2 r ⟨k.val, by omega⟩) := by
  pointwise []
theorem slice_hi (z : FVec Ideal S32768x1536 .f32) (r : Fin 32768) (k : Fin 512) :
    extractStridedSlice S32768x512 ![0, 512] z slices_S32768x1536_S32768x512_0_512 (ix2 r k) = z (ix2 r ⟨512 + k.val, by omega⟩) := by
  pointwise []

/-- The reference's array is the kernel's: one product over 1024 columns is the sum of the products over its halves. -/
theorem rMix_eq (x : FVec Ideal S32768x1024 .f32) (oa ob : FVec Ideal S32768x512 .f32) (z : FVec Ideal S32768x1536 .f32) (w : FVec Ideal S1024x1024 .f32) :
    rMix x oa ob z w = res x oa ob z w := by
  funext y
  have hy : y = (ix2 (y 0) (y 1) : S32768x1024.Idx) := by
    funext a
    fin_cases a <;> rfl
  generalize (y 0) = r at hy
  generalize (y 1) = e at hy
  subst hy
  refine (rMix_at _ _ _ r e).trans ?_
  refine (congrArg (_ + ·) (sum_halves _)).trans ((add_assoc _ _ _).symm.trans ?_)
  refine congrArg₂ (· + ·) (congrArg (_ + ·) (Finset.sum_congr rfl fun k _ => congrArg (· * _) ?_)) (Finset.sum_congr rfl fun k _ => congrArg (· * _) ?_)
  · exact (rCat_left _ _ r k).trans ((rGate_at _ _ r k).trans (congrArg (gated _) (slice_lo z r k)))
  · exact (rCat_right _ _ r k).trans ((rGate_at _ _ r k).trans (congrArg (gated _) (slice_hi z r k)))

end Cert.MixReferenceIdeal.Mix

end
-- ==== Proof.EvenMix.lean ====
/-
  The even layer's output projection: the odd layer's call on other columns of the gates' array. The result
  array of the kernel, and the reference's.
-/
module

public import proofs.«01_k».proof.Proof.MixRef
public import proofs.«01_k».proof.Proof.Gen.EvenIdeal.Value
public import proofs.«01_k».proof.Proof.Gen.EvenReferenceIdeal.Run

@[expose] public section

set_option maxRecDepth 16384

noncomputable section

namespace Cert.EvenIdeal.Mix

open Cert.EvenIdeal Cert.EvenIdeal.Gen
open Idealize.ShloMosaic Idealize.ShloMosaic.TcCoe
open Idealize.SL.Sem
open Idealize.ShloMosaic.Pipeline (Dat)
open Cert.MixIdeal.Mix (gated pay_at res resAt)
open Cert.MixReferenceIdeal.Mix (rGate rCat rMix_eq rMix)

/-- The two gates' columns, 1536 to 2559, with which the odd layer's result is the even layer's; the 512 columns after them do not matter. -/
def gates (z : FVec Ideal S32768x2560 .f32) : FVec Ideal Cert.MixIdeal.S32768x1536 .f32 :=
  fun y => if h : (y 1).val < 1024 then z (ix2 (y 0) ⟨1536 + (y 1).val, by omega⟩) else 0

theorem gates_at (z : FVec Ideal S32768x2560 .f32) (r : Fin 32768) (k : Fin 1536) (h : k.val < 1024) : gates z (ix2 r k) = z (ix2 r ⟨1536 + k.val, by omega⟩) :=
  dif_pos h

/-! ## The kernel -/

section Kernel

variable (m : (ℓ : Loc nD τ sig) → Buf (Elt Ideal) ℓ)

theorem idx : ∀ t : Fin cfg0.N,
    win0_0.index t = ![(grid0.coords t 0).val, 0] ∧ win0_1.index t = ![(grid0.coords t 0).val, 0] ∧ win0_2.index t = ![(grid0.coords t 0).val, 0]
      ∧ win0_3.index t = ![(grid0.coords t 0).val, 3] ∧ win0_4.index t = ![(grid0.coords t 0).val, 4] ∧ win0_5.index t = ![0, 0] ∧ win0_6.index t = ![0, 0]
      ∧ win0_7.index t = ![(grid0.coords t 0).val, 0] ∧ (grid0.coords t 0).val < 64 :=
  (by decide +kernel : ∀ t : Fin grid0.N, _)

theorem c0_lt (t : Fin cfg0.N) : (grid0.coords t 0).val < 64 := (idx t).2.2.2.2.2.2.2.2

/-- The row of the arrays that is row `r` of the blocks of point `t`. -/
def row (t : Fin cfg0.N) (r : Fin 512) : Fin 32768 := ⟨512 * (grid0.coords t 0).val + r.val, by have := c0_lt t; omega⟩

theorem x_at (c : Dev nD) (t : Fin cfg0.N) (r : Fin 512) (e : Fin 1024) :
    (show FVec Ideal S512x1024 .f32 from iblk m c 0 t) (ix2 r e)
      = (show FVec Ideal S32768x1024 .f32 from m ((c : Thread nD τ).loc main_arg0)) (ix2 (row t r) e) := by
  have h0 := c0_lt t
  unfold row
  blk_ext [iblk, V, idx t]
theorem oa_at (c : Dev nD) (t : Fin cfg0.N) (r : Fin 512) (k : Fin 512) :
    (show FVec Ideal S512x512 .f32 from iblk m c 1 t) (ix2 r k)
      = (show FVec Ideal S32768x512 .f32 from m ((c : Thread nD τ).loc main_arg1)) (ix2 (row t r) k) := by
  have h0 := c0_lt t
  unfold row
  blk_ext [iblk, V, idx t]
theorem ob_at (c : Dev nD) (t : Fin cfg0.N) (r : Fin 512) (k : Fin 512) :
    (show FVec Ideal S512x512 .f32 from iblk m c 2 t) (ix2 r k)
      = (show FVec Ideal S32768x512 .f32 from m ((c : Thread nD τ).loc main_arg2)) (ix2 (row t r) k) := by
  have h0 := c0_lt t
  unfold row
  blk_ext [iblk, V, idx t]
theorem za_at (c : Dev nD) (t : Fin cfg0.N) (r : Fin 512) (k : Fin 512) :
    (show FVec Ideal S512x512 .f32 from iblk m c 3 t) (ix2 r k)
      = gates (show FVec Ideal S32768x2560 .f32 from m ((c : Thread nD τ).loc main_arg3)) (ix2 (row t r) ⟨k.val, by omega⟩) := by
  have h0 := c0_lt t
  refine Eq.trans ?_ (gates_at _ (row t r) ⟨k.val, by omega⟩ (by show k.val < 1024; omega)).symm
  unfold row
  blk_ext [iblk, V, idx t]
theorem zb_at (c : Dev nD) (t : Fin cfg0.N) (r : Fin 512) (k : Fin 512) :
    (show FVec Ideal S512x512 .f32 from iblk m c 4 t) (ix2 r k)
      = gates (show FVec Ideal S32768x2560 .f32 from m ((c : Thread nD τ).loc main_arg3)) (ix2 (row t r) ⟨512 + k.val, by omega⟩) := by
  have h0 := c0_lt t
  refine Eq.trans ?_ (gates_at _ (row t r) ⟨512 + k.val, by omega⟩ (by show 512 + k.val < 1024; omega)).symm
  unfold row
  blk_ext [iblk, V, idx t]
theorem wa_at (c : Dev nD) (t : Fin cfg0.N) (k : Fin 512) (e : Fin 1024) :
    (show FVec Ideal S512x1024 .bf16 from iblk m c 5 t) (ix2 k e)
      = (show FVec Ideal S1024x1024 .f32 from m ((c : Thread nD τ).loc main_arg4)) (ix2 ⟨k.val, by omega⟩ e) := by
  blk_point [iblk, V, idx t]
theorem wb_at (c : Dev nD) (t : Fin cfg0.N) (k : Fin 512) (e : Fin 1024) :
    (show FVec Ideal S512x1024 .bf16 from iblk m c 6 t) (ix2 k e)
      = (show FVec Ideal S1024x1024 .f32 from m ((c : Thread nD τ).loc main_arg4)) (ix2 ⟨512 + k.val, by omega⟩ e) := by
  blk_point [iblk, V, idx t]

/-- What a point leaves in its block is what a point of the odd layer's call leaves. -/
theorem out_eq (x0 : Vec Ideal S512x1024 .f32) (x1 x2 x3 x4 : Vec Ideal S512x512 .f32) (x5 x6 : Vec Ideal S512x1024 .bf16) :
    out0_7 (F := Ideal) x0 x1 x2 x3 x4 x5 x6 = Cert.MixIdeal.Gen.k0_pay1 (F := Ideal) x3 x4 x1 x2 x0 x5 x6 :=
  (show out0_7 (F := Ideal) x0 x1 x2 x3 x4 x5 x6 = Cert.MixIdeal.Gen.out0_7 (F := Ideal) x0 x1 x2 x3 x4 x5 x6 from rfl).trans
    (Cert.MixIdeal.Mix.out_eq x0 x1 x2 x3 x4 x5 x6)

/-- The result array, from the memory at the start. -/
def left (c : Dev nD) : FVec Ideal S32768x1024 .f32 :=
  res (show FVec Ideal S32768x1024 .f32 from m ((c : Thread nD τ).loc main_arg0)) (show FVec Ideal S32768x512 .f32 from m ((c : Thread nD τ).loc main_arg1))
    (show FVec Ideal S32768x512 .f32 from m ((c : Thread nD τ).loc main_arg2)) (gates (show FVec Ideal S32768x2560 .f32 from m ((c : Thread nD τ).loc main_arg3)))
    (show FVec Ideal S1024x1024 .f32 from m ((c : Thread nD τ).loc main_arg4))

theorem out_at (c : Dev nD) (t : Fin cfg0.N) (r : Fin 512) (e : Fin 1024) :
    (show FVec Ideal S512x1024 .f32 from out0_7 (F := Ideal) (iblk m c 0 t) (iblk m c 1 t) (iblk m c 2 t) (iblk m c 3 t) (iblk m c 4 t) (iblk m c 5 t) (iblk m c 6 t)) (ix2 r e)
      = left m c (ix2 (row t r) e) := by
  refine (congrFun (out_eq _ _ _ _ _ _ _) (ix2 r e)).trans ((pay_at _ _ _ _ _ _ _ r e).trans ?_)
  refine congrArg₂ (· + ·) (congrArg₂ (· + ·) (x_at m c t r e) (Finset.sum_congr rfl fun k _ => ?_)) (Finset.sum_congr rfl fun k _ => ?_)
  · exact congrArg₂ (· * ·) (congrArg₂ gated (oa_at m c t r k) (za_at m c t r k)) (wa_at m c t k e)
  · exact congrArg₂ (· * ·) (congrArg₂ gated (ob_at m c t r k) (zb_at m c t r k)) (wb_at m c t k e)

theorem final (c : Dev nD) : (dats m 0 c).arrAt 7 cfg0.N = left m c := by
  refine (dats m 0 c).arrAt_eq_of_covers 7 _ (by decide +kernel) fun t _ y => ?_
  blk_simp
  rw [after0_7]
  have h0 := c0_lt t
  have hy : y = (ix2 (y 0) (y 1) : S512x1024.Idx) := by
    funext a
    fin_cases a <;> rfl
  generalize (y 0) = r at hy
  generalize (y 1) = e at hy
  subst hy
  refine (out_at m c t r e).trans ?_
  rw [left, res]
  blk_simp [idx t]
  refine congrArg₂ (resAt _ _ _ _ _) (Fin.ext ?_) (Fin.ext ?_)
  · show 512 * (grid0.coords t 0).val + r.val = _
    blk_simp [idx t]
    rw [Nat.mul_comm]
  · blk_simp [idx t]

end Kernel

/-! ## The reference -/

section Reference

theorem slice_lo (z : FVec Ideal S32768x2560 .f32) (r : Fin 32768) (k : Fin 512) :
    extractStridedSlice S32768x512 ![0, 1536] z Cert.EvenReferenceIdeal.Facts₀.slices_S32768x2560_S32768x512_0_1536 (ix2 r k) = z (ix2 r ⟨1536 + k.val, by omega⟩) := by
  pointwise []
theorem slice_hi (z : FVec Ideal S32768x2560 .f32) (r : Fin 32768) (k : Fin 512) :
    extractStridedSlice S32768x512 ![0, 2048] z Cert.EvenReferenceIdeal.Facts₀.slices_S32768x2560_S32768x512_0_2048 (ix2 r k) = z (ix2 r ⟨2048 + k.val, by omega⟩) := by
  pointwise []

theorem ext_rows {f g : FVec Ideal S32768x512 .f32} (h : ∀ r k, f (ix2 r k) = g (ix2 r k)) : f = g := by
  funext y
  have hy : y = (ix2 (y 0) (y 1) : S32768x512.Idx) := by
    funext a
    fin_cases a <;> rfl
  rw [hy]
  exact h _ _

/-- The first gate's columns. -/
theorem cols_lo (z : FVec Ideal S32768x2560 .f32) :
    extractStridedSlice S32768x512 ![0, 1536] z Cert.EvenReferenceIdeal.Facts₀.slices_S32768x2560_S32768x512_0_1536
      = extractStridedSlice S32768x512 ![0, 0] (gates z) Cert.MixReferenceIdeal.Facts₀.slices_S32768x1536_S32768x512_0_0 :=
  ext_rows fun r k => (slice_lo z r k).trans (((Cert.MixReferenceIdeal.Mix.slice_lo (gates z) r k).trans
    (gates_at z r ⟨k.val, by omega⟩ (by show k.val < 1024; omega))).symm)

/-- The second gate's columns. -/
theorem cols_hi (z : FVec Ideal S32768x2560 .f32) :
    extractStridedSlice S32768x512 ![0, 2048] z Cert.EvenReferenceIdeal.Facts₀.slices_S32768x2560_S32768x512_0_2048
      = extractStridedSlice S32768x512 ![0, 512] (gates z) Cert.MixReferenceIdeal.Facts₀.slices_S32768x1536_S32768x512_0_512 :=
  ext_rows fun r k => (slice_hi z r k).trans (((Cert.MixReferenceIdeal.Mix.slice_hi (gates z) r k).trans
    ((gates_at z r ⟨512 + k.val, by omega⟩ (by show 512 + k.val < 1024; omega)).trans
      (congrArg (fun n => z (ix2 r n)) (Fin.ext (by show 1536 + (512 + k.val) = 2048 + k.val; omega))))).symm)

/-- The even layer's reference, in the pieces of the odd layer's. -/
def rEven (x : FVec Ideal S32768x1024 .f32) (oa ob : FVec Ideal S32768x512 .f32) (z : FVec Ideal S32768x2560 .f32) (w : FVec Ideal S1024x1024 .f32) : FVec Ideal S32768x1024 .f32 :=
  addf x (Host.dotGeneral Cert.MixReferenceIdeal.dot_S32768x1024_S1024x1024_S32768x1024_1_0_0_1_n_n none
    (rCat (rGate oa (extractStridedSlice S32768x512 ![0, 1536] z Cert.EvenReferenceIdeal.Facts₀.slices_S32768x2560_S32768x512_0_1536))
      (rGate ob (extractStridedSlice S32768x512 ![0, 2048] z Cert.EvenReferenceIdeal.Facts₀.slices_S32768x2560_S32768x512_0_2048))) w)

theorem rEven_eq (x : FVec Ideal S32768x1024 .f32) (oa ob : FVec Ideal S32768x512 .f32) (z : FVec Ideal S32768x2560 .f32) (w : FVec Ideal S1024x1024 .f32) :
    rEven x oa ob z w = res x oa ob (gates z) w := by
  unfold rEven
  rw [cols_lo, cols_hi]
  exact rMix_eq x oa ob (gates z) w

end Reference

end Cert.EvenIdeal.Mix

end
-- ==== Proof.ProjBody.lean ====
/-
  One grid point of the input projection: the normed rows kept in scratch, the product with a block of the
  weights, and, where the point's flag says so, the norm of each head's columns.
-/
module

public import proofs.«01_k».proof.Proof.Gen.ProjIdeal
public import proofs.«01_k».proof.Proof.Gen.ProjIdeal.Skeleton
public import proofs.«01_k».proof.Proof.Gen.ProjIdeal.Launch
public import proofs.«01_k».proof.Proof.Gen.Proj
public import Idealize.ShloMosaic.Lib.WritesUnit
public import Idealize.ShloMosaic.Lib.ValueIdx
public import proofs.«01_k».proof.Proof.Gen.KernelIdeal.Frame

@[expose] public section

set_option maxRecDepth 16384

noncomputable section

namespace Cert.ProjIdeal.In

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The first 256 of 512 values, and the last. -/
def lo (g : Vec F S1x512 .f32) : Vec F S1x256 .f32 := View.ld g (Rect.unit (s := S1x512) ![0, 0] S1x256.size inb_S1x512_S1x256_0_0)
def hi (g : Vec F S1x512 .f32) : Vec F S1x256 .f32 := View.ld g (Rect.unit (s := S1x512) ![0, 256] S1x256.size inb_S1x512_S1x256_0_256)

/-- A product's columns with each head's normed: the first 256 columns and the last, side by side. -/
def normed (p : FVec F S512x512 .f32) (bd : Vec F S256x256 .bf16) (g nm : Vec F S1x512 .f32) : Vec F S512x512 .f32 := fun y =>
  if h : (y 1).val < 256 then k0_pay5 p bd (lo g) (lo nm) (ix2 (y 0) ⟨(y 1).val, h⟩)
  else k0_pay3 (k0_pay6 p) (k0_pay7 p bd) (k0_pay8 (hi g)) (hi nm) (ix2 (y 0) ⟨(y 1).val - 256, by have := (y 1).isLt; change (y 1).val < 512 at this; omega⟩)

/-- What the body leaves in the output block, by the point's flag. -/
def outBlk (fl : BitVec 32) (h : Vec F S512x1024 .bf16) (w : Vec F S1024x512 .bf16) (g nm : Vec F S1x512 .f32) (bd : Vec F S256x256 .bf16) : Vec F S512x512 .f32 :=
  if k0_cond2 fl = 1#1 then k0_pay2 h w else normed (k0_pay2 h w) bd g nm

/-- Whether a point is the first of its rows. -/
def cond1 (i : grid0.Coords) : BitVec 1 := Scalar.cmpi .ne (Scalar.extui (Scalar.cmpi .eq (BitVec.ofNat 32 (i 1).val) 0#32)) 0#32

theorem cond3_of (fl : BitVec 32) (h : k0_cond2 fl = 1#1) : ¬ k0_cond3 fl = 1#1 := by
  by_cases e : fl = 0#32
  · subst e; decide
  · have e' : (fl == 0#32) = false := by simpa using e
    exfalso
    revert h
    simp [k0_cond2, Scalar.cmpi, Scalar.extui, IntOp.cmpi, e']
theorem cond3_of_not (fl : BitVec 32) (h : ¬ k0_cond2 fl = 1#1) : k0_cond3 fl = 1#1 := by
  by_cases e : fl = 0#32
  · subst e; exact absurd (by decide) h
  · have e' : (fl != 0#32) = true := by simpa using e
    simp [k0_cond3, Scalar.cmpi, Scalar.extui, IntOp.cmpi, e']

/-! ## Loads and stores of whole blocks -/

theorem load_whole {ε : EltTy} {A B : ℕ} (a : Memref sig .tc .vmem ⟨2, ![A, B]⟩ ε) (f : BufTy.Contents (Elt F) a.view.ty)
    (inb : ∀ x, (![0, 0] : Fin 2 → Nat) x + (⟨2, ![A, B]⟩ : Shape).size x ≤ (⟨2, ![A, B]⟩ : Shape).size x) :
    a.view.readAt (Elt F) (Rect.unit (s := ⟨2, ![A, B]⟩) ![0, 0] (⟨2, ![A, B]⟩ : Shape).size inb).toLoadRect f = a.view.read (Elt F) f := by
  funext y
  refine congrArg (a.view.read (Elt F) f) (funext fun x => Fin.ext ?_)
  show (![0, 0] : Fin 2 → Nat) x + 1 * (y x).val = (y x).val
  fin_cases x
  · show 0 + 1 * (y 0).val = (y 0).val; omega
  · show 0 + 1 * (y 1).val = (y 1).val; omega
theorem store_whole {ε : EltTy} {A B : ℕ} (a : Memref sig .tc .vmem ⟨2, ![A, B]⟩ ε) (f : BufTy.Contents (Elt F) a.view.ty)
    (inb : ∀ x, (![0, 0] : Fin 2 → Nat) x + (⟨2, ![A, B]⟩ : Shape).size x ≤ (⟨2, ![A, B]⟩ : Shape).size x) (w : Vec F ⟨2, ![A, B]⟩ ε) (L : List (View.Piece (Elt F) ⟨2, ![A, B]⟩ ε)) :
    a.view.read (Elt F) (a.view.writes (Elt F) f (⟨Rect.unit (s := ⟨2, ![A, B]⟩) ![0, 0] (⟨2, ![A, B]⟩ : Shape).size inb, w⟩ :: L)) = w := by
  funext y
  refine View.read_writes_cons_unit_of_mem a.view f inb w L y y rfl (fun x => ?_)
  fin_cases x
  · show (y 0).val = 0 + (y 0).val; omega
  · show (y 1).val = 0 + (y 1).val; omega

/-- The two stores of half blocks leave the halves side by side. -/
theorem store_halves (a : Memref sig .tc .vmem S512x512 .f32) (f : BufTy.Contents (Elt F) a.view.ty) (L : List (View.Piece (Elt F) S512x512 .f32))
    (p : FVec F S512x512 .f32) (bd : Vec F S256x256 .bf16) (g nm : Vec F S1x512 .f32) :
    a.view.read (Elt F) (a.view.writes (Elt F) f
      (⟨Rect.unit (s := S512x512) ![0, 256] S512x256.size inb_S512x512_S512x256_0_256, k0_pay3 (k0_pay6 p) (k0_pay7 p bd) (k0_pay8 (hi g)) (hi nm)⟩
        :: ⟨Rect.unit (s := S512x512) ![0, 0] S512x256.size inb_S512x512_S512x256_0_0, k0_pay5 p bd (lo g) (lo nm)⟩ :: L)) = normed p bd g nm := by
  funext y
  have hy : (y 1).val < 512 := (y 1).isLt
  unfold normed
  by_cases h : (y 1).val < 256
  · rw [dif_pos h]
    refine (View.read_writes_cons_unit_of_not_mem a.view f inb_S512x512_S512x256_0_256 _ _ y rfl 1 (.inl h)).trans ?_
    refine View.read_writes_cons_unit_of_mem a.view f inb_S512x512_S512x256_0_0 _ L y (ix2 (y 0) ⟨(y 1).val, h⟩) rfl (fun x => ?_)
    fin_cases x
    · show (y 0).val = 0 + (y 0).val; omega
    · show (y 1).val = 0 + (y 1).val; omega
  · rw [dif_neg h]
    refine View.read_writes_cons_unit_of_mem a.view f inb_S512x512_S512x256_0_256 _ _ y (ix2 (y 0) ⟨(y 1).val - 256, by omega⟩) rfl (fun x => ?_)
    fin_cases x
    · show (y 0).val = 0 + (y 0).val; omega
    · show (y 1).val = 256 + ((y 1).val - 256); omega

section Body

variable (𝒱 : Variants) (c : Dev nD) (bd : Option 𝒱.V) (i : grid0.Coords) (q : PosShare TreeShare)
  (arg2 : Memref sig .tc .smem S5 .i32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S256x256 .bf16) (harg8 : arg8.IsWhole) (arg9 : Memref sig .tc .vmem S512x512 .f32) (harg9 : arg9.IsWhole)
  (arg10 : Memref sig .tc .vmem S512x1024 .bf16) (harg10 : arg10.IsWhole)

/-- The flag that the body reads. -/
def flag (i : grid0.Coords) (X : S5.Idx → Elt F .i32) : BitVec 32 := X (Rect.point (Rect.unit (s := S5) (k0_off1 i) S1.size (k0_off1_inb i)) numel1_S1)

/-- What the body leaves. -/
def bodyOut (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (hn : Vec F S512x1024 .bf16) : sProp 𝕄 :=
  iprop((arg2.view.loc (c : Thread nD τ) ↦[arg2.view.set]{q} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (∃ f9, (arg9.view.loc (c : Thread nD τ) ↦[arg9.view.set]{fullShare} f9) ∗ ⌜arg9.view.read (Elt F) f9
        = outBlk (flag i (arg2.view.read (Elt F) f2)) hn (arg5.view.read (Elt F) f5) (arg6.view.read (Elt F) f6) (arg7.view.read (Elt F) f7) (arg8.view.read (Elt F) f8)⌝)
    ∗ (∃ f10, (arg10.view.loc (c : Thread nD τ) ↦[arg10.view.set]{fullShare} f10) ∗ ⌜arg10.view.read (Elt F) f10 = hn⌝))

/-- What the body finds. -/
def bodyIn (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop((arg2.view.loc (c : Thread nD τ) ↦[arg2.view.set]{q} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10))

set_option maxHeartbeats 1600000 in
theorem first_plain (h1 : cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  have h3 := cond3_of _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e3 := load_whole arg3 f3 inb_S512x1024_S512x1024_0_0
    have e4 := load_whole arg4 f4 inb_S1x1024_S1x1024_0_0
    have e10 := View.readCov_cons_toLoadRect (Val := Elt F) arg10.view (Rect.unit (s := S512x1024) ![0, 0] S512x1024.size inb_S512x1024_S512x1024_0_0) (k0_pay1 (arg3.view.readAt (Elt F) (Rect.unit (s := S512x1024) ![0, 0] S512x1024.size inb_S512x1024_S512x1024_0_0).toLoadRect f3) (arg4.view.readAt (Elt F) (Rect.unit (s := S1x1024) ![0, 0] S1x1024.size inb_S1x1024_S1x1024_0_0).toLoadRect f4)) []
    have e5 := load_whole arg5 f5 inb_S1024x512_S1024x512_0_0
    rw [if_pos h2, store_whole, ← e3, ← e4, ← e5, ← e10]
    rfl
  · iexists _
    isplitl [H10]; · iexact H10
    ipureintro
    have e3 := load_whole arg3 f3 inb_S512x1024_S512x1024_0_0
    have e4 := load_whole arg4 f4 inb_S1x1024_S1x1024_0_0
    rw [← e3, ← e4]
    exact store_whole ..

set_option maxHeartbeats 1600000 in
theorem first_normed (h1 : cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : ¬ k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  have h3 := cond3_of_not _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e3 := load_whole arg3 f3 inb_S512x1024_S512x1024_0_0
    have e4 := load_whole arg4 f4 inb_S1x1024_S1x1024_0_0
    have e10 := View.readCov_cons_toLoadRect (Val := Elt F) arg10.view (Rect.unit (s := S512x1024) ![0, 0] S512x1024.size inb_S512x1024_S512x1024_0_0) (k0_pay1 (arg3.view.readAt (Elt F) (Rect.unit (s := S512x1024) ![0, 0] S512x1024.size inb_S512x1024_S512x1024_0_0).toLoadRect f3) (arg4.view.readAt (Elt F) (Rect.unit (s := S1x1024) ![0, 0] S1x1024.size inb_S1x1024_S1x1024_0_0).toLoadRect f4)) []
    have e5 := load_whole arg5 f5 inb_S1024x512_S1024x512_0_0
    have e8 := load_whole arg8 f8 inb_S256x256_S256x256_0_0
    have e := store_halves arg9 f9 [] (k0_pay2 (k0_pay1 (arg3.view.read (Elt F) f3) (arg4.view.read (Elt F) f4)) (arg5.view.read (Elt F) f5)) (arg8.view.read (Elt F) f8) (arg6.view.read (Elt F) f6) (arg7.view.read (Elt F) f7)
    rw [if_neg h2]
    refine Eq.trans ?_ e
    rw [← e3, ← e4, ← e5, ← e8, ← e10]
    rfl
  · iexists _
    isplitl [H10]; · iexact H10
    ipureintro
    have e3 := load_whole arg3 f3 inb_S512x1024_S512x1024_0_0
    have e4 := load_whole arg4 f4 inb_S1x1024_S1x1024_0_0
    rw [← e3, ← e4]
    exact store_whole ..

set_option maxHeartbeats 1600000 in
theorem rest_plain (h1 : ¬ cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (arg10.view.read (Elt F) f10) := by
  have h3 := cond3_of _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e10 := load_whole arg10 f10 inb_S512x1024_S512x1024_0_0
    have e5 := load_whole arg5 f5 inb_S1024x512_S1024x512_0_0
    rw [if_pos h2, store_whole, e10, e5]
  · iexists _
    isplitl [H10]; · iexact H10
    ipureintro
    rfl

set_option maxHeartbeats 1600000 in
theorem rest_normed (h1 : ¬ cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : ¬ k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (arg10.view.read (Elt F) f10) := by
  have h3 := cond3_of_not _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e10 := load_whole arg10 f10 inb_S512x1024_S512x1024_0_0
    have e5 := load_whole arg5 f5 inb_S1024x512_S1024x512_0_0
    have e8 := load_whole arg8 f8 inb_S256x256_S256x256_0_0
    have e := store_halves arg9 f9 [] (k0_pay2 (arg10.view.read (Elt F) f10) (arg5.view.read (Elt F) f5)) (arg8.view.read (Elt F) f8) (arg6.view.read (Elt F) f6) (arg7.view.read (Elt F) f7)
    rw [if_neg h2]
    refine Eq.trans ?_ e
    rw [← e5, ← e8, ← e10]
    rfl
  · iexists _
    isplitl [H10]; · iexact H10
    ipureintro
    rfl

/-- The body from the blocks it finds, scratch at the rows' normed values unless this point makes them. -/
theorem body_run (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h : ¬ cond1 i = 1#1 → arg10.view.read (Elt F) f10 = k0_pay1 (arg3.view.read (Elt F) f3) (arg4.view.read (Elt F) f4)) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  by_cases h1 : cond1 i = 1#1
  · by_cases h2 : k0_cond2 (flag i (arg2.view.read (Elt F) f2)) = 1#1
    · exact first_plain 𝒱 c bd i q arg2 harg2 arg3 harg3 arg4 harg4 arg5 harg5 arg6 harg6 arg7 harg7 arg8 harg8 arg9 harg9 arg10 harg10 h1 f2 f3 f4 f5 f6 f7 f8 f9 f10 E h2
    · exact first_normed 𝒱 c bd i q arg2 harg2 arg3 harg3 arg4 harg4 arg5 harg5 arg6 harg6 arg7 harg7 arg8 harg8 arg9 harg9 arg10 harg10 h1 f2 f3 f4 f5 f6 f7 f8 f9 f10 E h2
  · rw [← h h1]
    by_cases h2 : k0_cond2 (flag i (arg2.view.read (Elt F) f2)) = 1#1
    · exact rest_plain 𝒱 c bd i q arg2 harg2 arg3 harg3 arg4 harg4 arg5 harg5 arg6 harg6 arg7 harg7 arg8 harg8 arg9 harg9 arg10 harg10 h1 f2 f3 f4 f5 f6 f7 f8 f9 f10 E h2
    · exact rest_normed 𝒱 c bd i q arg2 harg2 arg3 harg3 arg4 harg4 arg5 harg5 arg6 harg6 arg7 harg7 arg8 harg8 arg9 harg9 arg10 harg10 h1 f2 f3 f4 f5 f6 f7 f8 f9 f10 E h2

end Body

end Cert.ProjIdeal.In

end
-- ==== Proof.ProjFrame.lean ====
/-
  The launch of the input projection over its grid: what scratch holds between grid points, the body's
  obligation at every point, and the run.
-/
module

public import proofs.«01_k».proof.Proof.ProjBody

@[expose] public section

set_option maxRecDepth 16384

noncomputable section

namespace Cert.ProjIdeal.In

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (p : Fin 1) → (pcfgs (F := F) p).Adm)

/-- The launch's pipelines with their table at contents `a`. -/
abbrev cfgs : Fin 1 → Cfg sig Λ₀ := Pipeline.pin (pcfgs (F := F)) a
/-- The number of grid points. -/
abbrev NN := (cfg0 (a 0)).N

/-- Window `w`'s block at point `t`. -/
def iblk (c : Dev nD) (w : Fin 7) (t : Fin (NN a)) : (((cfg0 (a 0)).win w).xblock ((cfg0 (a 0)).grid.coords t)).Idx → Elt F ((cfg0 (a 0)).win w).elt :=
  (((cfg0 (a 0)).win w).blk t).view.read (Elt F) (V c (Pipeline.arrRef spec0 w))

abbrev scH : Memref sig .tc .vmem S512x1024 .bf16 := Memref.whole cc0_scratch0
abbrev tbl : Memref sig .tc .smem S5 .i32 := Memref.whole main_v27

theorem pt_scH (c : Dev nD) (f : Buf (Elt F) ((c : Thread nD τ).loc cc0_scratch0)) :
    ((((c : Thread nD τ).loc cc0_scratch0) ↦{fullShare} f : sProp 𝕄)) = (scH.view.loc (c : Thread nD τ) ↦[scH.view.set]{fullShare} f) := by
  rw [show scH.view.set = Finset.univ from View.set_whole _]
theorem pt_tbl (c : Dev nD) (q : PosShare TreeShare) (f : Buf (Elt F) ((c : Thread nD τ).loc main_v27)) :
    ((((c : Thread nD τ).loc main_v27) ↦{q} f : sProp 𝕄)) = (tbl.view.loc (c : Thread nD τ) ↦[tbl.view.set]{q} f) := by
  rw [show tbl.view.set = Finset.univ from View.set_whole _]

/-- The table's contents. -/
abbrev tab : Buf (Elt F) (((0 : Dev nD) : Thread nD τ).loc main_v27) := (a 0).1 (0 : Fin 1)

/-- Before point `n`: scratch at the rows' normed values (no fact is needed where the rows begin), and the table. -/
def tracked (c : Dev nD) (n : Nat) : sProp 𝕄 :=
  iprop((∃ f, (scH.view.loc (c : Thread nD τ) ↦[scH.view.set]{fullShare} f)
      ∗ ⌜∀ t : Fin (NN a), t.val = n → t.val % 5 ≠ 0 → scH.view.read (Elt F) f = k0_pay1 (iblk V a c 0 t) (iblk V a c 1 t)⌝)
    ∗ (tbl.view.loc (c : Thread nD τ) ↦[tbl.view.set]{fullShare.right} tab a)
    ∗ ∃ r, prngReg c r)

/-- The block written at a point. -/
def outAt (c : Dev nD) (t : Fin (NN a)) : Vec F S512x512 .f32 :=
  outBlk (flag (grid0.coords t) (tbl.view.read (Elt F) (tab a))) (k0_pay1 (iblk V a c 0 t) (iblk V a c 1 t)) (iblk V a c 2 t) (iblk V a c 3 t) (iblk V a c 4 t) (iblk V a c 5 t)

/-- The proof data of the launch. -/
def dats : (p : Fin 1) → (c : Dev nD) → Dat τ (Elt F) Unit ℕ (UR sig nD τ) ℕ (cfgs a p) c
  | 0, c =>
    { A := fun w => V c (Pipeline.arrRef spec0 w)
      after := fun w t => match w with
        | 0 => iblk V a c 0 t
        | 1 => iblk V a c 1 t
        | 2 => iblk V a c 2 t
        | 3 => iblk V a c 3 t
        | 4 => iblk V a c 4 t
        | 5 => iblk V a c 5 t
        | 6 => outAt V a c t
      Φ := fun n => tracked V a c n.val
      q := fun w => Pipeline.shareOf spec0 w
      owed := fun _ => 0 }

theorem A_eq (c : Dev nD) (w : Fin 7) : (dats V a 0 c).A w = V c (Pipeline.arrRef spec0 w) := by dsimp only [dats]
theorem after0_0 (c : Dev nD) (t : Fin (NN a)) : (dats V a 0 c).after 0 t = iblk V a c 0 t := rfl
theorem after0_1 (c : Dev nD) (t : Fin (NN a)) : (dats V a 0 c).after 1 t = iblk V a c 1 t := rfl
theorem after0_2 (c : Dev nD) (t : Fin (NN a)) : (dats V a 0 c).after 2 t = iblk V a c 2 t := rfl
theorem after0_3 (c : Dev nD) (t : Fin (NN a)) : (dats V a 0 c).after 3 t = iblk V a c 3 t := rfl
theorem after0_4 (c : Dev nD) (t : Fin (NN a)) : (dats V a 0 c).after 4 t = iblk V a c 4 t := rfl
theorem after0_5 (c : Dev nD) (t : Fin (NN a)) : (dats V a 0 c).after 5 t = iblk V a c 5 t := rfl
theorem after0_6 (c : Dev nD) (t : Fin (NN a)) : (dats V a 0 c).after 6 t = outAt V a c t := rfl

theorem before0_0 (c : Dev nD) (t : Fin (NN a)) (d) : (dats V a 0 c).before 0 t d = iblk V a c 0 t :=
  ((dats V a 0 c).before_in_eq_fetched 0 rfl (fun _ => rfl) (fun _ _ _ => rfl) (fun t => by rw [after0_0]; rfl) t d).trans rfl
theorem before0_1 (c : Dev nD) (t : Fin (NN a)) (d) : (dats V a 0 c).before 1 t d = iblk V a c 1 t :=
  ((dats V a 0 c).before_in_eq_fetched 1 rfl (fun _ => rfl) (fun _ _ _ => rfl) (fun t => by rw [after0_1]; rfl) t d).trans rfl
theorem before0_2 (c : Dev nD) (t : Fin (NN a)) (d) : (dats V a 0 c).before 2 t d = iblk V a c 2 t :=
  ((dats V a 0 c).before_in_eq_fetched 2 rfl (fun _ => rfl) (fun _ _ _ => rfl) (fun t => by rw [after0_2]; rfl) t d).trans rfl
theorem before0_3 (c : Dev nD) (t : Fin (NN a)) (d) : (dats V a 0 c).before 3 t d = iblk V a c 3 t :=
  ((dats V a 0 c).before_in_eq_fetched 3 rfl (fun _ => rfl) (fun _ _ _ => rfl) (fun t => by rw [after0_3]; rfl) t d).trans rfl
theorem before0_4 (c : Dev nD) (t : Fin (NN a)) (d) : (dats V a 0 c).before 4 t d = iblk V a c 4 t :=
  ((dats V a 0 c).before_in_eq_fetched 4 rfl (fun _ => rfl) (fun _ _ _ => rfl) (fun t => by rw [after0_4]; rfl) t d).trans rfl
theorem before0_5 (c : Dev nD) (t : Fin (NN a)) (d) : (dats V a 0 c).before 5 t d = iblk V a c 5 t :=
  ((dats V a 0 c).before_in_eq_fetched 5 rfl (fun _ => rfl) (fun _ _ _ => rfl) (fun t => by rw [after0_5]; rfl) t d).trans rfl

/-! ## Points of the same rows -/

theorem first_of_rows : ∀ t : Fin grid0.N, t.val % 5 = 0 → cond1 (grid0.coords t) = 1#1 := by decide +kernel
theorem rows_ix : ∀ t : Fin grid0.N, (cc0_transform_0 (grid0.coords t) 0, cc0_transform_0 (grid0.coords t) 1) = (t.val / 5, 0) := by decide +kernel
theorem ln_ix : ∀ t : Fin grid0.N, (cc0_transform_1 (grid0.coords t) 0, cc0_transform_1 (grid0.coords t) 1) = (0, 0) := by decide +kernel

theorem rows_same (c : Dev nD) (t t' : Fin (NN a)) (h : t'.val = t.val + 1) (hn : t'.val % 5 ≠ 0) : iblk V a c 0 t' = iblk V a c 0 t := by
  have hix : ((cfg0 (a 0)).win 0).index t = ((cfg0 (a 0)).win 0).index t' := by
    funext x
    have e1 := rows_ix t
    have e2 := rows_ix t'
    rw [show t'.val / 5 = t.val / 5 by omega, ← e1] at e2
    fin_cases x
    · exact (congrArg Prod.fst e2).symm
    · exact (congrArg Prod.snd e2).symm
  exact ((dats V a 0 c).fetched_congr 0 hix rfl (iblk V a c 0 t)).symm
theorem ln_same (c : Dev nD) (t t' : Fin (NN a)) : iblk V a c 1 t' = iblk V a c 1 t := by
  have hix : ((cfg0 (a 0)).win 1).index t = ((cfg0 (a 0)).win 1).index t' := by
    funext x
    have e1 := ln_ix t
    have e2 := ln_ix t'
    rw [← e1] at e2
    fin_cases x
    · exact (congrArg Prod.fst e2).symm
    · exact (congrArg Prod.snd e2).symm
  exact ((dats V a 0 c).fetched_congr 1 hix rfl (iblk V a c 1 t)).symm

/-! ## The body's obligation -/

abbrev st0_0 (t : Fin (NN a)) := ((cfg0 (a 0)).win 0).stage ((cfg0 (a 0)).slots t 0)
abbrev st0_1 (t : Fin (NN a)) := ((cfg0 (a 0)).win 1).stage ((cfg0 (a 0)).slots t 1)
abbrev st0_2 (t : Fin (NN a)) := ((cfg0 (a 0)).win 2).stage ((cfg0 (a 0)).slots t 2)
abbrev st0_3 (t : Fin (NN a)) := ((cfg0 (a 0)).win 3).stage ((cfg0 (a 0)).slots t 3)
abbrev st0_4 (t : Fin (NN a)) := ((cfg0 (a 0)).win 4).stage ((cfg0 (a 0)).slots t 4)
abbrev st0_5 (t : Fin (NN a)) := ((cfg0 (a 0)).win 5).stage ((cfg0 (a 0)).slots t 5)
abbrev st0_6 (t : Fin (NN a)) := ((cfg0 (a 0)).win 6).stage ((cfg0 (a 0)).slots t 6)

/-- The body as the pipeline calls it at a point. -/
abbrev bodyAt (t : Fin (NN a)) : Prog (TpuEff nD τ sig (Elt F) Λ₀ .tc) PUnit :=
  cc0_proj (grid0.coords t) (Memref.whole main_v27) (Memref.isWhole_whole _) (st0_0 a t) (hstage0_0 (((cfg0 (a 0)).slots t 0).cast nbuf0_0)) (st0_1 a t) (hstage0_1 (((cfg0 (a 0)).slots t 1).cast nbuf0_1)) (st0_2 a t) (hstage0_2 (((cfg0 (a 0)).slots t 2).cast nbuf0_2)) (st0_3 a t) (hstage0_3 (((cfg0 (a 0)).slots t 3).cast nbuf0_3)) (st0_4 a t) (hstage0_4 (((cfg0 (a 0)).slots t 4).cast nbuf0_4)) (st0_5 a t) (hstage0_5 (((cfg0 (a 0)).slots t 5).cast nbuf0_5)) (st0_6 a t) (hstage0_6 (((cfg0 (a 0)).slots t 6).cast nbuf0_6)) (Memref.whole cc0_scratch0) (Memref.isWhole_whole _)

def bodyPre (c : Dev nD) (t : Fin (NN a)) : sProp 𝕄 :=
  iprop((dats V a 0 c).Φ t.castSucc ∗ (dats V a 0 c).owesAt () t.castSucc
    ∗ (∃ d, owns (c : Thread nD τ) (st0_0 a t) fullShare ((dats V a 0 c).before 0 t d)) ∗ (∃ d, owns (c : Thread nD τ) (st0_1 a t) fullShare ((dats V a 0 c).before 1 t d)) ∗ (∃ d, owns (c : Thread nD τ) (st0_2 a t) fullShare ((dats V a 0 c).before 2 t d)) ∗ (∃ d, owns (c : Thread nD τ) (st0_3 a t) fullShare ((dats V a 0 c).before 3 t d)) ∗ (∃ d, owns (c : Thread nD τ) (st0_4 a t) fullShare ((dats V a 0 c).before 4 t d)) ∗ (∃ d, owns (c : Thread nD τ) (st0_5 a t) fullShare ((dats V a 0 c).before 5 t d)) ∗ (∃ d, owns (c : Thread nD τ) (st0_6 a t) fullShare ((dats V a 0 c).before 6 t d)))

def bodyPost (c : Dev nD) (t : Fin (NN a)) : sProp 𝕄 :=
  iprop((dats V a 0 c).Φ t.succ ∗ (dats V a 0 c).owesAt () t.succ
    ∗ owns (c : Thread nD τ) (st0_0 a t) fullShare ((dats V a 0 c).after 0 t) ∗ owns (c : Thread nD τ) (st0_1 a t) fullShare ((dats V a 0 c).after 1 t) ∗ owns (c : Thread nD τ) (st0_2 a t) fullShare ((dats V a 0 c).after 2 t) ∗ owns (c : Thread nD τ) (st0_3 a t) fullShare ((dats V a 0 c).after 3 t) ∗ owns (c : Thread nD τ) (st0_4 a t) fullShare ((dats V a 0 c).after 4 t) ∗ owns (c : Thread nD τ) (st0_5 a t) fullShare ((dats V a 0 c).after 5 t) ∗ owns (c : Thread nD τ) (st0_6 a t) fullShare ((dats V a 0 c).after 6 t))

theorem out_congr {fl : BitVec 32} {h h' : Vec F S512x1024 .bf16} {w w' : Vec F S1024x512 .bf16} {g g' nm nm' : Vec F S1x512 .f32} {bd bd' : Vec F S256x256 .bf16}
    (e1 : h = h') (e2 : w = w') (e3 : g = g') (e4 : nm = nm') (e5 : bd = bd') : outBlk fl h w g nm bd = outBlk fl h' w' g' nm' bd' := by
  rw [e1, e2, e3, e4, e5]

set_option maxHeartbeats 1600000 in
theorem sound_body (c : Dev nD) (t : Fin (NN a)) :
    bodyPre V a c t ⊢ wp frame (wpE (defs₀ (F := F)) Variants.none (c : Thread nD τ) none) Set.univ (bodyAt a t) fun _ => bodyPost V a c t := by
  unfold bodyPre bodyPost
  simp only [before0_0, before0_1, before0_2, before0_3, before0_4, before0_5]
  rw [show (dats V a 0 c).owesAt () t.succ = (dats V a 0 c).owesAt () t.castSucc from rfl,
    show (dats V a 0 c).Φ t.castSucc = tracked V a c t.val from rfl, show (dats V a 0 c).Φ t.succ = tracked V a c (t.val + 1) from rfl,
    after0_0, after0_1, after0_2, after0_3, after0_4, after0_5, after0_6]
  unfold tracked owns
  iintro ⟨⟨⟨%f10, H10, %hfill⟩, H2, Hp⟩, Ho, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  have hr := body_run (F := F) Variants.none c none (grid0.coords t) fullShare.right (Memref.whole main_v27) (Memref.isWhole_whole _) (st0_0 a t) (hstage0_0 (((cfg0 (a 0)).slots t 0).cast nbuf0_0)) (st0_1 a t) (hstage0_1 (((cfg0 (a 0)).slots t 1).cast nbuf0_1)) (st0_2 a t) (hstage0_2 (((cfg0 (a 0)).slots t 2).cast nbuf0_2)) (st0_3 a t) (hstage0_3 (((cfg0 (a 0)).slots t 3).cast nbuf0_3)) (st0_4 a t) (hstage0_4 (((cfg0 (a 0)).slots t 4).cast nbuf0_4)) (st0_5 a t) (hstage0_5 (((cfg0 (a 0)).slots t 5).cast nbuf0_5)) (st0_6 a t) (hstage0_6 (((cfg0 (a 0)).slots t 6).cast nbuf0_6))
    (Memref.whole cc0_scratch0) (Memref.isWhole_whole _) (tab a) f3 f4 f5 f6 f7 f8 f9 f10 Set.univ
    (fun hne => (hfill t rfl fun h0 => hne (first_of_rows t h0)).trans (congrArg₂ (k0_pay1 (F := F)) e3 e4).symm)
  iapply (hr.trans (wp_wand frame (wpE (defs₀ (F := F)) Variants.none (c : Thread nD τ) none) Set.univ)) $$ [H2 H3 H4 H5 H6 H7 H8 H9 H10]
  · unfold bodyIn
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  unfold bodyOut
  iintro %u ⟨H2, H3, H4, H5, H6, H7, H8, ⟨%g9, H9, %e9'⟩, ⟨%g10, H10, %e10⟩⟩
  have e10 := e10.trans (congrArg₂ (k0_pay1 (F := F)) e3 e4)
  isplitl [H10 H2 Hp]
  · isplitl [H10]
    · iexists _
      isplitl [H10]; · iexact H10
      ipureintro
      intro t' h1 h2
      rw [rows_same V a c t t' h1 h2, ln_same V a c t t']
      exact e10
    isplitl [H2]; · iexact H2
    iexact Hp
  isplitl [Ho]; · iexact Ho
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  iexists _; isplitr
  · ipureintro
    exact e9'.trans (out_congr (congrArg₂ (k0_pay1 (F := F)) e3 e4) e5 e6 e7 e8)
  iexact H9

theorem defs₀_row (t : Fin (NN a)) : defs₀ (F := F) .tc (cfg0 (a 0)).body ((cfg0 (a 0)).bodyArgs t ((cfg0 (a 0)).slots t)) = bodyAt a t := by
  unfold defs₀; rw [Defs.onTc_tc]; rfl

/-- At no point does the body leave the output block alone. -/
theorem never_idle (i : grid0.Coords) : idle0 (F := F) (a 0).1 6 i = false := by
  show (!(k0_cond2 ((a 0).1.atD 0 (k0_off1 i)) == 1#1) && !(k0_cond3 ((a 0).1.atD 0 (k0_off2 i)) == 1#1)) = false
  have e : k0_off1 i = k0_off2 i := rfl
  rw [← e]
  by_cases h : k0_cond2 ((a 0).1.atD 0 (k0_off1 i)) = 1#1
  · rw [h]; rfl
  · have := cond3_of_not _ h
    rw [this]; simp

theorem body_obligation (c : Dev nD) : BodyObligation (dats (F := F) V a 0 c) (defs₀ (F := F)) Variants.none () Set.univ := fun t => by
  rw [bigSep_W0, bigSep_W0, defs₀_row]
  have hi := never_idle a ((cfg0 (a 0)).grid.coords t)
  simp only [hi]
  exact triple_restated (sound_body V a c t) rfl .rfl fun _ => .rfl

/-! ## The launch -/

theorem held_eq (c : Dev nD) : (Pipeline.ΦT (U := UR sig nD τ) pre0 (a 0).1 c : sProp 𝕄) = (tbl.view.loc (c : Thread nD τ) ↦[tbl.view.set]{fullShare.right} tab a) := by
  rw [← pt_tbl c fullShare.right (tab a)]
  unfold Pipeline.ΦT Pipeline.prefHeld
  exact bigSep_univ_eq_bigSepL [(0 : Fin 1)] (by decide) (by decide) _

theorem scratch_in (c : Dev nD) : iprop(Pipeline.ΦA (U := UR sig nD τ) spec0 c ∗ Pipeline.ΦT (U := UR sig nD τ) pre0 (a 0).1 c) ⊢ tracked (F := F) V a c 0 := by
  rw [held_eq]
  unfold Pipeline.ΦA tracked
  rw [scopedRest0_eq]
  simp only [pt_scH]
  iintro ⟨⟨⟨%f0, H0⟩, Hp⟩, Ht⟩
  isplitl [H0]
  · iexists _
    isplitl [H0]; · iexact H0
    ipureintro
    intro t ht hne
    exact absurd (by rw [ht]) hne
  isplitl [Ht]; · iexact Ht
  iexact Hp

theorem scratch_out (c : Dev nD) (n : Nat) : tracked (F := F) V a c n ⊢ Pipeline.ΦA spec0 c := by
  unfold Pipeline.ΦA tracked
  rw [scopedRest0_eq]
  simp only [pt_scH]
  iintro ⟨⟨%f0, H0, -⟩, -, Hp⟩
  isplitl [H0]; · iexists _; iexact H0
  iexact Hp

variable (m : (ℓ : Loc nD τ sig) → Buf (Elt F) ℓ) (ρ : Dev nD → PrngReg)

/-- What every array holds when the launch begins. -/
def Vm (c : Dev nD) (b : Ref sig .tc) : Buf (Elt F) ((c : Thread nD τ).loc b) :=
  StableHlo.after (List.flatten [hostOps0, hostOps0_1, hostOps0_2, hostOps0_3, hostOps0_4]) (fun b => m (c, b)) b

/-- The table then. -/
def adm : (p : Fin 1) → (pcfgs (F := F) p).Adm := fun _ => ⟨fun k => Vm m (0 : Dev nD) (pre0.ref k), trivial⟩

theorem hmain : Pipeline.HMainP (Ix := Unit) (Name := ℕ) (U := UR sig nD τ) (Lvl := ℕ) (pcfgs (F := F)) 0 defs₀ Variants.none m (main (F := F)) (Vm m) :=
  Pipeline.hmainP_prefixes pcfgs 0 defs₀ Variants.none m main [hostOps0, hostOps0_1, hostOps0_2, hostOps0_3, hostOps0_4]
    ⟨hostOps0_sub, hostOps0_1_sub, hostOps0_2_sub, hostOps0_3_sub, hostOps0_4_sub⟩
    (by simp only [List.Forall]; repeat' constructor) main_chain

set_option backward.isDefEq.respectTransparency.types false in
set_option maxHeartbeats 1600000 in
/-- The program runs, leaves every array as the launch's proof data says, and every semaphore at zero. -/
theorem run_main : θ_run defs (onTc (τ := τ) (main (F := F))) (s₀ m ρ)
    (fun r => Pipeline.FramePost (cfgs (adm m)) (dats (Vm m) (adm m)) 0 (Vm m) r ∧ r.2.sem = fun _ => 0) :=
  Pipeline.θ_run_frameP_track_shared pcfgs (adm m) (dats (Vm m) (adm m)) (0 : Fin 1) launch0.to₀ defs₀ Variants.none m ρ main
    (hbody := fun c => (body_obligation (Vm m) (adm m) c).loose) (hq := fun _ _ _ => rfl) (howed := fun _ _ => rfl) (V := Vm m) (hmain := hmain m)
    (hA := A_eq (Vm m) (adm m)) (hpf := fun c k => by obtain rfl : c = 0 := Subsingleton.elim _ _; rfl)
    (hin := fun c => scratch_in (Vm m) (adm m) c) (hout := fun c => scratch_out (Vm m) (adm m) c _)
    (Q' := fun r => Pipeline.FramePost (cfgs (adm m)) (dats (Vm m) (adm m)) 0 (Vm m) r ∧ r.2.sem = fun _ => 0) (hQ' := fun _ h => h)

end Cert.ProjIdeal.In

end
-- ==== Proof.ProjValue.lean ====
/-
  The input projection's arrays when its launch begins, and the arguments after it.
-/
module

public import proofs.«01_k».proof.Proof.ProjFrame
public import proofs.«01_k».proof.Proof.Finite

@[expose] public section

set_option maxRecDepth 16384

noncomputable section

namespace Cert.ProjIdeal.In

open Cert.ProjIdeal Cert.ProjIdeal.Gen
open Idealize.ShloMosaic Idealize.ShloMosaic.TcCoe
open Idealize.SL.Sem

/-! ## What the host leaves -/

section Host

variable {F : FTy → Type} [FloatOps F]
variable (m : (ℓ : Loc nD τ sig) → Buf (Elt F) ℓ)

theorem Vm_main_arg0 (c : Dev nD) : Vm m c main_arg0 = m ((c : Thread nD τ).loc main_arg0) := (rfl)
theorem Vm_main_arg1 (c : Dev nD) : Vm m c main_arg1 = m ((c : Thread nD τ).loc main_arg1) := (rfl)
theorem Vm_main_arg2 (c : Dev nD) : Vm m c main_arg2 = m ((c : Thread nD τ).loc main_arg2) := (rfl)
theorem Vm_main_arg3 (c : Dev nD) : Vm m c main_arg3 = m ((c : Thread nD τ).loc main_arg3) := (rfl)

/-- The arguments are unchanged wherever the launch's post holds. -/
theorem args_kept {r : PUnit × MemSt nD τ sig (Elt F)} (h : Pipeline.FramePost (cfgs (adm m)) (dats (Vm m) (adm m)) 0 (Vm m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact ((h c).1 0).trans (((dats (Vm m) (adm m) 0 c).arrAt_in 0 rfl _).trans ((A_eq (Vm m) (adm m) c 0).trans (Vm_main_arg0 m c)))
  · exact ((h c).2 main_arg1 (Pipeline.mem_restRefs_of main_arg1 (by decide) (by show ∀ w : Fin 7, (spec0 w).arr.view.ref ≠ main_arg1; decide))).trans (Vm_main_arg1 m c)
  · exact ((h c).2 main_arg2 (Pipeline.mem_restRefs_of main_arg2 (by decide) (by show ∀ w : Fin 7, (spec0 w).arr.view.ref ≠ main_arg2; decide))).trans (Vm_main_arg2 m c)
  · exact ((h c).2 main_arg3 (Pipeline.mem_restRefs_of main_arg3 (by decide) (by show ∀ w : Fin 7, (spec0 w).arr.view.ref ≠ main_arg3; decide))).trans (Vm_main_arg3 m c)

/-- The five groups of columns that the projection computes, side by side. -/
def wCols (w : FVec F S1024x4096 .f32) : FVec F S1024x2560 .f32 :=
  concatenate S1024x2560 1 [⟨S1024x512, extractStridedSlice S1024x512 ![0, 0] w slices_S1024x4096_S1024x512_0_0⟩,
    ⟨S1024x512, extractStridedSlice S1024x512 ![0, 512] w slices_S1024x4096_S1024x512_0_512⟩,
    ⟨S1024x512, extractStridedSlice S1024x512 ![0, 1024] w slices_S1024x4096_S1024x512_0_1024⟩,
    ⟨S1024x512, extractStridedSlice S1024x512 ![0, 1536] w slices_S1024x4096_S1024x512_0_1536⟩,
    ⟨S1024x512, extractStridedSlice S1024x512 ![0, 3584] w slices_S1024x4096_S1024x512_0_3584⟩] concatenates_S1024x512_S1024x512_S1024x512_S1024x512_S1024x512_S1024x2560_d1

/-- A constant 512 times. -/
def rep (b : BitVec 32) : FVec F S512 .f32 := broadcastInDim S512 ![] bcast_S_S512 (constant S_ .f32 b)

/-- The queries' gains for each column, with their factor. -/
def gainQ (q : FVec F S4x64 .f32) : FVec F S512 .f32 :=
  mulf (shapeCast S512 (broadcastInDim S8x64 ![0, 1] bcast_S1x64_S8x64_0_1 (shapeCast S1x64 (shapeCast S64 (extractStridedSlice S1x64 ![0, 0] q slices_S4x64_S1x64_0_0)
    shapeCasts_S1x64_S64) shapeCasts_S64_S1x64)) shapeCasts_S8x64_S512) (rep 0x3E000000#32)
/-- The keys'. -/
def gainK (q : FVec F S4x64 .f32) : FVec F S512 .f32 :=
  shapeCast S512 (broadcastInDim S8x64 ![0, 1] bcast_S1x64_S8x64_0_1 (shapeCast S1x64 (shapeCast S64 (extractStridedSlice S1x64 ![1, 0] q slices_S4x64_S1x64_1_0)
    shapeCasts_S1x64_S64) shapeCasts_S64_S1x64)) shapeCasts_S8x64_S512

/-- Five pieces of 512. -/
def five (a b c d e : FVec F S512 .f32) : FVec F S2560 .f32 :=
  concatenate S2560 0 [⟨S512, a⟩, ⟨S512, b⟩, ⟨S512, c⟩, ⟨S512, d⟩, ⟨S512, e⟩] concatenates_S512_S512_S512_S512_S512_S2560_d0

/-- Which columns are normed. -/
def maskV : FVec F S2560 .f32 := five (rep 0x3F800000#32) (rep 0x3F800000#32) (rep 0x00000000#32) (rep 0x00000000#32) (rep 0x00000000#32)

/-- The table: whether a group of 512 columns has a normed one. -/
def tabV : IVec S5 32 :=
  extui 32 (cmpf .ogt (Host.reduce (FloatOps.maximumf (F := F) (φ := .f32)) (shapeCast S5x512 (maskV (F := F)) shapeCasts_S2560_S5x512) (constant S_ .f32 0xFF800000#32) reducesTo_S5x512_S5_d1 h_S_)
    (broadcastInDim S5 ![] bcast_S_S5 (constant S_ .f32 0x3F000000#32))) natLt_1_32

/-- The head that each of 256 columns is of. -/
def headV : IVec S256 32 :=
  let i : IVec S256 32 := iotaInDim S256 32 0
  let k : IVec S_ 32 := constantI S_ 32 64#32
  let d : IVec S256 32 := Host.divsi i (broadcastInDim S256 ![] bcast_S_S256 k)
  select (andi (cmpi .ne (signi i) (broadcastInDim S256 ![] bcast_S_S256 (signi k)))
      (cmpi .ne (Host.remsi i (broadcastInDim S256 ![] bcast_S_S256 k)) (broadcastInDim S256 ![] bcast_S_S256 (constantI S_ 32 0#32))))
    (subi d (broadcastInDim S256 ![] bcast_S_S256 (constantI S_ 32 1#32))) d

/-- One sixty-fourth within a head, zero across heads. -/
def blockV : FVec F S256x256 .f32 :=
  select (cmpi .eq (broadcastInDim S256x256 ![0, 1] bcast_S256x1_S256x256_0_1 (broadcastInDim S256x1 ![0] bcast_S256_S256x1_0 headV))
      (broadcastInDim S256x256 ![0, 1] bcast_S1x256_S256x256_0_1 (broadcastInDim S1x256 ![1] bcast_S256_S1x256_1 headV)))
    (broadcastInDim S256x256 ![] bcast_S_S256x256 (constant S_ .f32 0x3C800000#32)) (broadcastInDim S256x256 ![] bcast_S_S256x256 (constant S_ .f32 0x00000000#32))

theorem Vm_w (c : Dev nD) : Vm m c main_v8 = truncf .bf16 (wCols (m ((c : Thread nD τ).loc main_arg2))) bitsLt_bf16_f32 := (rfl)
theorem Vm_ln (c : Dev nD) : Vm m c main_v37 = shapeCast S1x1024 (m ((c : Thread nD τ).loc main_arg1)) shapeCasts_S1024_S1x1024 := (rfl)
set_option maxHeartbeats 1000000 in
theorem Vm_gain (c : Dev nD) : Vm m c main_v38
    = shapeCast S1x2560 (five (gainQ (m ((c : Thread nD τ).loc main_arg3))) (gainK (m ((c : Thread nD τ).loc main_arg3))) (rep 0x3F800000#32) (rep 0x3F800000#32) (rep 0x3F800000#32)) shapeCasts_S2560_S1x2560 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl
theorem Vm_mask (c : Dev nD) : Vm m c main_v39 = shapeCast S1x2560 (maskV (F := F)) shapeCasts_S2560_S1x2560 := (rfl)
theorem Vm_tab (c : Dev nD) : Vm m c main_v27 = tabV (F := F) := (rfl)
set_option maxHeartbeats 1000000 in
theorem Vm_block (c : Dev nD) : Vm m c main_v36 = truncf .bf16 (blockV (F := F)) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl

end Host

/-! ## Read at an index -/

section Read

theorem headV_at : ∀ r : Fin 256, headV (ix1 r) = BitVec.ofNat 32 (r.val / 64) := by decide +kernel

theorem blockV_at (r s : Fin 256) : blockV (F := Ideal) (ix2 r s) = if r.val / 64 = s.val / 64 then Ideal.ofBits .f32 0x3C800000#32 else Ideal.ofBits .f32 0x00000000#32 := by
  have e : blockV (F := Ideal) (ix2 r s) = Scalar.select (IntOp.cmpi .eq (headV (ix1 r)) (headV (ix1 s))) (Ideal.ofBits .f32 0x3C800000#32) (Ideal.ofBits .f32 0x00000000#32) := by
    pointwise [blockV]
  rw [e, headV_at, headV_at]
  have key : ∀ x y : Fin 4, IntOp.cmpi .eq (BitVec.ofNat 32 x.val) (BitVec.ofNat 32 y.val) = if x.val = y.val then 1#1 else 0#1 := by decide
  have k := key ⟨r.val / 64, by omega⟩ ⟨s.val / 64, by omega⟩
  dsimp only at k
  rw [k]
  split <;> rfl

theorem five_0 (a b c d e : FVec Ideal S512 .f32) (k : Fin 512) : five a b c d e (ix1 ⟨k.val, by omega⟩) = a (ix1 k) := by pointwise [five]
theorem five_1 (a b c d e : FVec Ideal S512 .f32) (k : Fin 512) : five a b c d e (ix1 ⟨512 + k.val, by omega⟩) = b (ix1 k) := by pointwise [five]
theorem five_2 (a b c d e : FVec Ideal S512 .f32) (k : Fin 512) : five a b c d e (ix1 ⟨1024 + k.val, by omega⟩) = c (ix1 k) := by
  pointwise [five]
  rw [dif_neg (by omega), dif_neg (by omega), dif_pos (by omega)]
  exact congrArg (fun n => c (ix1 n)) (Fin.ext (by dsimp only; omega))
theorem five_3 (a b c d e : FVec Ideal S512 .f32) (k : Fin 512) : five a b c d e (ix1 ⟨1536 + k.val, by omega⟩) = d (ix1 k) := by
  pointwise [five]
  rw [dif_neg (by omega), dif_neg (by omega), dif_neg (by omega), dif_pos (by omega)]
  exact congrArg (fun n => d (ix1 n)) (Fin.ext (by dsimp only; omega))
theorem five_4 (a b c d e : FVec Ideal S512 .f32) (k : Fin 512) : five a b c d e (ix1 ⟨2048 + k.val, by omega⟩) = e (ix1 k) := by
  pointwise [five]
  rw [dif_neg (by omega), dif_neg (by omega), dif_neg (by omega), dif_neg (by omega)]
  exact congrArg (fun n => e (ix1 n)) (Fin.ext (by dsimp only; omega))

theorem wCols_0 (w : FVec Ideal S1024x4096 .f32) (k : Fin 1024) (e : Fin 512) : wCols w (ix2 k ⟨e.val, by omega⟩) = w (ix2 k ⟨e.val, by omega⟩) := by pointwise [wCols]
theorem wCols_1 (w : FVec Ideal S1024x4096 .f32) (k : Fin 1024) (e : Fin 512) : wCols w (ix2 k ⟨512 + e.val, by omega⟩) = w (ix2 k ⟨512 + e.val, by omega⟩) := by pointwise [wCols]
theorem wCols_2 (w : FVec Ideal S1024x4096 .f32) (k : Fin 1024) (e : Fin 512) : wCols w (ix2 k ⟨1024 + e.val, by omega⟩) = w (ix2 k ⟨1024 + e.val, by omega⟩) := by
  pointwise [wCols]
  rw [dif_neg (by omega), dif_neg (by omega), dif_pos (by omega)]
  exact congrArg (fun n => w (ix2 k n)) (Fin.ext (by dsimp only; omega))
theorem wCols_3 (w : FVec Ideal S1024x4096 .f32) (k : Fin 1024) (e : Fin 512) : wCols w (ix2 k ⟨1536 + e.val, by omega⟩) = w (ix2 k ⟨1536 + e.val, by omega⟩) := by
  pointwise [wCols]
  rw [dif_neg (by omega), dif_neg (by omega), dif_neg (by omega), dif_pos (by omega)]
  exact congrArg (fun n => w (ix2 k n)) (Fin.ext (by dsimp only; omega))
theorem wCols_4 (w : FVec Ideal S1024x4096 .f32) (k : Fin 1024) (e : Fin 512) : wCols w (ix2 k ⟨2048 + e.val, by omega⟩) = w (ix2 k ⟨3584 + e.val, by omega⟩) := by
  pointwise [wCols]
  rw [dif_neg (by omega), dif_neg (by omega), dif_neg (by omega), dif_neg (by omega)]
  exact congrArg (fun n => w (ix2 k n)) (Fin.ext (by dsimp only; omega))

theorem gainQ_at (q : FVec Ideal S4x64 .f32) (k : Fin 512) : gainQ q (ix1 k) = q (ix2 0 ⟨k.val % 64, by omega⟩) * Ideal.ofBits .f32 0x3E000000#32 := by pointwise [gainQ, rep]
theorem gainK_at (q : FVec Ideal S4x64 .f32) (k : Fin 512) : gainK q (ix1 k) = q (ix2 1 ⟨k.val % 64, by omega⟩) := by pointwise [gainK]
theorem rep_at (b : BitVec 32) (k : Fin 512) : rep (F := Ideal) b (ix1 k) = Ideal.ofBits .f32 b := by pointwise [rep]

end Read

end Cert.ProjIdeal.In

end
-- ==== Proof.ProjRead.lean ====
/-
  The input projection's payloads and blocks read at an index.
-/
module

public import proofs.«01_k».proof.Proof.ProjValue
public import Idealize.ShloMosaic.Lib.Pipeline.ValueKit

@[expose] public section

set_option maxRecDepth 16384

noncomputable section

namespace Cert.ProjIdeal.In

open Cert.ProjIdeal Cert.ProjIdeal.Gen
open Idealize.ShloMosaic Idealize.ShloMosaic.TcCoe
open Idealize.SL.Sem

/-! ## The payloads -/

theorem pay1_at (x : FVec Ideal S512x1024 .f32) (l : FVec Ideal S1x1024 .f32) (r : Fin 512) (k : Fin 1024) :
    k0_pay1 (F := Ideal) x l (ix2 r k)
      = x (ix2 r k) * Ideal.rsqrt (Ideal.div (∑ e : Fin 1024, x (ix2 r e) * x (ix2 r e)) (Ideal.ofBits .f32 0x44800000#32) + Ideal.ofBits .f32 0x358637BD#32) * l (ix2 0 k) := by
  pointwise [k0_pay1]

theorem pay2_at (h : FVec Ideal S512x1024 .bf16) (w : FVec Ideal S1024x512 .bf16) (r e : Fin 512) :
    k0_pay2 (F := Ideal) h w (ix2 r e) = ∑ k : Fin 1024, h (ix2 r k) * w (ix2 k e) := by
  pointwise [k0_pay2]

/-- A column normed by the mean of squares that the two products give. -/
def split (P : Fin 256 → EReal) (B : Fin 256 → EReal) (e : Fin 256) : EReal :=
  P e * Ideal.rsqrt (∑ s, P s * P s * B s + ∑ s, (P s * P s - P s * P s) * B s + Ideal.ofBits .f32 0x358637BD#32)

theorem pay5_at (p : FVec Ideal S512x512 .f32) (bd : FVec Ideal S256x256 .bf16) (g nm : FVec Ideal S1x256 .f32) (r : Fin 512) (e : Fin 256) :
    k0_pay5 (F := Ideal) p bd g nm (ix2 r e)
      = Scalar.select (Ideal.cmp .ogt (nm (ix2 0 e)) (Ideal.ofBits .f32 0x3F000000#32))
          (split (fun s => p (ix2 r ⟨s.val, by omega⟩)) (fun s => bd (ix2 s e)) e * g (ix2 0 e)) (p (ix2 r ⟨e.val, by omega⟩)) := by
  pointwise [k0_pay5, k0_pay4, split]

theorem pay3_at (p : FVec Ideal S512x512 .f32) (bd : FVec Ideal S256x256 .bf16) (g nm : FVec Ideal S1x256 .f32) (r : Fin 512) (e : Fin 256) :
    k0_pay3 (F := Ideal) (k0_pay6 p) (k0_pay7 p bd) (k0_pay8 g) nm (ix2 r e)
      = Scalar.select (Ideal.cmp .ogt (nm (ix2 0 e)) (Ideal.ofBits .f32 0x3F000000#32))
          (split (fun s => p (ix2 r ⟨256 + s.val, by omega⟩)) (fun s => bd (ix2 s e)) e * g (ix2 0 e)) (p (ix2 r ⟨256 + e.val, by omega⟩)) := by
  pointwise [k0_pay3, k0_pay6, k0_pay7, k0_pay8, k0_pay4, split]

theorem lo_at (g : FVec Ideal S1x512 .f32) (e : Fin 256) : lo (F := Ideal) g (ix2 0 e) = g (ix2 0 ⟨e.val, by omega⟩) := by
  refine congrArg g (funext fun x => Fin.ext ?_)
  fin_cases x
  · rfl
  · show 0 + 1 * e.val = e.val
    omega
theorem hi_at (g : FVec Ideal S1x512 .f32) (e : Fin 256) : hi (F := Ideal) g (ix2 0 e) = g (ix2 0 ⟨256 + e.val, by omega⟩) := by
  refine congrArg g (funext fun x => Fin.ext ?_)
  fin_cases x
  · rfl
  · show 256 + 1 * e.val = 256 + e.val
    omega

/-! ## The blocks -/

section Blocks

variable (V : (c : Dev nD) → (b : Ref sig .tc) → Buf (Elt Ideal) ((c : Thread nD τ).loc b)) (a : (p : Fin 1) → (pcfgs (F := Ideal) p).Adm)

theorem idx : ∀ t : Fin (NN a),
    ((pcfg0 (F := Ideal)).win (a 0) 0).index t = ![(grid0.coords t 0).val, 0] ∧ ((pcfg0 (F := Ideal)).win (a 0) 1).index t = ![0, 0] ∧ ((pcfg0 (F := Ideal)).win (a 0) 2).index t = ![0, (grid0.coords t 1).val]
      ∧ ((pcfg0 (F := Ideal)).win (a 0) 3).index t = ![0, (grid0.coords t 1).val] ∧ ((pcfg0 (F := Ideal)).win (a 0) 4).index t = ![0, (grid0.coords t 1).val] ∧ ((pcfg0 (F := Ideal)).win (a 0) 5).index t = ![0, 0]
      ∧ ((pcfg0 (F := Ideal)).win (a 0) 6).index t = ![(grid0.coords t 0).val, (grid0.coords t 1).val] ∧ (grid0.coords t 0).val < 64 ∧ (grid0.coords t 1).val < 5 :=
  (by decide +kernel : ∀ t : Fin grid0.N, cc0_transform_0 (grid0.coords t) = ![(grid0.coords t 0).val, 0] ∧ cc0_transform_1 (grid0.coords t) = ![0, 0]
    ∧ cc0_transform_2 (grid0.coords t) = ![0, (grid0.coords t 1).val] ∧ cc0_transform_3 (grid0.coords t) = ![0, (grid0.coords t 1).val]
    ∧ cc0_transform_4 (grid0.coords t) = ![0, (grid0.coords t 1).val] ∧ cc0_transform_5 (grid0.coords t) = ![0, 0]
    ∧ cc0_transform_6 (grid0.coords t) = ![(grid0.coords t 0).val, (grid0.coords t 1).val] ∧ (grid0.coords t 0).val < 64 ∧ (grid0.coords t 1).val < 5)

theorem c0_lt (t : Fin (NN a)) : (grid0.coords t 0).val < 64 := (idx a t).2.2.2.2.2.2.2.1
theorem c1_lt (t : Fin (NN a)) : (grid0.coords t 1).val < 5 := (idx a t).2.2.2.2.2.2.2.2

/-- The row of the arrays that is row `r` of the blocks of point `t`. -/
def row (t : Fin (NN a)) (r : Fin 512) : Fin 32768 := ⟨512 * (grid0.coords t 0).val + r.val, by have := c0_lt a t; omega⟩
/-- The column that is column `e`. -/
def col (t : Fin (NN a)) (e : Fin 512) : Fin 2560 := ⟨512 * (grid0.coords t 1).val + e.val, by have := c1_lt a t; omega⟩

theorem x_at (c : Dev nD) (t : Fin (NN a)) (r : Fin 512) (k : Fin 1024) :
    (show FVec Ideal S512x1024 .f32 from iblk V a c 0 t) (ix2 r k) = (show FVec Ideal S32768x1024 .f32 from V c main_arg0) (ix2 (row a t r) k) := by
  have h0 := c0_lt a t
  unfold row
  blk_ext [iblk, idx a t]
theorem ln_at (c : Dev nD) (t : Fin (NN a)) (k : Fin 1024) :
    (show FVec Ideal S1x1024 .f32 from iblk V a c 1 t) (ix2 0 k) = (show FVec Ideal S1x1024 .f32 from V c main_v37) (ix2 0 k) := by
  blk_ext [iblk, idx a t]
theorem w_at (c : Dev nD) (t : Fin (NN a)) (k : Fin 1024) (e : Fin 512) :
    (show FVec Ideal S1024x512 .bf16 from iblk V a c 2 t) (ix2 k e) = (show FVec Ideal S1024x2560 .bf16 from V c main_v8) (ix2 k (col a t e)) := by
  have h0 := c1_lt a t
  unfold col
  blk_ext [iblk, idx a t]
theorem g_at (c : Dev nD) (t : Fin (NN a)) (e : Fin 512) :
    (show FVec Ideal S1x512 .f32 from iblk V a c 3 t) (ix2 0 e) = (show FVec Ideal S1x2560 .f32 from V c main_v38) (ix2 0 (col a t e)) := by
  have h0 := c1_lt a t
  unfold col
  blk_ext [iblk, idx a t]
theorem nm_at (c : Dev nD) (t : Fin (NN a)) (e : Fin 512) :
    (show FVec Ideal S1x512 .f32 from iblk V a c 4 t) (ix2 0 e) = (show FVec Ideal S1x2560 .f32 from V c main_v39) (ix2 0 (col a t e)) := by
  have h0 := c1_lt a t
  unfold col
  blk_ext [iblk, idx a t]
theorem bd_at (c : Dev nD) (t : Fin (NN a)) (r s : Fin 256) :
    (show FVec Ideal S256x256 .bf16 from iblk V a c 5 t) (ix2 r s) = (show FVec Ideal S256x256 .bf16 from V c main_v36) (ix2 r s) := by
  blk_ext [iblk, idx a t]

end Blocks

end Cert.ProjIdeal.In

end
-- ==== Proof.ProjMath.lean ====
/-
  The input projection in the reals: the rows, the columns normed in heads, and the mean of squares that the
  kernel has as two products.
-/
module

public import proofs.«01_k».proof.Proof.ProjRead
public import proofs.«01_k».proof.Proof.Soft

@[expose] public section

set_option maxRecDepth 16384

noncomputable section

namespace Cert.ProjIdeal.In

open Cert.ProjIdeal Cert.ProjIdeal.Gen
open Idealize.ShloMosaic Idealize.ShloMosaic.TcCoe

/-! ## Constants -/

theorem c_half : Ideal.ofBits .f32 0x3F000000#32 = ((1 / 2 : ℝ) : EReal) := by
  simp [Ideal.ofBits, Ideal.ieee, -EReal.coe_mul, -EReal.coe_neg]; norm_num
theorem c_one : Ideal.ofBits .f32 0x3F800000#32 = ((1 : ℝ) : EReal) := by
  simp [Ideal.ofBits, Ideal.ieee, -EReal.coe_mul, -EReal.coe_neg]; norm_num
theorem c_zero : Ideal.ofBits .f32 0x00000000#32 = ((0 : ℝ) : EReal) := by
  simp [Ideal.ofBits, Ideal.ieee, -EReal.coe_mul, -EReal.coe_neg]
theorem c_inv64 : Ideal.ofBits .f32 0x3C800000#32 = ((1 / 64 : ℝ) : EReal) := by
  simp [Ideal.ofBits, Ideal.ieee, -EReal.coe_mul, -EReal.coe_neg]; norm_num
theorem c_64 : Ideal.ofBits .f32 0x42800000#32 = ((64 : ℝ) : EReal) := by
  simp [Ideal.ofBits, Ideal.ieee, -EReal.coe_mul, -EReal.coe_neg]; norm_num
theorem c_1024 : Ideal.ofBits .f32 0x44800000#32 = ((1024 : ℝ) : EReal) := by
  simp [Ideal.ofBits, Ideal.ieee, -EReal.coe_mul, -EReal.coe_neg]; norm_num
theorem c_eps : Ideal.ofBits .f32 0x358637BD#32 = ((8796093 / 8796093022208 : ℝ) : EReal) := by
  simp [Ideal.ofBits, Ideal.ieee, -EReal.coe_mul, -EReal.coe_neg]; norm_num

theorem div_real (x y : ℝ) (h : y ≠ 0) : Ideal.div (x : EReal) (y : EReal) = ((x / y : ℝ) : EReal) := by
  have h' : (y : EReal) ≠ 0 := fun e => h (by exact_mod_cast e)
  rw [Ideal.div, if_neg h', EReal.coe_div]
  rfl

/-! ## The projection -/

/-- Entry `k` of the normed row `r`. -/
def hAt (X : FVec Ideal S32768x1024 .f32) (L : FVec Ideal S1024 .f32) (r : Fin 32768) (k : Fin 1024) : EReal :=
  X (ix2 r k) * Ideal.rsqrt (Ideal.div (∑ e : Fin 1024, X (ix2 r e) * X (ix2 r e)) (Ideal.ofBits .f32 0x44800000#32) + Ideal.ofBits .f32 0x358637BD#32) * L (ix1 k)

/-- Its product with column `n` of the weights. -/
def yAt (X : FVec Ideal S32768x1024 .f32) (L : FVec Ideal S1024 .f32) (W : FVec Ideal S1024x4096 .f32) (r : Fin 32768) (n : Fin 4096) : EReal :=
  ∑ k : Fin 1024, hAt X L r k * W (ix2 k n)

/-- Column `n` over the root of its head's mean of squares. -/
def headAt (X : FVec Ideal S32768x1024 .f32) (L : FVec Ideal S1024 .f32) (W : FVec Ideal S1024x4096 .f32) (r : Fin 32768) (n : Nat) (hn : n < 1024) : EReal :=
  yAt X L W r ⟨n, by omega⟩ * Ideal.rsqrt (Ideal.div (∑ d : Fin 64, yAt X L W r ⟨64 * (n / 64) + d.val, by omega⟩ * yAt X L W r ⟨64 * (n / 64) + d.val, by omega⟩)
    (Ideal.ofBits .f32 0x42800000#32) + Ideal.ofBits .f32 0x358637BD#32)

/-- The column of the weights that column `n` of the result is from. -/
def colW (n : Fin 2560) : Fin 4096 := if n.val < 2048 then ⟨n.val, by omega⟩ else ⟨n.val + 1536, by omega⟩

/-- Entry `n` of row `r` of the result. -/
def resAt (X : FVec Ideal S32768x1024 .f32) (L : FVec Ideal S1024 .f32) (W : FVec Ideal S1024x4096 .f32) (Q : FVec Ideal S4x64 .f32) (r : Fin 32768) (n : Fin 2560) : EReal :=
  if h : n.val < 512 then headAt X L W r n.val (by omega) * Q (ix2 0 ⟨n.val % 64, by omega⟩) * Ideal.ofBits .f32 0x3E000000#32
  else if h : n.val < 1024 then headAt X L W r n.val h * Q (ix2 1 ⟨n.val % 64, by omega⟩)
  else yAt X L W r (colW n)

/-- The result. -/
def res (X : FVec Ideal S32768x1024 .f32) (L : FVec Ideal S1024 .f32) (W : FVec Ideal S1024x4096 .f32) (Q : FVec Ideal S4x64 .f32) : FVec Ideal S32768x2560 .f32 :=
  fun i => resAt X L W Q (i 0) (i 1)

/-! ## Its values are real -/

theorem sq_nonneg (x : EReal) : 0 ≤ x * x := by
  induction x with
  | bot => simp
  | top => simp
  | coe r => exact_mod_cast mul_self_nonneg r

theorem normed_real (f : Fin 1024 → EReal) (k : Fin 1024) :
    ∃ v : ℝ, f k * Ideal.rsqrt (Ideal.div (∑ e, f e * f e) (Ideal.ofBits .f32 0x44800000#32) + Ideal.ofBits .f32 0x358637BD#32) = (v : EReal) := by
  have h0 : ∀ e, 0 ≤ f e * f e := fun e => sq_nonneg _
  have hs : f k * f k ≤ ∑ e, f e * f e := Finset.single_le_sum (f := fun e => f e * f e) (fun e _ => h0 e) (Finset.mem_univ k)
  have hS : 0 ≤ ∑ e, f e * f e := Finset.sum_nonneg fun e _ => h0 e
  rw [c_1024, c_eps]
  generalize (∑ e, f e * f e) = S at hs hS ⊢
  induction S with
  | bot => exact absurd hS (by simp)
  | top =>
    refine ⟨0, ?_⟩
    have e1 : Ideal.div (⊤ : EReal) ((1024 : ℝ) : EReal) = ⊤ := by
      have h' : ((1024 : ℝ) : EReal) ≠ 0 := fun e => (by norm_num : (1024 : ℝ) ≠ 0) (by exact_mod_cast e)
      rw [Ideal.div, if_neg h', ← EReal.coe_inv]
      exact EReal.top_mul_coe_of_pos (by norm_num)
    rw [e1, EReal.top_add_coe]
    show f k * 0 = _
    rw [mul_zero]
    rfl
  | coe s =>
    have hs0 : 0 ≤ s := by exact_mod_cast hS
    rw [div_real _ _ (by norm_num), ← EReal.coe_add]
    have hp : 0 < s / 1024 + 8796093 / 8796093022208 := by positivity
    have e2 : Ideal.rsqrt ((s / 1024 + 8796093 / 8796093022208 : ℝ) : EReal) = ((Real.sqrt (s / 1024 + 8796093 / 8796093022208))⁻¹ : ℝ) := by
      show (if _ < 0 then ⊥ else if _ = 0 then ⊤ else _) = _
      rw [if_neg (not_lt.mpr hp.le), if_neg hp.ne']
    rw [e2]
    generalize f k = x at hs
    induction x with
    | bot => exact absurd hs (by simp)
    | top => exact absurd hs (by simp)
    | coe x => exact ⟨_, (EReal.coe_mul _ _).symm⟩

theorem hAt_real (X : FVec Ideal S32768x1024 .f32) (L : FVec Ideal S1024 .f32) (hL : ∀ k, L k ≠ (⊤ : EReal) ∧ L k ≠ (⊥ : EReal)) (r : Fin 32768) (k : Fin 1024) :
    ∃ v : ℝ, hAt X L r k = (v : EReal) := by
  obtain ⟨v, hv⟩ := normed_real (fun e => X (ix2 r e)) k
  refine ⟨v * (L (ix1 k)).toReal, ?_⟩
  rw [EReal.coe_mul, EReal.coe_toReal (hL _).1 (hL _).2]
  exact congrArg (· * L (ix1 k)) hv

theorem yAt_real (X : FVec Ideal S32768x1024 .f32) (L : FVec Ideal S1024 .f32) (W : FVec Ideal S1024x4096 .f32) (hL : ∀ k, L k ≠ (⊤ : EReal) ∧ L k ≠ (⊥ : EReal))
    (r : Fin 32768) (n : Fin 4096) (hW : ∀ k : Fin 1024, W (ix2 k n) ≠ (⊤ : EReal) ∧ W (ix2 k n) ≠ (⊥ : EReal)) : ∃ v : ℝ, yAt X L W r n = (v : EReal) := by
  have hh := fun k => hAt_real X L hL r k
  choose v hv using hh
  refine ⟨∑ k, v k * (W (ix2 k n)).toReal, ?_⟩
  rw [← Cert.Soft.coe_sum]
  refine Finset.sum_congr rfl fun k _ => ?_
  rw [EReal.coe_mul, EReal.coe_toReal (hW k).1 (hW k).2, hv k]

/-! ## The mean of squares -/

theorem head_sum (f : Fin 256 → ℝ) (e : Fin 256) :
    (∑ s : Fin 256, f s * (if s.val / 64 = e.val / 64 then (1 / 64 : ℝ) else 0)) = (∑ d : Fin 64, f ⟨64 * (e.val / 64) + d.val, by omega⟩) / 64 := by
  rw [← Equiv.sum_comp (finProdFinEquiv (m := 4) (n := 64)) (fun s : Fin 256 => f s * (if s.val / 64 = e.val / 64 then (1 / 64 : ℝ) else 0)), Fintype.sum_prod_type]
  rw [Finset.sum_eq_single (⟨e.val / 64, by omega⟩ : Fin 4)]
  · rw [Finset.sum_div]
    refine Finset.sum_congr rfl fun d _ => ?_
    have hv : (finProdFinEquiv ((⟨e.val / 64, by omega⟩ : Fin 4), d) : Fin (4 * 64)).val = d.val + 64 * (e.val / 64) := rfl
    rw [if_pos (by rw [hv]; omega), mul_one_div]
    exact congrArg (fun n => f n / 64) (Fin.ext (by rw [hv]; dsimp only; omega))
  · intro b _ hb
    refine Finset.sum_eq_zero fun d _ => ?_
    have hv : (finProdFinEquiv (b, d) : Fin (4 * 64)).val = d.val + 64 * b.val := rfl
    rw [if_neg, mul_zero]
    rw [hv]
    intro h
    exact hb (Fin.ext (by dsimp only; omega))
  · intro h; exact absurd (Finset.mem_univ _) h

theorem split_eq (P : Fin 256 → EReal) (p : Fin 256 → ℝ) (hP : ∀ s, P s = (p s : EReal)) (B : Fin 256 → EReal) (e : Fin 256)
    (hB : ∀ s, B s = if s.val / 64 = e.val / 64 then Ideal.ofBits .f32 0x3C800000#32 else Ideal.ofBits .f32 0x00000000#32) :
    split P B e = P e * Ideal.rsqrt (Ideal.div (∑ d : Fin 64, P ⟨64 * (e.val / 64) + d.val, by omega⟩ * P ⟨64 * (e.val / 64) + d.val, by omega⟩)
      (Ideal.ofBits .f32 0x42800000#32) + Ideal.ofBits .f32 0x358637BD#32) := by
  have e1 : (∑ s, P s * P s * B s) = ((∑ s : Fin 256, p s * p s * (if s.val / 64 = e.val / 64 then (1 / 64 : ℝ) else 0) : ℝ) : EReal) := by
    rw [← Cert.Soft.coe_sum]
    refine Finset.sum_congr rfl fun s _ => ?_
    rw [hP, hB, c_inv64, c_zero, EReal.coe_mul, EReal.coe_mul]
    split <;> rfl
  have e2 : (∑ s, (P s * P s - P s * P s) * B s) = 0 := by
    refine Finset.sum_eq_zero fun s _ => ?_
    rw [hP, ← EReal.coe_mul, ← EReal.coe_sub, sub_self, EReal.coe_zero, zero_mul]
  have e3 : (∑ d : Fin 64, P ⟨64 * (e.val / 64) + d.val, by omega⟩ * P ⟨64 * (e.val / 64) + d.val, by omega⟩)
      = ((∑ d : Fin 64, p ⟨64 * (e.val / 64) + d.val, by omega⟩ * p ⟨64 * (e.val / 64) + d.val, by omega⟩ : ℝ) : EReal) := by
    rw [← Cert.Soft.coe_sum]
    refine Finset.sum_congr rfl fun s _ => ?_
    rw [hP, EReal.coe_mul]
  rw [split, e1, e2, add_zero, e3, c_64, div_real _ _ (by norm_num), head_sum (fun s => p s * p s) e]

end Cert.ProjIdeal.In

end
-- ==== Proof.ProjFinal.lean ====
/-
  The input projection's kernel: its result array, entry by entry.
-/
module

public import proofs.«01_k».proof.Proof.ProjMath

@[expose] public section

set_option maxRecDepth 16384

noncomputable section

namespace Cert.ProjIdeal.In

open Cert.ProjIdeal Cert.ProjIdeal.Gen
open Idealize.ShloMosaic Idealize.ShloMosaic.TcCoe

/-! ## The host's values, by column -/

/-- A column is one of its group of 512. -/
theorem col_cases (n : Fin 2560) : ∃ (k : Fin 512), n = ⟨k.val, by omega⟩ ∨ n = ⟨512 + k.val, by omega⟩ ∨ n = ⟨1024 + k.val, by omega⟩ ∨ n = ⟨1536 + k.val, by omega⟩ ∨ n = ⟨2048 + k.val, by omega⟩ := by
  refine ⟨⟨n.val % 512, by omega⟩, ?_⟩
  simp only [Fin.ext_iff]
  omega

theorem wCols_at (w : FVec Ideal S1024x4096 .f32) (k : Fin 1024) (n : Fin 2560) : wCols w (ix2 k n) = w (ix2 k (colW n)) := by
  obtain ⟨e, rfl | rfl | rfl | rfl | rfl⟩ := col_cases n
  · exact (wCols_0 w k e).trans (congrArg (fun n => w (ix2 k n)) (Fin.ext (by unfold colW; rw [if_pos (by show e.val < 2048; omega)])))
  · exact (wCols_1 w k e).trans (congrArg (fun n => w (ix2 k n)) (Fin.ext (by unfold colW; rw [if_pos (by show 512 + e.val < 2048; omega)])))
  · exact (wCols_2 w k e).trans (congrArg (fun n => w (ix2 k n)) (Fin.ext (by unfold colW; rw [if_pos (by show 1024 + e.val < 2048; omega)])))
  · exact (wCols_3 w k e).trans (congrArg (fun n => w (ix2 k n)) (Fin.ext (by unfold colW; rw [if_pos (by show 1536 + e.val < 2048; omega)])))
  · exact (wCols_4 w k e).trans (congrArg (fun n => w (ix2 k n)) (Fin.ext (by unfold colW; rw [if_neg (by show ¬ 2048 + e.val < 2048; omega)]; show 3584 + e.val = 2048 + e.val + 1536; omega)))

theorem mask_on (n : Fin 2560) (h : n.val < 1024) : maskV (F := Ideal) (ix1 n) = Ideal.ofBits .f32 0x3F800000#32 := by
  obtain ⟨e, rfl | rfl | rfl | rfl | rfl⟩ := col_cases n
  · exact (five_0 _ _ _ _ _ e).trans (rep_at _ e)
  · exact (five_1 _ _ _ _ _ e).trans (rep_at _ e)
  · exact absurd h (by show ¬ 1024 + e.val < 1024; omega)
  · exact absurd h (by show ¬ 1536 + e.val < 1024; omega)
  · exact absurd h (by show ¬ 2048 + e.val < 1024; omega)
theorem mask_off (n : Fin 2560) (h : ¬ n.val < 1024) : maskV (F := Ideal) (ix1 n) = Ideal.ofBits .f32 0x00000000#32 := by
  obtain ⟨e, rfl | rfl | rfl | rfl | rfl⟩ := col_cases n
  · exact absurd (by show e.val < 1024; omega) h
  · exact absurd (by show 512 + e.val < 1024; omega) h
  · exact (five_2 _ _ _ _ _ e).trans (rep_at _ e)
  · exact (five_3 _ _ _ _ _ e).trans (rep_at _ e)
  · exact (five_4 _ _ _ _ _ e).trans (rep_at _ e)

/-- The gains, by column. -/
def gain (q : FVec Ideal S4x64 .f32) : FVec Ideal S2560 .f32 := five (gainQ q) (gainK q) (rep 0x3F800000#32) (rep 0x3F800000#32) (rep 0x3F800000#32)

theorem gain_q (q : FVec Ideal S4x64 .f32) (n : Fin 2560) (h : n.val < 512) : gain q (ix1 n) = q (ix2 0 ⟨n.val % 64, by omega⟩) * Ideal.ofBits .f32 0x3E000000#32 := by
  have e : n = ⟨(⟨n.val, h⟩ : Fin 512).val, by omega⟩ := rfl
  exact (congrArg (fun n => gain q (ix1 n)) e).trans ((five_0 _ _ _ _ _ ⟨n.val, h⟩).trans (gainQ_at q _))
theorem gain_k (q : FVec Ideal S4x64 .f32) (n : Fin 2560) (h : n.val < 1024) (h' : ¬ n.val < 512) : gain q (ix1 n) = q (ix2 1 ⟨n.val % 64, by omega⟩) := by
  have e : n = ⟨512 + (⟨n.val - 512, by omega⟩ : Fin 512).val, by omega⟩ := Fin.ext (by show n.val = 512 + (n.val - 512); omega)
  refine (congrArg (fun n => gain q (ix1 n)) e).trans ((five_1 _ _ _ _ _ ⟨n.val - 512, by omega⟩).trans ((gainK_at q _).trans ?_))
  exact congrArg (fun k => q (ix2 1 k)) (Fin.ext (by show (n.val - 512) % 64 = n.val % 64; omega))

/-! ## The table -/

theorem row_at (x : FVec Ideal S2560 .f32) (j : Fin 5) (k : Fin 512) : shapeCast S5x512 x shapeCasts_S2560_S5x512 (ix2 j k) = x (ix1 ⟨512 * j.val + k.val, by omega⟩) := by
  pointwise []
  exact congrArg (fun n => x (ix1 n)) (Fin.ext (by dsimp only; omega))

theorem tab_on (j : Fin 5) (h : j.val < 2) : ¬ k0_cond2 (tabV (F := Ideal) (ix1 j)) = 1#1 := by
  have e : tabV (F := Ideal) (ix1 j) = (Ideal.cmp .ogt (Host.reduce (FloatOps.maximumf (F := Ideal) (φ := .f32)) (shapeCast S5x512 (maskV (F := Ideal)) shapeCasts_S2560_S5x512) (constant (F := Ideal) S_ .f32 0xFF800000#32) reducesTo_S5x512_S5_d1 h_S_ (ix1 j))
      (Ideal.ofBits .f32 0x3F000000#32)).setWidth 32 := rfl
  have hm : (Ideal.ofBits .f32 0x3F000000#32) < Host.reduce (FloatOps.maximumf (F := Ideal) (φ := .f32)) (shapeCast S5x512 (maskV (F := Ideal)) shapeCasts_S2560_S5x512) (constant S_ .f32 0xFF800000#32) reducesTo_S5x512_S5_d1 h_S_ (ix1 j) := by
    rw [Host.reduce_eq_fold]
    refine lt_of_lt_of_le ?_ ((Finset.le_fold_max (s := Finset.univ.filter fun i => reducesTo_S5x512_S5_d1.drop i = ix1 j) (f := shapeCast S5x512 (maskV (F := Ideal)) shapeCasts_S2560_S5x512) (Ideal.ofBits .f32 0x3F800000#32)).mpr
      (Or.inr ⟨ix2 j 0, Finset.mem_filter.mpr ⟨Finset.mem_univ _, ?_⟩, ?_⟩))
    · rw [c_half, c_one]
      exact_mod_cast (by norm_num : (1 / 2 : ℝ) < 1)
    · funext a
      fin_cases a
      rfl
    · refine le_of_eq ((row_at _ j 0).trans (mask_on _ ?_)).symm
      show 512 * j.val + 0 < 1024
      omega
  rw [e]
  have e2 : ∀ M : EReal, Ideal.ofBits .f32 0x3F000000#32 < M → Ideal.cmp .ogt M (Ideal.ofBits .f32 0x3F000000#32) = 1#1 := by
    intro M h
    simp [Ideal.cmp, h]
  rw [e2 _ hm]
  decide

theorem sel_on {α : Type} (x y : α) : Scalar.select (Ideal.cmp .ogt (Ideal.ofBits .f32 0x3F800000#32) (Ideal.ofBits .f32 0x3F000000#32)) x y = x := by
  have h : ((1 / 2 : ℝ) : EReal) < ((1 : ℝ) : EReal) := by exact_mod_cast (by norm_num : (1 / 2 : ℝ) < 1)
  have e : Ideal.cmp .ogt (Ideal.ofBits .f32 0x3F800000#32) (Ideal.ofBits .f32 0x3F000000#32) = 1#1 := by
    rw [c_one, c_half]
    simp only [Ideal.cmp, h]
    rfl
  rw [e]
  rfl
theorem sel_off {α : Type} (x y : α) : Scalar.select (Ideal.cmp .ogt (Ideal.ofBits .f32 0x00000000#32) (Ideal.ofBits .f32 0x3F000000#32)) x y = y := by
  have h : ¬ ((1 / 2 : ℝ) : EReal) < ((0 : ℝ) : EReal) := by
    rw [not_lt]
    exact_mod_cast (by norm_num : (0 : ℝ) ≤ 1 / 2)
  have e : Ideal.cmp .ogt (Ideal.ofBits .f32 0x00000000#32) (Ideal.ofBits .f32 0x3F000000#32) = 0#1 := by
    rw [c_zero, c_half]
    simp only [Ideal.cmp, h]
    rfl
  rw [e]
  rfl

/-! ## The result -/

section Result

variable (m : (x : Loc nD τ sig) → Buf (Elt Ideal) x)

theorem flag_eq (t : Fin (NN (adm m))) : flag (F := Ideal) (grid0.coords t) (tbl.view.read (Elt Ideal) (tab (adm m))) = tabV (F := Ideal) (ix1 ⟨(grid0.coords t 1).val, c1_lt (adm m) t⟩) := by
  have e : tab (adm m) = tabV (F := Ideal) := Vm_tab m 0
  rw [e]
  refine congrArg (tabV (F := Ideal)) (funext fun x => Fin.ext ?_)
  fin_cases x
  exact (by decide +kernel : ∀ i : Fin grid0.N, (k0_off1 (grid0.coords i)) 0 + 1 * 0 = (grid0.coords i 1).val) t

theorem p_at (c : Dev nD) (t : Fin (NN (adm m))) (r e : Fin 512) :
    k0_pay2 (F := Ideal) (k0_pay1 (iblk (Vm m) (adm m) c 0 t) (iblk (Vm m) (adm m) c 1 t)) (iblk (Vm m) (adm m) c 2 t) (ix2 r e)
      = yAt (m ((c : Thread nD τ).loc main_arg0)) (m ((c : Thread nD τ).loc main_arg1)) (m ((c : Thread nD τ).loc main_arg2)) (row (adm m) t r) (colW (col (adm m) t e)) := by
  refine (pay2_at _ _ r e).trans (Finset.sum_congr rfl fun k _ => congrArg₂ (· * ·) ?_ ?_)
  · refine (pay1_at _ _ r k).trans ?_
    have hx := fun k => x_at (Vm m) (adm m) c t r k
    have hl : (show FVec Ideal S1x1024 .f32 from iblk (Vm m) (adm m) c 1 t) (ix2 0 k) = (m ((c : Thread nD τ).loc main_arg1) : FVec Ideal S1024 .f32) (ix1 k) := by
      refine (ln_at (Vm m) (adm m) c t k).trans ?_
      rw [Vm_ln]
      pointwise []
    refine congrArg₂ (· * ·) (congrArg₂ (· * ·) (hx k) (congrArg (fun s => Ideal.rsqrt (Ideal.div s _ + _)) (Finset.sum_congr rfl fun e _ => congrArg₂ (· * ·) (hx e) (hx e)))) hl
  · refine (w_at (Vm m) (adm m) c t k e).trans ?_
    rw [Vm_w]
    exact wCols_at _ k _

theorem gain_eq (c : Dev nD) (t : Fin (NN (adm m))) (e : Fin 512) :
    (show FVec Ideal S1x512 .f32 from iblk (Vm m) (adm m) c 3 t) (ix2 0 e) = gain (m ((c : Thread nD τ).loc main_arg3)) (ix1 (col (adm m) t e)) := by
  refine (g_at (Vm m) (adm m) c t e).trans ?_
  rw [Vm_gain]
  generalize col (adm m) t e = n
  show _ = five _ _ _ _ _ _
  generalize five (F := Ideal) _ _ _ _ _ = f
  pointwise []
theorem mask_eq (c : Dev nD) (t : Fin (NN (adm m))) (e : Fin 512) :
    (show FVec Ideal S1x512 .f32 from iblk (Vm m) (adm m) c 4 t) (ix2 0 e) = maskV (F := Ideal) (ix1 (col (adm m) t e)) := by
  refine (nm_at (Vm m) (adm m) c t e).trans ?_
  rw [Vm_mask]
  generalize col (adm m) t e = n
  generalize maskV (F := Ideal) = f
  pointwise []
theorem block_eq (c : Dev nD) (t : Fin (NN (adm m))) (r s : Fin 256) :
    (show FVec Ideal S256x256 .bf16 from iblk (Vm m) (adm m) c 5 t) (ix2 r s) = if r.val / 64 = s.val / 64 then Ideal.ofBits .f32 0x3C800000#32 else Ideal.ofBits .f32 0x00000000#32 := by
  refine (bd_at (Vm m) (adm m) c t r s).trans ?_
  rw [Vm_block]
  exact blockV_at r s

/-- A column of a normed block, in either half. -/
theorem normed_at (p : FVec Ideal S512x512 .f32) (bd : FVec Ideal S256x256 .bf16) (g nm : FVec Ideal S1x512 .f32) (r e : Fin 512) :
    normed (F := Ideal) p bd g nm (ix2 r e) = Scalar.select (Ideal.cmp .ogt (nm (ix2 0 e)) (Ideal.ofBits .f32 0x3F000000#32))
      (split (fun s => p (ix2 r ⟨256 * (e.val / 256) + s.val, by omega⟩)) (fun s => bd (ix2 s ⟨e.val % 256, by omega⟩)) ⟨e.val % 256, by omega⟩ * g (ix2 0 e)) (p (ix2 r e)) := by
  by_cases h : e.val < 256
  · have e0 : normed (F := Ideal) p bd g nm (ix2 r e) = k0_pay5 p bd (lo g) (lo nm) (ix2 r ⟨e.val, h⟩) := by
      show (if h : _ then _ else _) = _
      exact dif_pos h
    rw [e0, pay5_at, lo_at, lo_at]
    have e1 : (⟨e.val % 256, by omega⟩ : Fin 256) = ⟨e.val, h⟩ := Fin.ext (Nat.mod_eq_of_lt h)
    have e2 : ∀ s : Fin 256, (⟨256 * (e.val / 256) + s.val, by omega⟩ : Fin 512) = ⟨s.val, by omega⟩ := fun s => Fin.ext (by dsimp only; omega)
    simp only [e1, e2]
  · have e0 : normed (F := Ideal) p bd g nm (ix2 r e) = k0_pay3 (k0_pay6 p) (k0_pay7 p bd) (k0_pay8 (hi g)) (hi nm) (ix2 r ⟨e.val - 256, by omega⟩) := by
      show (if h : _ then _ else _) = _
      exact dif_neg h
    rw [e0, pay3_at, hi_at, hi_at]
    have e1 : (⟨e.val % 256, by omega⟩ : Fin 256) = ⟨e.val - 256, by omega⟩ := Fin.ext (by dsimp only; omega)
    have e2 : ∀ s : Fin 256, (⟨256 * (e.val / 256) + s.val, by omega⟩ : Fin 512) = ⟨256 + s.val, by omega⟩ := fun s => Fin.ext (by dsimp only; omega)
    have e3 : (⟨256 + (⟨e.val - 256, by omega⟩ : Fin 256).val, by dsimp only; omega⟩ : Fin 512) = e := Fin.ext (by dsimp only; omega)
    simp only [e1, e2, e3]

/-- Entry `e` of a row of a block of group `j`, whichever branch wrote it. -/
theorem out_core (X : FVec Ideal S32768x1024 .f32) (L : FVec Ideal S1024 .f32) (W : FVec Ideal S1024x4096 .f32) (Q : FVec Ideal S4x64 .f32) (hL : ∀ k, L k ≠ (⊤ : EReal) ∧ L k ≠ (⊥ : EReal))
    (hW : ∀ (k : Fin 1024) (n : Fin 4096), n.val < 1024 → W (ix2 k n) ≠ (⊤ : EReal) ∧ W (ix2 k n) ≠ (⊥ : EReal)) (R : Fin 32768) (j : Fin 5) (r e : Fin 512)
    (p : FVec Ideal S512x512 .f32) (bd : FVec Ideal S256x256 .bf16) (g nm : FVec Ideal S1x512 .f32)
    (hp : ∀ s : Fin 512, p (ix2 r s) = yAt X L W R (colW ⟨512 * j.val + s.val, by omega⟩)) (hg : g (ix2 0 e) = gain Q (ix1 ⟨512 * j.val + e.val, by omega⟩))
    (hm : nm (ix2 0 e) = maskV (F := Ideal) (ix1 ⟨512 * j.val + e.val, by omega⟩))
    (hb : ∀ r s : Fin 256, bd (ix2 r s) = if r.val / 64 = s.val / 64 then Ideal.ofBits .f32 0x3C800000#32 else Ideal.ofBits .f32 0x00000000#32) :
    (if k0_cond2 (tabV (F := Ideal) (ix1 j)) = 1#1 then p else normed (F := Ideal) p bd g nm) (ix2 r e) = resAt X L W Q R ⟨512 * j.val + e.val, by omega⟩ := by
  by_cases hj : j.val < 2
  · have hn : 512 * j.val + e.val < 1024 := by omega
    have hc : ∀ s : Fin 512, (colW ⟨512 * j.val + s.val, by omega⟩) = ⟨512 * j.val + s.val, by omega⟩ := fun s => if_pos (by show 512 * j.val + s.val < 2048; omega)
    have hd : ∀ s : Fin 512, p (ix2 r s) = yAt X L W R ⟨512 * j.val + s.val, by omega⟩ := fun s => (hp s).trans (congrArg _ (hc s))
    have hreal : ∀ s : Fin 256, ∃ v : ℝ, p (ix2 r ⟨256 * (e.val / 256) + s.val, by omega⟩) = (v : EReal) := fun s => by
      rw [hd]
      exact yAt_real X L W hL R _ (fun k => hW k _ (by dsimp only; omega))
    choose v hv using hreal
    rw [if_neg (tab_on j hj), normed_at, hm, mask_on _ hn, sel_on, hg, split_eq _ v hv _ _ (fun s => hb s _)]
    have hh : p (ix2 r ⟨256 * (e.val / 256) + (⟨e.val % 256, by omega⟩ : Fin 256).val, by dsimp only; omega⟩) * Ideal.rsqrt (Ideal.div (∑ d : Fin 64,
        p (ix2 r ⟨256 * (e.val / 256) + (⟨64 * ((⟨e.val % 256, by omega⟩ : Fin 256).val / 64) + d.val, by dsimp only; omega⟩ : Fin 256).val, by dsimp only; omega⟩)
          * p (ix2 r ⟨256 * (e.val / 256) + (⟨64 * ((⟨e.val % 256, by omega⟩ : Fin 256).val / 64) + d.val, by dsimp only; omega⟩ : Fin 256).val, by dsimp only; omega⟩))
        (Ideal.ofBits .f32 0x42800000#32) + Ideal.ofBits .f32 0x358637BD#32) = headAt X L W R (512 * j.val + e.val) hn := by
      have h1 := fun d : Fin 64 => (hd ⟨256 * (e.val / 256) + (⟨64 * ((⟨e.val % 256, by omega⟩ : Fin 256).val / 64) + d.val, by dsimp only; omega⟩ : Fin 256).val, by dsimp only; omega⟩).trans
        (congrArg (yAt X L W R) (Fin.ext (by dsimp only; omega) : _ = (⟨64 * ((512 * j.val + e.val) / 64) + d.val, by omega⟩ : Fin 4096)))
      unfold headAt
      exact congrArg₂ (· * ·) ((hd _).trans (congrArg (yAt X L W R) (Fin.ext (by dsimp only; omega))))
        (congrArg (fun s => Ideal.rsqrt (Ideal.div s _ + _)) (Finset.sum_congr rfl fun d _ => congrArg₂ (· * ·) (h1 d) (h1 d)))
    refine (congrArg (· * _) hh).trans ?_
    unfold resAt
    by_cases h5 : 512 * j.val + e.val < 512
    · rw [dif_pos h5, gain_q _ _ h5, mul_assoc]
    · rw [dif_neg h5, dif_pos hn, gain_k _ _ hn h5]
  · have hn : ¬ 512 * j.val + e.val < 1024 := by omega
    unfold resAt
    rw [dif_neg (by show ¬ 512 * j.val + e.val < 512; omega), dif_neg hn]
    by_cases hc : k0_cond2 (tabV (F := Ideal) (ix1 j)) = 1#1
    · rw [if_pos hc]
      exact hp e
    · rw [if_neg hc, normed_at, hm, mask_off _ hn, sel_off]
      exact hp e

variable (c : Dev nD)
  (hL : ∀ k, (m ((c : Thread nD τ).loc main_arg1) : FVec Ideal S1024 .f32) k ≠ (⊤ : EReal) ∧ (m ((c : Thread nD τ).loc main_arg1) : FVec Ideal S1024 .f32) k ≠ (⊥ : EReal))
  (hW : ∀ (k : Fin 1024) (n : Fin 4096), n.val < 1024 → (m ((c : Thread nD τ).loc main_arg2) : FVec Ideal S1024x4096 .f32) (ix2 k n) ≠ (⊤ : EReal) ∧ (m ((c : Thread nD τ).loc main_arg2) : FVec Ideal S1024x4096 .f32) (ix2 k n) ≠ (⊥ : EReal))

include hL hW

theorem out_at (t : Fin (NN (adm m))) (r e : Fin 512) : outAt (Vm m) (adm m) c t (ix2 r e)
      = resAt (m ((c : Thread nD τ).loc main_arg0)) (m ((c : Thread nD τ).loc main_arg1)) (m ((c : Thread nD τ).loc main_arg2)) (m ((c : Thread nD τ).loc main_arg3)) (row (adm m) t r) (col (adm m) t e) := by
  unfold outAt outBlk
  rw [flag_eq]
  exact out_core _ _ _ _ hL hW (row (adm m) t r) ⟨(grid0.coords t 1).val, c1_lt (adm m) t⟩ r e _ _ _ _ (p_at m c t r) (gain_eq m c t e) (mask_eq m c t e) (block_eq m c t)

omit hL hW in
theorem points : grid0.N = 320 := by decide +kernel

/-- The point that writes block `(i, j)`. -/
def pt (i : Fin 64) (j : Fin 5) : Fin grid0.N := ⟨5 * i.val + j.val, by rw [points]; omega⟩

omit hL hW in
theorem pt_of : ∀ (i : Fin 64) (j : Fin 5), Pipeline.Window.flushOf grid0 true cc0_transform_6 (pt i j) = true ∧ cc0_transform_6 (grid0.coords (pt i j)) = ![i.val, j.val] := by
  decide +kernel

omit hL hW in
/-- Every block of the result is written. -/
theorem covers (a : (p : Fin 1) → (pcfgs (F := Ideal) p).Adm) : ((cfgs a 0).win 6).Covers := by
  refine ⟨fun x => (by decide : ∀ x : Fin 2, 0 < (![512, 512] : Fin 2 → ℕ) x) x, fun β => ?_⟩
  have e0 : ((cfgs a 0).win 6).nblk (0 : Fin 2) = 64 := by
    show (32768 + 512 - 1) / 512 = 64
    rfl
  have e1 : ((cfgs a 0).win 6).nblk (1 : Fin 2) = 5 := by
    show (2560 + 512 - 1) / 512 = 5
    rfl
  have h := pt_of ⟨(β (0 : Fin 2)).val, lt_of_lt_of_eq (β (0 : Fin 2)).isLt e0⟩ ⟨(β (1 : Fin 2)).val, lt_of_lt_of_eq (β (1 : Fin 2)).isLt e1⟩
  refine ⟨pt ⟨(β (0 : Fin 2)).val, lt_of_lt_of_eq (β (0 : Fin 2)).isLt e0⟩ ⟨(β (1 : Fin 2)).val, lt_of_lt_of_eq (β (1 : Fin 2)).isLt e1⟩, h.1, fun x => ⟨(congrFun h.2 x).trans ?_, Or.inl rfl⟩⟩
  revert x
  show ∀ x : Fin 2, _
  intro x
  fin_cases x <;> rfl

/-- What the launch leaves in the result. -/
theorem final : (dats (Vm m) (adm m) 0 c).arrAt 6 (NN (adm m))
    = res (m ((c : Thread nD τ).loc main_arg0)) (m ((c : Thread nD τ).loc main_arg1)) (m ((c : Thread nD τ).loc main_arg2)) (m ((c : Thread nD τ).loc main_arg3)) := by
  refine (dats (Vm m) (adm m) 0 c).arrAt_eq_of_covers 6 _ (covers (adm m)) fun t _ y => ?_
  blk_simp
  rw [after0_6]
  change S512x512.Idx at y
  obtain ⟨r, e, hy⟩ : ∃ r e : Fin 512, y = ix2 r e := ⟨y 0, y 1, by
    funext a
    fin_cases a <;> rfl⟩
  subst hy
  refine (out_at m c hL hW t r e).trans ?_
  refine congrArg₂ (resAt _ _ _ _) (Fin.ext ?_) (Fin.ext ?_)
  · show 512 * (grid0.coords t 0).val + r.val = _
    blk_simp [idx (adm m) t]
    rw [Nat.mul_comm]
    exact (congrArg (· * 512 + r.val) (congrFun (idx (adm m) t).2.2.2.2.2.2.1 (0 : Fin 2))).symm
  · show 512 * (grid0.coords t 1).val + e.val = _
    blk_simp [idx (adm m) t]
    rw [Nat.mul_comm]
    exact (congrArg (· * 512 + e.val) (congrFun (idx (adm m) t).2.2.2.2.2.2.1 (1 : Fin 2))).symm

end Result

end Cert.ProjIdeal.In

end
-- ==== Proof.ProjRef.lean ====
/-
  The input projection: the reference's array is the kernel's.
-/
module

public import proofs.«01_k».proof.Proof.ProjMath
public import proofs.«01_k».proof.Proof.Gen.ProjReferenceIdeal.Run

@[expose] public section

set_option maxRecDepth 16384

noncomputable section

namespace Cert.ProjReferenceIdeal.In

open Cert.ProjReferenceIdeal Cert.ProjReferenceIdeal.Gen
open Idealize.ShloMosaic Idealize.ShloMosaic.TcCoe
open Cert.ProjIdeal.In (hAt yAt headAt colW resAt res)

/-- The normed rows. -/
def rNorm (x : FVec Ideal S32768x1024 .f32) (l : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 l))

/-- Their product with the weights. -/
def rProd (x : FVec Ideal S32768x1024 .f32) (l : FVec Ideal S1024 .f32) (w : FVec Ideal S1024x4096 .f32) : FVec Ideal S32768x4096 .f32 :=
  Host.dotGeneral dot_S32768x1024_S1024x4096_S32768x4096_1_0_0_1_n_n none (rNorm x l) w

/-- Eight heads, normed. -/
def rHead (u : FVec Ideal S32768x8x64 .f32) (q : FVec Ideal S64 .f32) : FVec Ideal S32768x8x64 .f32 :=
  mulf (mulf u (broadcastInDim S32768x8x64 ![0, 1, 2] bcast_S32768x8x1_S32768x8x64_0_1_2 (Host.rsqrt (addf (Host.divf (broadcastInDim S32768x8x1 ![0, 1] bcast_S32768x8_S32768x8x1_0_1
      (Host.reduceAdd (mulf u u) (constant S_ .f32 0x00000000#32) reducesTo_S32768x8x64_S32768x8_d2 h_S_)) (broadcastInDim S32768x8x1 ![] bcast_S_S32768x8x1 (constant S_ .f32 0x42800000#32)))
      (broadcastInDim S32768x8x1 ![] bcast_S_S32768x8x1 (constant S_ .f32 0x358637BD#32))))))
    (broadcastInDim S32768x8x64 ![0, 1, 2] bcast_S1x1x64_S32768x8x64_0_1_2 (broadcastInDim S1x1x64 ![2] bcast_S64_S1x1x64_2 q))

def rQ (y : FVec Ideal S32768x4096 .f32) (q : FVec Ideal S4x64 .f32) : FVec Ideal S32768x512 .f32 :=
  shapeCast S32768x512 (mulf (rHead (shapeCast S32768x8x64 (extractStridedSlice S32768x512 ![0, 0] y slices_S32768x4096_S32768x512_0_0) shapeCasts_S32768x512_S32768x8x64)
    (shapeCast S64 (extractStridedSlice S1x64 ![0, 0] q slices_S4x64_S1x64_0_0) shapeCasts_S1x64_S64)) (broadcastInDim S32768x8x64 ![] bcast_S_S32768x8x64 (constant S_ .f32 0x3E000000#32))) shapeCasts_S32768x8x64_S32768x512
def rK (y : FVec Ideal S32768x4096 .f32) (q : FVec Ideal S4x64 .f32) : FVec Ideal S32768x512 .f32 :=
  shapeCast S32768x512 (rHead (shapeCast S32768x8x64 (extractStridedSlice S32768x512 ![0, 512] y slices_S32768x4096_S32768x512_0_512) shapeCasts_S32768x512_S32768x8x64)
    (shapeCast S64 (extractStridedSlice S1x64 ![1, 0] q slices_S4x64_S1x64_1_0) shapeCasts_S1x64_S64)) shapeCasts_S32768x8x64_S32768x512
def rV (y : FVec Ideal S32768x4096 .f32) : FVec Ideal S32768x1024 .f32 := extractStridedSlice S32768x1024 ![0, 1024] y slices_S32768x4096_S32768x1024_0_1024
def rG (y : FVec Ideal S32768x4096 .f32) : FVec Ideal S32768x512 .f32 := extractStridedSlice S32768x512 ![0, 3584] y slices_S32768x4096_S32768x512_0_3584

def rCat (a b : FVec Ideal S32768x512 .f32) (c : FVec Ideal S32768x1024 .f32) (d : FVec Ideal S32768x512 .f32) : FVec Ideal S32768x2560 .f32 :=
  concatenate S32768x2560 1 [⟨S32768x512, a⟩, ⟨S32768x512, b⟩, ⟨S32768x1024, c⟩, ⟨S32768x512, d⟩] concatenates_S32768x512_S32768x512_S32768x1024_S32768x512_S32768x2560_d1

/-- The reference's array. -/
def rIn (x : FVec Ideal S32768x1024 .f32) (l : FVec Ideal S1024 .f32) (w : FVec Ideal S1024x4096 .f32) (q : FVec Ideal S4x64 .f32) : FVec Ideal S32768x2560 .f32 :=
  rCat (rQ (rProd x l w) q) (rK (rProd x l w) q) (rV (rProd x l w)) (rG (rProd x l w))

theorem rNorm_at (x : FVec Ideal S32768x1024 .f32) (l : FVec Ideal S1024 .f32) (r : Fin 32768) (k : Fin 1024) : rNorm x l (ix2 r k) = hAt x l r k := by
  unfold hAt
  pointwise [rNorm]

theorem rProd_at (x : FVec Ideal S32768x1024 .f32) (l : FVec Ideal S1024 .f32) (w : FVec Ideal S1024x4096 .f32) (r : Fin 32768) (n : Fin 4096) : rProd x l w (ix2 r n) = yAt x l w r n := by
  have e : ∀ h : FVec Ideal S32768x1024 .f32, Host.dotGeneral dot_S32768x1024_S1024x4096_S32768x4096_1_0_0_1_n_n none h w (ix2 r n) = ∑ k : Fin 1024, h (ix2 r k) * w (ix2 k n) := by
    intro h
    pointwise []
  exact (e _).trans (Finset.sum_congr rfl fun k _ => congrArg (· * w (ix2 k n)) (rNorm_at x l r k))

/-- An entry of a row over the root of its mean of squares. -/
def over (f : Fin 64 → EReal) (d : Fin 64) : EReal :=
  f d * Ideal.rsqrt (Ideal.div (∑ s, f s * f s) (Ideal.ofBits .f32 0x42800000#32) + Ideal.ofBits .f32 0x358637BD#32)

theorem rHead_at (u : FVec Ideal S32768x8x64 .f32) (q : FVec Ideal S64 .f32) (r : Fin 32768) (h : Fin 8) (d : Fin 64) : rHead u q (ix3 r h d) = over (fun s => u (ix3 r h s)) d * q (ix1 d) := by
  unfold over
  pointwise [rHead]

theorem split_q (y : FVec Ideal S32768x4096 .f32) (r : Fin 32768) (h : Fin 8) (d : Fin 64) :
    shapeCast S32768x8x64 (extractStridedSlice S32768x512 ![0, 0] y slices_S32768x4096_S32768x512_0_0) shapeCasts_S32768x512_S32768x8x64 (ix3 r h d) = y (ix2 r ⟨64 * h.val + d.val, by omega⟩) := by
  pointwise []
  refine congrArg y (congrArg₂ ix2 (Fin.ext ?_) (Fin.ext ?_)) <;> dsimp only <;> omega
theorem split_k (y : FVec Ideal S32768x4096 .f32) (r : Fin 32768) (h : Fin 8) (d : Fin 64) :
    shapeCast S32768x8x64 (extractStridedSlice S32768x512 ![0, 512] y slices_S32768x4096_S32768x512_0_512) shapeCasts_S32768x512_S32768x8x64 (ix3 r h d) = y (ix2 r ⟨512 + (64 * h.val + d.val), by omega⟩) := by
  pointwise []
  refine congrArg y (congrArg₂ ix2 (Fin.ext ?_) (Fin.ext ?_)) <;> dsimp only <;> omega

theorem gains_q (q : FVec Ideal S4x64 .f32) (d : Fin 64) : shapeCast S64 (extractStridedSlice S1x64 ![0, 0] q slices_S4x64_S1x64_0_0) shapeCasts_S1x64_S64 (ix1 d) = q (ix2 0 d) := by pointwise []
theorem gains_k (q : FVec Ideal S4x64 .f32) (d : Fin 64) : shapeCast S64 (extractStridedSlice S1x64 ![1, 0] q slices_S4x64_S1x64_1_0) shapeCasts_S1x64_S64 (ix1 d) = q (ix2 1 d) := by pointwise []

theorem join_at (u : FVec Ideal S32768x8x64 .f32) (r : Fin 32768) (k : Fin 512) :
    shapeCast S32768x512 u shapeCasts_S32768x8x64_S32768x512 (ix2 r k) = u (ix3 r ⟨k.val / 64, by omega⟩ ⟨k.val % 64, by omega⟩) := by
  pointwise []

theorem rQ_at (y : FVec Ideal S32768x4096 .f32) (q : FVec Ideal S4x64 .f32) (r : Fin 32768) (k : Fin 512) :
    rQ y q (ix2 r k) = over (fun s => y (ix2 r ⟨64 * (k.val / 64) + s.val, by omega⟩)) ⟨k.val % 64, by omega⟩ * q (ix2 0 ⟨k.val % 64, by omega⟩) * Ideal.ofBits .f32 0x3E000000#32 := by
  have e : ∀ u : FVec Ideal S32768x8x64 .f32, ∀ h d, mulf u (broadcastInDim S32768x8x64 ![] bcast_S_S32768x8x64 (constant S_ .f32 0x3E000000#32)) (ix3 r h d) = u (ix3 r h d) * Ideal.ofBits .f32 0x3E000000#32 := by
    intro u h d
    pointwise []
  refine (join_at _ r k).trans ((e _ _ _).trans (congrArg (· * _) ((rHead_at _ _ _ _ _).trans (congrArg₂ (· * ·) ?_ (gains_q q _)))))
  exact congrArg (fun f => over f _) (funext fun s => split_q y r _ s)
theorem rK_at (y : FVec Ideal S32768x4096 .f32) (q : FVec Ideal S4x64 .f32) (r : Fin 32768) (k : Fin 512) :
    rK y q (ix2 r k) = over (fun s => y (ix2 r ⟨512 + (64 * (k.val / 64) + s.val), by omega⟩)) ⟨k.val % 64, by omega⟩ * q (ix2 1 ⟨k.val % 64, by omega⟩) := by
  refine (join_at _ r k).trans ((rHead_at _ _ _ _ _).trans (congrArg₂ (· * ·) ?_ (gains_k q _)))
  exact congrArg (fun f => over f _) (funext fun s => split_k y r _ s)
theorem rV_at (y : FVec Ideal S32768x4096 .f32) (r : Fin 32768) (k : Fin 1024) : rV y (ix2 r k) = y (ix2 r ⟨1024 + k.val, by omega⟩) := by pointwise [rV]
theorem rG_at (y : FVec Ideal S32768x4096 .f32) (r : Fin 32768) (k : Fin 512) : rG y (ix2 r k) = y (ix2 r ⟨3584 + k.val, by omega⟩) := by pointwise [rG]

section Cat

variable (a b : FVec Ideal S32768x512 .f32) (c : FVec Ideal S32768x1024 .f32) (d : FVec Ideal S32768x512 .f32) (r : Fin 32768)

theorem rCat_0 (k : Fin 512) : rCat a b c d (ix2 r ⟨k.val, by omega⟩) = a (ix2 r k) := by pointwise [rCat]
theorem rCat_1 (k : Fin 512) : rCat a b c d (ix2 r ⟨512 + k.val, by omega⟩) = b (ix2 r k) := by pointwise [rCat]
theorem rCat_2 (k : Fin 1024) : rCat a b c d (ix2 r ⟨1024 + k.val, by omega⟩) = c (ix2 r k) := by
  pointwise [rCat]
  rw [dif_neg (by omega), dif_neg (by omega), dif_pos (by omega)]
  exact congrArg (fun n => c (ix2 r n)) (Fin.ext (by dsimp only; omega))
theorem rCat_3 (k : Fin 512) : rCat a b c d (ix2 r ⟨2048 + k.val, by omega⟩) = d (ix2 r k) := by
  pointwise [rCat]
  rw [dif_neg (by omega), dif_neg (by omega), dif_neg (by omega)]
  exact congrArg (fun n => d (ix2 r n)) (Fin.ext (by dsimp only; omega))

end Cat

theorem over_head (x : FVec Ideal S32768x1024 .f32) (l : FVec Ideal S1024 .f32) (w : FVec Ideal S1024x4096 .f32) (r : Fin 32768) (n : Nat) (hn : n < 1024) :
    over (fun s => rProd x l w (ix2 r ⟨64 * (n / 64) + s.val, by omega⟩)) ⟨n % 64, by omega⟩ = headAt x l w r n hn := by
  unfold over headAt
  have h1 := fun s : Fin 64 => rProd_at x l w r ⟨64 * (n / 64) + s.val, by omega⟩
  exact congrArg₂ (· * ·) ((h1 _).trans (congrArg (yAt x l w r) (Fin.ext (by dsimp only; omega))))
    (congrArg (fun s => Ideal.rsqrt (Ideal.div s _ + _)) (Finset.sum_congr rfl fun d _ => congrArg₂ (· * ·) (h1 d) (h1 d)))

theorem rIn_at (x : FVec Ideal S32768x1024 .f32) (l : FVec Ideal S1024 .f32) (w : FVec Ideal S1024x4096 .f32) (q : FVec Ideal S4x64 .f32) (r : Fin 32768) (n : Fin 2560) :
    rIn x l w q (ix2 r n) = resAt x l w q r n := by
  unfold resAt
  by_cases h0 : n.val < 512
  · rw [dif_pos h0]
    refine (rCat_0 _ _ _ _ r ⟨n.val, h0⟩).trans ((rQ_at _ q r ⟨n.val, h0⟩).trans ?_)
    exact congrArg (· * _ * _) (over_head x l w r n.val (by omega))
  · rw [dif_neg h0]
    by_cases h1 : n.val < 1024
    · rw [dif_pos h1]
      obtain ⟨k, hk, rfl⟩ : ∃ (k : Fin 512) (hk : 512 + k.val < 2560), n = ⟨512 + k.val, hk⟩ := ⟨⟨n.val - 512, by omega⟩, by dsimp only; omega, Fin.ext (by dsimp only; omega)⟩
      refine (rCat_1 _ _ _ _ r k).trans ((rK_at _ q r k).trans (congrArg₂ (· * ·) ?_ ?_))
      · refine Eq.trans ?_ (over_head x l w r (512 + k.val) h1)
        have e1 : (⟨k.val % 64, by omega⟩ : Fin 64) = ⟨(512 + k.val) % 64, by omega⟩ := Fin.ext (by dsimp only; omega)
        rw [e1]
        exact congrArg (fun f => over f _) (funext fun s => congrArg (fun n => rProd x l w (ix2 r n)) (Fin.ext (by dsimp only; omega)))
      · exact congrArg (fun n => q (ix2 1 n)) (Fin.ext (by dsimp only; omega))
    · rw [dif_neg h1]
      by_cases h2 : n.val < 2048
      · have e : n = ⟨1024 + (⟨n.val - 1024, by omega⟩ : Fin 1024).val, by dsimp only; omega⟩ := Fin.ext (by dsimp only; omega)
        refine (congrArg (fun n => rIn x l w q (ix2 r n)) e).trans ((rCat_2 _ _ _ _ r _).trans ((rV_at _ r _).trans ((rProd_at x l w r _).trans ?_)))
        exact congrArg (yAt x l w r) (Fin.ext (by unfold colW; rw [if_pos h2]; dsimp only; omega))
      · have e : n = ⟨2048 + (⟨n.val - 2048, by omega⟩ : Fin 512).val, by dsimp only; omega⟩ := Fin.ext (by dsimp only; omega)
        refine (congrArg (fun n => rIn x l w q (ix2 r n)) e).trans ((rCat_3 _ _ _ _ r _).trans ((rG_at _ r _).trans ((rProd_at x l w r _).trans ?_)))
        exact congrArg (yAt x l w r) (Fin.ext (by unfold colW; rw [if_neg h2]; dsimp only; omega))

theorem rIn_eq (x : FVec Ideal S32768x1024 .f32) (l : FVec Ideal S1024 .f32) (w : FVec Ideal S1024x4096 .f32) (q : FVec Ideal S4x64 .f32) : rIn x l w q = res x l w q := by
  funext y
  obtain ⟨r, n, rfl⟩ : ∃ (r : Fin 32768) (n : Fin 2560), y = ix2 r n := ⟨y 0, y 1, by
    funext a
    fin_cases a <;> rfl⟩
  exact rIn_at x l w q r n

theorem res_eq (m : (x : Loc nD τ sig) → Buf (Elt Ideal) x) (c : Dev nD) : Cert.ProjReferenceIdeal.Value.res_main_v54 (F := Ideal) m c
    = rIn (m ((c.tc : Thread nD τ).loc main_arg0)) (m ((c.tc : Thread nD τ).loc main_arg1)) (m ((c.tc : Thread nD τ).loc main_arg2)) (m ((c.tc : Thread nD τ).loc main_arg3)) := by
  unfold Cert.ProjReferenceIdeal.Value.res_main_v54
  rfl

end Cert.ProjReferenceIdeal.In

end
-- ==== Proof.ProjFinite.lean ====
/-
  The input projection's precondition, read: the gains of the norm and the normed columns of the weights are real numbers.
-/
module

public import proofs.«01_k».proof.Proof.Finite

@[expose] public section

set_option maxRecDepth 16384

noncomputable section

namespace Cert.FiniteIn

open Idealize.ShloMosaic Cert.Finite

theorem facts : Cert.Pre_finite_in.Facts where
  bcast_S_S1024 := by decide
  reducesTo_S1024_S_d0 := by decide
  h_S_ := by decide
  slices_S1024x4096_S1024x1024_0_0 := by decide
  bcast_S_S1024x1024 := by decide
  reducesTo_S1024x1024_S_d0_1 := by decide

variable [Cert.Pre_finite_in.Facts]

theorem slice_at (w : FVec Ideal Cert.Pre_finite_in.S1024x4096 .f32) (h : Cert.Pre_finite_in.S1024x4096.Slices ![0, 0] Cert.Pre_finite_in.S1024x1024) (k : Fin 1024) (n : Fin 1024) :
    extractStridedSlice Cert.Pre_finite_in.S1024x1024 ![0, 0] w h (ix2 k n) = w (ix2 k ⟨n.val, by omega⟩) := by
  pointwise []

theorem entries (X : FVec Ideal Cert.Pre_finite_in.S32768x1024 .f32) (L : FVec Ideal Cert.Pre_finite_in.S1024 .f32) (w : FVec Ideal Cert.Pre_finite_in.S1024x4096 .f32) (q : FVec Ideal Cert.Pre_finite_in.S4x64 .f32)
    (h : Cert.Pre_finite_in.fn (F := Ideal) X L w q = fun _ => 1#1) :
    (∀ i, L i ≠ (⊤ : EReal) ∧ L i ≠ (⊥ : EReal)) ∧ ∀ (k : Fin 1024) (n : Fin 4096), n.val < 1024 → w (ix2 k n) ≠ (⊤ : EReal) ∧ w (ix2 k n) ≠ (⊥ : EReal) := by
  have h1 := congrFun h (fun i => i.elim0)
  unfold Cert.Pre_finite_in.fn at h1
  dsimp only at h1
  have h0 := and_one _ _ h1
  clear h h1
  refine ⟨fun i => ?_, fun k n hn => ?_⟩
  · have h := reduce_one _ _ _ _ _ h0.1 i (funext fun i => i.elim0)
    exact lt_top_real _ h
  · have h := reduce_one _ _ _ _ _ h0.2 (ix2 k ⟨n.val, hn⟩) (funext fun i => i.elim0)
    have e := lt_top_real _ h
    rw [slice_at] at e
    exact e

end Cert.FiniteIn

end
-- ==== Proof.OddBody.lean ====
/-
  One grid point of the odd layer's input projection: the normed rows kept in scratch, the product with a block of the
  weights, and, where the point's flag says so, the norm of each head's columns.
-/
module

public import proofs.«01_k».proof.Proof.Gen.OddIdeal
public import proofs.«01_k».proof.Proof.Gen.OddIdeal.Skeleton
public import proofs.«01_k».proof.Proof.Gen.OddIdeal.Launch
public import proofs.«01_k».proof.Proof.Gen.Odd
public import Idealize.ShloMosaic.Lib.WritesUnit
public import Idealize.ShloMosaic.Lib.ValueIdx
public import proofs.«01_k».proof.Proof.Gen.KernelIdeal.Frame

@[expose] public section

set_option maxRecDepth 16384

noncomputable section

namespace Cert.OddIdeal.In

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The first 256 of 512 values, and the last. -/
def lo (g : Vec F S1x512 .f32) : Vec F S1x256 .f32 := View.ld g (Rect.unit (s := S1x512) ![0, 0] S1x256.size inb_S1x512_S1x256_0_0)
def hi (g : Vec F S1x512 .f32) : Vec F S1x256 .f32 := View.ld g (Rect.unit (s := S1x512) ![0, 256] S1x256.size inb_S1x512_S1x256_0_256)

/-- A product's columns with each head's normed: the first 256 columns and the last, side by side. -/
def normed (p : FVec F S512x512 .f32) (bd : Vec F S256x256 .bf16) (g nm : Vec F S1x512 .f32) : Vec F S512x512 .bf16 := fun y =>
  if h : (y 1).val < 256 then k0_pay6 p bd (lo g) (lo nm) (ix2 (y 0) ⟨(y 1).val, h⟩)
  else k0_pay4 (k0_pay7 p) (k0_pay8 p bd) (hi g) (hi nm) (ix2 (y 0) ⟨(y 1).val - 256, by have := (y 1).isLt; change (y 1).val < 512 at this; omega⟩)

/-- What the body leaves in the output block, by the point's flag. -/
def outBlk (fl : BitVec 32) (h : Vec F S512x1024 .bf16) (w : Vec F S1024x512 .bf16) (g nm : Vec F S1x512 .f32) (bd : Vec F S256x256 .bf16) : Vec F S512x512 .bf16 :=
  if k0_cond2 fl = 1#1 then k0_pay3 h w else normed (k0_pay2 h w) bd g nm

/-- Whether a point is the first of its rows. -/
def cond1 (i : grid0.Coords) : BitVec 1 := Scalar.cmpi .ne (Scalar.extui (Scalar.cmpi .eq (BitVec.ofNat 32 (i 1).val) 0#32)) 0#32

theorem cond3_of (fl : BitVec 32) (h : k0_cond2 fl = 1#1) : ¬ k0_cond3 fl = 1#1 := by
  by_cases e : fl = 0#32
  · subst e; decide
  · have e' : (fl == 0#32) = false := by simpa using e
    exfalso
    revert h
    simp [k0_cond2, Scalar.cmpi, Scalar.extui, IntOp.cmpi, e']
theorem cond3_of_not (fl : BitVec 32) (h : ¬ k0_cond2 fl = 1#1) : k0_cond3 fl = 1#1 := by
  by_cases e : fl = 0#32
  · subst e; exact absurd (by decide) h
  · have e' : (fl != 0#32) = true := by simpa using e
    simp [k0_cond3, Scalar.cmpi, Scalar.extui, IntOp.cmpi, e']

/-! ## Loads and stores of whole blocks -/

theorem load_whole {ε : EltTy} {A B : ℕ} (a : Memref sig .tc .vmem ⟨2, ![A, B]⟩ ε) (f : BufTy.Contents (Elt F) a.view.ty)
    (inb : ∀ x, (![0, 0] : Fin 2 → Nat) x + (⟨2, ![A, B]⟩ : Shape).size x ≤ (⟨2, ![A, B]⟩ : Shape).size x) :
    a.view.readAt (Elt F) (Rect.unit (s := ⟨2, ![A, B]⟩) ![0, 0] (⟨2, ![A, B]⟩ : Shape).size inb).toLoadRect f = a.view.read (Elt F) f := by
  funext y
  refine congrArg (a.view.read (Elt F) f) (funext fun x => Fin.ext ?_)
  show (![0, 0] : Fin 2 → Nat) x + 1 * (y x).val = (y x).val
  fin_cases x
  · show 0 + 1 * (y 0).val = (y 0).val; omega
  · show 0 + 1 * (y 1).val = (y 1).val; omega
theorem store_whole {ε : EltTy} {A B : ℕ} (a : Memref sig .tc .vmem ⟨2, ![A, B]⟩ ε) (f : BufTy.Contents (Elt F) a.view.ty)
    (inb : ∀ x, (![0, 0] : Fin 2 → Nat) x + (⟨2, ![A, B]⟩ : Shape).size x ≤ (⟨2, ![A, B]⟩ : Shape).size x) (w : Vec F ⟨2, ![A, B]⟩ ε) (L : List (View.Piece (Elt F) ⟨2, ![A, B]⟩ ε)) :
    a.view.read (Elt F) (a.view.writes (Elt F) f (⟨Rect.unit (s := ⟨2, ![A, B]⟩) ![0, 0] (⟨2, ![A, B]⟩ : Shape).size inb, w⟩ :: L)) = w := by
  funext y
  refine View.read_writes_cons_unit_of_mem a.view f inb w L y y rfl (fun x => ?_)
  fin_cases x
  · show (y 0).val = 0 + (y 0).val; omega
  · show (y 1).val = 0 + (y 1).val; omega

/-- The two stores of half blocks leave the halves side by side. -/
theorem store_halves (a : Memref sig .tc .vmem S512x512 .bf16) (f : BufTy.Contents (Elt F) a.view.ty) (L : List (View.Piece (Elt F) S512x512 .bf16))
    (p : FVec F S512x512 .f32) (bd : Vec F S256x256 .bf16) (g nm : Vec F S1x512 .f32) :
    a.view.read (Elt F) (a.view.writes (Elt F) f
      (⟨Rect.unit (s := S512x512) ![0, 256] S512x256.size inb_S512x512_S512x256_0_256, k0_pay4 (k0_pay7 p) (k0_pay8 p bd) (hi g) (hi nm)⟩
        :: ⟨Rect.unit (s := S512x512) ![0, 0] S512x256.size inb_S512x512_S512x256_0_0, k0_pay6 p bd (lo g) (lo nm)⟩ :: L)) = normed p bd g nm := by
  funext y
  have hy : (y 1).val < 512 := (y 1).isLt
  unfold normed
  by_cases h : (y 1).val < 256
  · rw [dif_pos h]
    refine (View.read_writes_cons_unit_of_not_mem a.view f inb_S512x512_S512x256_0_256 _ _ y rfl 1 (.inl h)).trans ?_
    refine View.read_writes_cons_unit_of_mem a.view f inb_S512x512_S512x256_0_0 _ L y (ix2 (y 0) ⟨(y 1).val, h⟩) rfl (fun x => ?_)
    fin_cases x
    · show (y 0).val = 0 + (y 0).val; omega
    · show (y 1).val = 0 + (y 1).val; omega
  · rw [dif_neg h]
    refine View.read_writes_cons_unit_of_mem a.view f inb_S512x512_S512x256_0_256 _ _ y (ix2 (y 0) ⟨(y 1).val - 256, by omega⟩) rfl (fun x => ?_)
    fin_cases x
    · show (y 0).val = 0 + (y 0).val; omega
    · show (y 1).val = 256 + ((y 1).val - 256); omega

section Body

variable (𝒱 : Variants) (c : Dev nD) (bd : Option 𝒱.V) (i : grid0.Coords) (q : PosShare TreeShare)
  (arg2 : Memref sig .tc .smem S6 .i32) (harg2 : arg2.IsWhole) (arg3 : Memref sig .tc .vmem S512x1024 .f32) (harg3 : arg3.IsWhole)
  (arg4 : Memref sig .tc .vmem S1x1024 .f32) (harg4 : arg4.IsWhole) (arg5 : Memref sig .tc .vmem S1024x512 .bf16) (harg5 : arg5.IsWhole)
  (arg6 : Memref sig .tc .vmem S1x512 .f32) (harg6 : arg6.IsWhole) (arg7 : Memref sig .tc .vmem S1x512 .f32) (harg7 : arg7.IsWhole)
  (arg8 : Memref sig .tc .vmem S256x256 .bf16) (harg8 : arg8.IsWhole) (arg9 : Memref sig .tc .vmem S512x512 .bf16) (harg9 : arg9.IsWhole)
  (arg10 : Memref sig .tc .vmem S512x1024 .bf16) (harg10 : arg10.IsWhole)

/-- The flag that the body reads. -/
def flag (i : grid0.Coords) (X : S6.Idx → Elt F .i32) : BitVec 32 := X (Rect.point (Rect.unit (s := S6) (k0_off1 i) S1.size (k0_off1_inb i)) numel1_S1)

/-- What the body leaves. -/
def bodyOut (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (hn : Vec F S512x1024 .bf16) : sProp 𝕄 :=
  iprop((arg2.view.loc (c : Thread nD τ) ↦[arg2.view.set]{q} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (∃ f9, (arg9.view.loc (c : Thread nD τ) ↦[arg9.view.set]{fullShare} f9) ∗ ⌜arg9.view.read (Elt F) f9
        = outBlk (flag i (arg2.view.read (Elt F) f2)) hn (arg5.view.read (Elt F) f5) (arg6.view.read (Elt F) f6) (arg7.view.read (Elt F) f7) (arg8.view.read (Elt F) f8)⌝)
    ∗ (∃ f10, (arg10.view.loc (c : Thread nD τ) ↦[arg10.view.set]{fullShare} f10) ∗ ⌜arg10.view.read (Elt F) f10 = hn⌝))

/-- What the body finds. -/
def bodyIn (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop((arg2.view.loc (c : Thread nD τ) ↦[arg2.view.set]{q} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10))

set_option maxHeartbeats 1600000 in
theorem first_plain (h1 : cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  have h3 := cond3_of _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e3 := load_whole arg3 f3 inb_S512x1024_S512x1024_0_0
    have e4 := load_whole arg4 f4 inb_S1x1024_S1x1024_0_0
    have e10 := View.readCov_cons_toLoadRect (Val := Elt F) arg10.view (Rect.unit (s := S512x1024) ![0, 0] S512x1024.size inb_S512x1024_S512x1024_0_0) (k0_pay1 (arg3.view.readAt (Elt F) (Rect.unit (s := S512x1024) ![0, 0] S512x1024.size inb_S512x1024_S512x1024_0_0).toLoadRect f3) (arg4.view.readAt (Elt F) (Rect.unit (s := S1x1024) ![0, 0] S1x1024.size inb_S1x1024_S1x1024_0_0).toLoadRect f4)) []
    have e5 := load_whole arg5 f5 inb_S1024x512_S1024x512_0_0
    rw [if_pos h2, store_whole, ← e3, ← e4, ← e5, ← e10]
    rfl
  · iexists _
    isplitl [H10]; · iexact H10
    ipureintro
    have e3 := load_whole arg3 f3 inb_S512x1024_S512x1024_0_0
    have e4 := load_whole arg4 f4 inb_S1x1024_S1x1024_0_0
    rw [← e3, ← e4]
    exact store_whole ..

set_option maxHeartbeats 1600000 in
theorem first_normed (h1 : cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : ¬ k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  have h3 := cond3_of_not _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e3 := load_whole arg3 f3 inb_S512x1024_S512x1024_0_0
    have e4 := load_whole arg4 f4 inb_S1x1024_S1x1024_0_0
    have e10 := View.readCov_cons_toLoadRect (Val := Elt F) arg10.view (Rect.unit (s := S512x1024) ![0, 0] S512x1024.size inb_S512x1024_S512x1024_0_0) (k0_pay1 (arg3.view.readAt (Elt F) (Rect.unit (s := S512x1024) ![0, 0] S512x1024.size inb_S512x1024_S512x1024_0_0).toLoadRect f3) (arg4.view.readAt (Elt F) (Rect.unit (s := S1x1024) ![0, 0] S1x1024.size inb_S1x1024_S1x1024_0_0).toLoadRect f4)) []
    have e5 := load_whole arg5 f5 inb_S1024x512_S1024x512_0_0
    have e8 := load_whole arg8 f8 inb_S256x256_S256x256_0_0
    have e := store_halves arg9 f9 [] (k0_pay2 (k0_pay1 (arg3.view.read (Elt F) f3) (arg4.view.read (Elt F) f4)) (arg5.view.read (Elt F) f5)) (arg8.view.read (Elt F) f8) (arg6.view.read (Elt F) f6) (arg7.view.read (Elt F) f7)
    rw [if_neg h2]
    refine Eq.trans ?_ e
    rw [← e3, ← e4, ← e5, ← e8, ← e10]
    rfl
  · iexists _
    isplitl [H10]; · iexact H10
    ipureintro
    have e3 := load_whole arg3 f3 inb_S512x1024_S512x1024_0_0
    have e4 := load_whole arg4 f4 inb_S1x1024_S1x1024_0_0
    rw [← e3, ← e4]
    exact store_whole ..

set_option maxHeartbeats 1600000 in
theorem rest_plain (h1 : ¬ cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (arg10.view.read (Elt F) f10) := by
  have h3 := cond3_of _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e10 := load_whole arg10 f10 inb_S512x1024_S512x1024_0_0
    have e5 := load_whole arg5 f5 inb_S1024x512_S1024x512_0_0
    rw [if_pos h2, store_whole, e10, e5]
  · iexists _
    isplitl [H10]; · iexact H10
    ipureintro
    rfl

set_option maxHeartbeats 1600000 in
theorem rest_normed (h1 : ¬ cond1 i = 1#1) (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h2 : ¬ k0_cond2 (flag i (arg2.view.read (Elt F) f2)) = 1#1) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (arg10.view.read (Elt F) f10) := by
  have h3 := cond3_of_not _ h2
  unfold bodyIn bodyOut
  iintro ⟨H2, H3, H4, H5, H6, H7, H8, H9, H10⟩
  sl_unfold [cc0_proj]
  sl_exec (disch := first | sl_exact h1 | sl_exact h2 | sl_exact h3)
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitl [H9]; · iexact H9
    ipureintro
    unfold outBlk
    have e10 := load_whole arg10 f10 inb_S512x1024_S512x1024_0_0
    have e5 := load_whole arg5 f5 inb_S1024x512_S1024x512_0_0
    have e8 := load_whole arg8 f8 inb_S256x256_S256x256_0_0
    have e := store_halves arg9 f9 [] (k0_pay2 (arg10.view.read (Elt F) f10) (arg5.view.read (Elt F) f5)) (arg8.view.read (Elt F) f8) (arg6.view.read (Elt F) f6) (arg7.view.read (Elt F) f7)
    rw [if_neg h2]
    refine Eq.trans ?_ e
    rw [← e5, ← e8, ← e10]
    rfl
  · iexists _
    isplitl [H10]; · iexact H10
    ipureintro
    rfl

/-- The body from the blocks it finds, scratch at the rows' normed values unless this point makes them. -/
theorem body_run (f2 : BufTy.Contents (Elt F) arg2.view.ty) (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (E : Set ℕ)
    (h : ¬ cond1 i = 1#1 → arg10.view.read (Elt F) f10 = k0_pay1 (arg3.view.read (Elt F) f3) (arg4.view.read (Elt F) f4)) :
    bodyIn c q arg2 arg3 arg4 arg5 arg6 arg7 arg8 arg9 arg10 f2 f3 f4 f5 f6 f7 f8 f9 f10 ⊢ wp frame (wpE (defs₀ (F := F)) 𝒱 (c : Thread nD τ) bd) E
      (cc0_proj (F := F) i arg2 harg2 arg3 harg3 arg4 harg4 arg5 harg5 arg6 harg6 arg7 harg7 arg8 harg8 arg9 harg9 arg10 harg10)
      fun _ => bodyOut c i q arg2 arg3 arg4 arg5 arg6 arg7 arg8 arg9 arg10 f2 f3 f4 f5 f6 f7 f8 (k0_pay1 (arg3.view.read (Elt F) f3) (arg4.view.read (Elt F) f4)) := by
  by_cases h1 : cond1 i = 1#1
  · by_cases h2 : k0_cond2 (flag i (arg2.view.read (Elt F) f2)) = 1#1
    · exact first_plain 𝒱 c bd i q arg2 harg2 arg3 harg3 arg4 harg4 arg5 harg5 arg6 harg6 arg7 harg7 arg8 harg8 arg9 harg9 arg10 harg10 h1 f2 f3 f4 f5 f6 f7 f8 f9 f10 E h2
    · exact first_normed 𝒱 c bd i q arg2 harg2 arg3 harg3 arg4 harg4 arg5 harg5 arg6 harg6 arg7 harg7 arg8 harg8 arg9 harg9 arg10 harg10 h1 f2 f3 f4 f5 f6 f7 f8 f9 f10 E h2
  · rw [← h h1]
    by_cases h2 : k0_cond2 (flag i (arg2.view.read (Elt F) f2)) = 1#1
    · exact rest_plain 𝒱 c bd i q arg2 harg2 arg3 harg3 arg4 harg4 arg5 harg5 arg6 harg6 arg7 harg7 arg8 harg8 arg9 harg9 arg10 harg10 h1 f2 f3 f4 f5 f6 f7 f8 f9 f10 E h2
    · exact rest_normed 𝒱 c bd i q arg2 harg2 arg3 harg3 arg4 harg4 arg5 harg5 arg6 harg6 arg7 harg7 arg8 harg8 arg9 harg9 arg10 harg10 h1 f2 f3 f4 f5 f6 f7 f8 f9 f10 E h2

end Body

end Cert.OddIdeal.In

end
-- ==== Proof.OddFrame.lean ====
/-
  The launch of the odd layer's input projection over its grid: what scratch holds between grid points, the body's
  obligation at every point, and the run.
-/
module

public import proofs.«01_k».proof.Proof.OddBody

@[expose] public section

set_option maxRecDepth 16384

noncomputable section

namespace Cert.OddIdeal.In

open Cert.OddIdeal Cert.OddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (p : Fin 1) → (pcfgs (F := F) p).Adm)

/-- The launch's pipelines with their table at contents `a`. -/
abbrev cfgs : Fin 1 → Cfg sig Λ₀ := Pipeline.pin (pcfgs (F := F)) a
/-- The number of grid points. -/
abbrev NN := (cfg0 (a 0)).N

/-- Window `w`'s block at point `t`. -/
def iblk (c : Dev nD) (w : Fin 7) (t : Fin (NN a)) : (((cfg0 (a 0)).win w).xblock ((cfg0 (a 0)).grid.coords t)).Idx → Elt F ((cfg0 (a 0)).win w).elt :=
  (((cfg0 (a 0)).win w).blk t).view.read (Elt F) (V c (Pipeline.arrRef spec0 w))

abbrev scH : Memref sig .tc .vmem S512x1024 .bf16 := Memref.whole cc0_scratch0
abbrev tbl : Memref sig .tc .smem S6 .i32 := Memref.whole main_v73

theorem pt_scH (c : Dev nD) (f : Buf (Elt F) ((c : Thread nD τ).loc cc0_scratch0)) :
    ((((c : Thread nD τ).loc cc0_scratch0) ↦{fullShare} f : sProp 𝕄)) = (scH.view.loc (c : Thread nD τ) ↦[scH.view.set]{fullShare} f) := by
  rw [show scH.view.set = Finset.univ from View.set_whole _]
theorem pt_tbl (c : Dev nD) (q : PosShare TreeShare) (f : Buf (Elt F) ((c : Thread nD τ).loc main_v73)) :
    ((((c : Thread nD τ).loc main_v73) ↦{q} f : sProp 𝕄)) = (tbl.view.loc (c : Thread nD τ) ↦[tbl.view.set]{q} f) := by
  rw [show tbl.view.set = Finset.univ from View.set_whole _]

/-- The table's contents. -/
abbrev tab : Buf (Elt F) (((0 : Dev nD) : Thread nD τ).loc main_v73) := (a 0).1 (0 : Fin 1)

/-- Before point `n`: scratch at the rows' normed values (no fact is needed where the rows begin), and the table. -/
def tracked (c : Dev nD) (n : Nat) : sProp 𝕄 :=
  iprop((∃ f, (scH.view.loc (c : Thread nD τ) ↦[scH.view.set]{fullShare} f)
      ∗ ⌜∀ t : Fin (NN a), t.val = n → t.val % 6 ≠ 0 → scH.view.read (Elt F) f = k0_pay1 (iblk V a c 0 t) (iblk V a c 1 t)⌝)
    ∗ (tbl.view.loc (c : Thread nD τ) ↦[tbl.view.set]{fullShare.right} tab a)
    ∗ ∃ r, prngReg c r)

/-- The block written at a point. -/
def outAt (c : Dev nD) (t : Fin (NN a)) : Vec F S512x512 .bf16 :=
  outBlk (flag (grid0.coords t) (tbl.view.read (Elt F) (tab a))) (k0_pay1 (iblk V a c 0 t) (iblk V a c 1 t)) (iblk V a c 2 t) (iblk V a c 3 t) (iblk V a c 4 t) (iblk V a c 5 t)

/-- The proof data of the launch. -/
def dats : (p : Fin 1) → (c : Dev nD) → Dat τ (Elt F) Unit ℕ (UR sig nD τ) ℕ (cfgs a p) c
  | 0, c =>
    { A := fun w => V c (Pipeline.arrRef spec0 w)
      after := fun w t => match w with
        | 0 => iblk V a c 0 t
        | 1 => iblk V a c 1 t
        | 2 => iblk V a c 2 t
        | 3 => iblk V a c 3 t
        | 4 => iblk V a c 4 t
        | 5 => iblk V a c 5 t
        | 6 => outAt V a c t
      Φ := fun n => tracked V a c n.val
      q := fun w => Pipeline.shareOf spec0 w
      owed := fun _ => 0 }

theorem A_eq (c : Dev nD) (w : Fin 7) : (dats V a 0 c).A w = V c (Pipeline.arrRef spec0 w) := by dsimp only [dats]
theorem after0_0 (c : Dev nD) (t : Fin (NN a)) : (dats V a 0 c).after 0 t = iblk V a c 0 t := rfl
theorem after0_1 (c : Dev nD) (t : Fin (NN a)) : (dats V a 0 c).after 1 t = iblk V a c 1 t := rfl
theorem after0_2 (c : Dev nD) (t : Fin (NN a)) : (dats V a 0 c).after 2 t = iblk V a c 2 t := rfl
theorem after0_3 (c : Dev nD) (t : Fin (NN a)) : (dats V a 0 c).after 3 t = iblk V a c 3 t := rfl
theorem after0_4 (c : Dev nD) (t : Fin (NN a)) : (dats V a 0 c).after 4 t = iblk V a c 4 t := rfl
theorem after0_5 (c : Dev nD) (t : Fin (NN a)) : (dats V a 0 c).after 5 t = iblk V a c 5 t := rfl
theorem after0_6 (c : Dev nD) (t : Fin (NN a)) : (dats V a 0 c).after 6 t = outAt V a c t := rfl

theorem before0_0 (c : Dev nD) (t : Fin (NN a)) (d) : (dats V a 0 c).before 0 t d = iblk V a c 0 t :=
  ((dats V a 0 c).before_in_eq_fetched 0 rfl (fun _ => rfl) (fun _ _ _ => rfl) (fun t => by rw [after0_0]; rfl) t d).trans rfl
theorem before0_1 (c : Dev nD) (t : Fin (NN a)) (d) : (dats V a 0 c).before 1 t d = iblk V a c 1 t :=
  ((dats V a 0 c).before_in_eq_fetched 1 rfl (fun _ => rfl) (fun _ _ _ => rfl) (fun t => by rw [after0_1]; rfl) t d).trans rfl
theorem before0_2 (c : Dev nD) (t : Fin (NN a)) (d) : (dats V a 0 c).before 2 t d = iblk V a c 2 t :=
  ((dats V a 0 c).before_in_eq_fetched 2 rfl (fun _ => rfl) (fun _ _ _ => rfl) (fun t => by rw [after0_2]; rfl) t d).trans rfl
theorem before0_3 (c : Dev nD) (t : Fin (NN a)) (d) : (dats V a 0 c).before 3 t d = iblk V a c 3 t :=
  ((dats V a 0 c).before_in_eq_fetched 3 rfl (fun _ => rfl) (fun _ _ _ => rfl) (fun t => by rw [after0_3]; rfl) t d).trans rfl
theorem before0_4 (c : Dev nD) (t : Fin (NN a)) (d) : (dats V a 0 c).before 4 t d = iblk V a c 4 t :=
  ((dats V a 0 c).before_in_eq_fetched 4 rfl (fun _ => rfl) (fun _ _ _ => rfl) (fun t => by rw [after0_4]; rfl) t d).trans rfl
theorem before0_5 (c : Dev nD) (t : Fin (NN a)) (d) : (dats V a 0 c).before 5 t d = iblk V a c 5 t :=
  ((dats V a 0 c).before_in_eq_fetched 5 rfl (fun _ => rfl) (fun _ _ _ => rfl) (fun t => by rw [after0_5]; rfl) t d).trans rfl

/-! ## Points of the same rows -/

theorem first_of_rows : ∀ t : Fin grid0.N, t.val % 6 = 0 → cond1 (grid0.coords t) = 1#1 := by decide +kernel
theorem rows_ix : ∀ t : Fin grid0.N, (cc0_transform_0 (grid0.coords t) 0, cc0_transform_0 (grid0.coords t) 1) = (t.val / 6, 0) := by decide +kernel
theorem ln_ix : ∀ t : Fin grid0.N, (cc0_transform_1 (grid0.coords t) 0, cc0_transform_1 (grid0.coords t) 1) = (0, 0) := by decide +kernel

theorem rows_same (c : Dev nD) (t t' : Fin (NN a)) (h : t'.val = t.val + 1) (hn : t'.val % 6 ≠ 0) : iblk V a c 0 t' = iblk V a c 0 t := by
  have hix : ((cfg0 (a 0)).win 0).index t = ((cfg0 (a 0)).win 0).index t' := by
    funext x
    have e1 := rows_ix t
    have e2 := rows_ix t'
    rw [show t'.val / 6 = t.val / 6 by omega, ← e1] at e2
    fin_cases x
    · exact (congrArg Prod.fst e2).symm
    · exact (congrArg Prod.snd e2).symm
  exact ((dats V a 0 c).fetched_congr 0 hix rfl (iblk V a c 0 t)).symm
theorem ln_same (c : Dev nD) (t t' : Fin (NN a)) : iblk V a c 1 t' = iblk V a c 1 t := by
  have hix : ((cfg0 (a 0)).win 1).index t = ((cfg0 (a 0)).win 1).index t' := by
    funext x
    have e1 := ln_ix t
    have e2 := ln_ix t'
    rw [← e1] at e2
    fin_cases x
    · exact (congrArg Prod.fst e2).symm
    · exact (congrArg Prod.snd e2).symm
  exact ((dats V a 0 c).fetched_congr 1 hix rfl (iblk V a c 1 t)).symm

/-! ## The body's obligation -/

abbrev st0_0 (t : Fin (NN a)) := ((cfg0 (a 0)).win 0).stage ((cfg0 (a 0)).slots t 0)
abbrev st0_1 (t : Fin (NN a)) := ((cfg0 (a 0)).win 1).stage ((cfg0 (a 0)).slots t 1)
abbrev st0_2 (t : Fin (NN a)) := ((cfg0 (a 0)).win 2).stage ((cfg0 (a 0)).slots t 2)
abbrev st0_3 (t : Fin (NN a)) := ((cfg0 (a 0)).win 3).stage ((cfg0 (a 0)).slots t 3)
abbrev st0_4 (t : Fin (NN a)) := ((cfg0 (a 0)).win 4).stage ((cfg0 (a 0)).slots t 4)
abbrev st0_5 (t : Fin (NN a)) := ((cfg0 (a 0)).win 5).stage ((cfg0 (a 0)).slots t 5)
abbrev st0_6 (t : Fin (NN a)) := ((cfg0 (a 0)).win 6).stage ((cfg0 (a 0)).slots t 6)

/-- The body as the pipeline calls it at a point. -/
abbrev bodyAt (t : Fin (NN a)) : Prog (TpuEff nD τ sig (Elt F) Λ₀ .tc) PUnit :=
  cc0_proj (grid0.coords t) (Memref.whole main_v73) (Memref.isWhole_whole _) (st0_0 a t) (hstage0_0 (((cfg0 (a 0)).slots t 0).cast nbuf0_0)) (st0_1 a t) (hstage0_1 (((cfg0 (a 0)).slots t 1).cast nbuf0_1)) (st0_2 a t) (hstage0_2 (((cfg0 (a 0)).slots t 2).cast nbuf0_2)) (st0_3 a t) (hstage0_3 (((cfg0 (a 0)).slots t 3).cast nbuf0_3)) (st0_4 a t) (hstage0_4 (((cfg0 (a 0)).slots t 4).cast nbuf0_4)) (st0_5 a t) (hstage0_5 (((cfg0 (a 0)).slots t 5).cast nbuf0_5)) (st0_6 a t) (hstage0_6 (((cfg0 (a 0)).slots t 6).cast nbuf0_6)) (Memref.whole cc0_scratch0) (Memref.isWhole_whole _)

def bodyPre (c : Dev nD) (t : Fin (NN a)) : sProp 𝕄 :=
  iprop((dats V a 0 c).Φ t.castSucc ∗ (dats V a 0 c).owesAt () t.castSucc
    ∗ (∃ d, owns (c : Thread nD τ) (st0_0 a t) fullShare ((dats V a 0 c).before 0 t d)) ∗ (∃ d, owns (c : Thread nD τ) (st0_1 a t) fullShare ((dats V a 0 c).before 1 t d)) ∗ (∃ d, owns (c : Thread nD τ) (st0_2 a t) fullShare ((dats V a 0 c).before 2 t d)) ∗ (∃ d, owns (c : Thread nD τ) (st0_3 a t) fullShare ((dats V a 0 c).before 3 t d)) ∗ (∃ d, owns (c : Thread nD τ) (st0_4 a t) fullShare ((dats V a 0 c).before 4 t d)) ∗ (∃ d, owns (c : Thread nD τ) (st0_5 a t) fullShare ((dats V a 0 c).before 5 t d)) ∗ (∃ d, owns (c : Thread nD τ) (st0_6 a t) fullShare ((dats V a 0 c).before 6 t d)))

def bodyPost (c : Dev nD) (t : Fin (NN a)) : sProp 𝕄 :=
  iprop((dats V a 0 c).Φ t.succ ∗ (dats V a 0 c).owesAt () t.succ
    ∗ owns (c : Thread nD τ) (st0_0 a t) fullShare ((dats V a 0 c).after 0 t) ∗ owns (c : Thread nD τ) (st0_1 a t) fullShare ((dats V a 0 c).after 1 t) ∗ owns (c : Thread nD τ) (st0_2 a t) fullShare ((dats V a 0 c).after 2 t) ∗ owns (c : Thread nD τ) (st0_3 a t) fullShare ((dats V a 0 c).after 3 t) ∗ owns (c : Thread nD τ) (st0_4 a t) fullShare ((dats V a 0 c).after 4 t) ∗ owns (c : Thread nD τ) (st0_5 a t) fullShare ((dats V a 0 c).after 5 t) ∗ owns (c : Thread nD τ) (st0_6 a t) fullShare ((dats V a 0 c).after 6 t))

theorem out_congr {fl : BitVec 32} {h h' : Vec F S512x1024 .bf16} {w w' : Vec F S1024x512 .bf16} {g g' nm nm' : Vec F S1x512 .f32} {bd bd' : Vec F S256x256 .bf16}
    (e1 : h = h') (e2 : w = w') (e3 : g = g') (e4 : nm = nm') (e5 : bd = bd') : outBlk fl h w g nm bd = outBlk fl h' w' g' nm' bd' := by
  rw [e1, e2, e3, e4, e5]

set_option maxHeartbeats 1600000 in
theorem sound_body (c : Dev nD) (t : Fin (NN a)) :
    bodyPre V a c t ⊢ wp frame (wpE (defs₀ (F := F)) Variants.none (c : Thread nD τ) none) Set.univ (bodyAt a t) fun _ => bodyPost V a c t := by
  unfold bodyPre bodyPost
  simp only [before0_0, before0_1, before0_2, before0_3, before0_4, before0_5]
  rw [show (dats V a 0 c).owesAt () t.succ = (dats V a 0 c).owesAt () t.castSucc from rfl,
    show (dats V a 0 c).Φ t.castSucc = tracked V a c t.val from rfl, show (dats V a 0 c).Φ t.succ = tracked V a c (t.val + 1) from rfl,
    after0_0, after0_1, after0_2, after0_3, after0_4, after0_5, after0_6]
  unfold tracked owns
  iintro ⟨⟨⟨%f10, H10, %hfill⟩, H2, Hp⟩, Ho, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  have hr := body_run (F := F) Variants.none c none (grid0.coords t) fullShare.right (Memref.whole main_v73) (Memref.isWhole_whole _) (st0_0 a t) (hstage0_0 (((cfg0 (a 0)).slots t 0).cast nbuf0_0)) (st0_1 a t) (hstage0_1 (((cfg0 (a 0)).slots t 1).cast nbuf0_1)) (st0_2 a t) (hstage0_2 (((cfg0 (a 0)).slots t 2).cast nbuf0_2)) (st0_3 a t) (hstage0_3 (((cfg0 (a 0)).slots t 3).cast nbuf0_3)) (st0_4 a t) (hstage0_4 (((cfg0 (a 0)).slots t 4).cast nbuf0_4)) (st0_5 a t) (hstage0_5 (((cfg0 (a 0)).slots t 5).cast nbuf0_5)) (st0_6 a t) (hstage0_6 (((cfg0 (a 0)).slots t 6).cast nbuf0_6))
    (Memref.whole cc0_scratch0) (Memref.isWhole_whole _) (tab a) f3 f4 f5 f6 f7 f8 f9 f10 Set.univ
    (fun hne => (hfill t rfl fun h0 => hne (first_of_rows t h0)).trans (congrArg₂ (k0_pay1 (F := F)) e3 e4).symm)
  iapply (hr.trans (wp_wand frame (wpE (defs₀ (F := F)) Variants.none (c : Thread nD τ) none) Set.univ)) $$ [H2 H3 H4 H5 H6 H7 H8 H9 H10]
  · unfold bodyIn
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  unfold bodyOut
  iintro %u ⟨H2, H3, H4, H5, H6, H7, H8, ⟨%g9, H9, %e9'⟩, ⟨%g10, H10, %e10⟩⟩
  have e10 := e10.trans (congrArg₂ (k0_pay1 (F := F)) e3 e4)
  isplitl [H10 H2 Hp]
  · isplitl [H10]
    · iexists _
      isplitl [H10]; · iexact H10
      ipureintro
      intro t' h1 h2
      rw [rows_same V a c t t' h1 h2, ln_same V a c t t']
      exact e10
    isplitl [H2]; · iexact H2
    iexact Hp
  isplitl [Ho]; · iexact Ho
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  iexists _; isplitr
  · ipureintro
    exact e9'.trans (out_congr (congrArg₂ (k0_pay1 (F := F)) e3 e4) e5 e6 e7 e8)
  iexact H9

theorem defs₀_row (t : Fin (NN a)) : defs₀ (F := F) .tc (cfg0 (a 0)).body ((cfg0 (a 0)).bodyArgs t ((cfg0 (a 0)).slots t)) = bodyAt a t := by
  unfold defs₀; rw [Defs.onTc_tc]; rfl

/-- At no point does the body leave the output block alone. -/
theorem never_idle (i : grid0.Coords) : idle0 (F := F) (a 0).1 6 i = false := by
  show (!(k0_cond2 ((a 0).1.atD 0 (k0_off1 i)) == 1#1) && !(k0_cond3 ((a 0).1.atD 0 (k0_off2 i)) == 1#1)) = false
  have e : k0_off1 i = k0_off2 i := rfl
  rw [← e]
  by_cases h : k0_cond2 ((a 0).1.atD 0 (k0_off1 i)) = 1#1
  · rw [h]; rfl
  · have := cond3_of_not _ h
    rw [this]; simp

theorem body_obligation (c : Dev nD) : BodyObligation (dats (F := F) V a 0 c) (defs₀ (F := F)) Variants.none () Set.univ := fun t => by
  rw [bigSep_W0, bigSep_W0, defs₀_row]
  have hi := never_idle a ((cfg0 (a 0)).grid.coords t)
  simp only [hi]
  exact triple_restated (sound_body V a c t) rfl .rfl fun _ => .rfl

/-! ## The launch -/

theorem held_eq (c : Dev nD) : (Pipeline.ΦT (U := UR sig nD τ) pre0 (a 0).1 c : sProp 𝕄) = (tbl.view.loc (c : Thread nD τ) ↦[tbl.view.set]{fullShare.right} tab a) := by
  rw [← pt_tbl c fullShare.right (tab a)]
  unfold Pipeline.ΦT Pipeline.prefHeld
  exact bigSep_univ_eq_bigSepL [(0 : Fin 1)] (by decide) (by decide) _

theorem scratch_in (c : Dev nD) : iprop(Pipeline.ΦA (U := UR sig nD τ) spec0 c ∗ Pipeline.ΦT (U := UR sig nD τ) pre0 (a 0).1 c) ⊢ tracked (F := F) V a c 0 := by
  rw [held_eq]
  unfold Pipeline.ΦA tracked
  rw [scopedRest0_eq]
  simp only [pt_scH]
  iintro ⟨⟨⟨%f0, H0⟩, Hp⟩, Ht⟩
  isplitl [H0]
  · iexists _
    isplitl [H0]; · iexact H0
    ipureintro
    intro t ht hne
    exact absurd (by rw [ht]) hne
  isplitl [Ht]; · iexact Ht
  iexact Hp

theorem scratch_out (c : Dev nD) (n : Nat) : tracked (F := F) V a c n ⊢ Pipeline.ΦA spec0 c := by
  unfold Pipeline.ΦA tracked
  rw [scopedRest0_eq]
  simp only [pt_scH]
  iintro ⟨⟨%f0, H0, -⟩, -, Hp⟩
  isplitl [H0]; · iexists _; iexact H0
  iexact Hp

variable (m : (ℓ : Loc nD τ sig) → Buf (Elt F) ℓ) (ρ : Dev nD → PrngReg)

/-- What every array holds when the launch begins. -/
def Vm (c : Dev nD) (b : Ref sig .tc) : Buf (Elt F) ((c : Thread nD τ).loc b) :=
  StableHlo.after (List.flatten [hostOps0, hostOps0_1, hostOps0_2, hostOps0_3, hostOps0_4]) (fun b => m (c, b)) b

/-- The table then. -/
def adm : (p : Fin 1) → (pcfgs (F := F) p).Adm := fun _ => ⟨fun k => Vm m (0 : Dev nD) (pre0.ref k), trivial⟩

theorem hmain : Pipeline.HMainP (Ix := Unit) (Name := ℕ) (U := UR sig nD τ) (Lvl := ℕ) (pcfgs (F := F)) 0 defs₀ Variants.none m (main (F := F)) (Vm m) :=
  Pipeline.hmainP_prefixes pcfgs 0 defs₀ Variants.none m main [hostOps0, hostOps0_1, hostOps0_2, hostOps0_3, hostOps0_4]
    ⟨hostOps0_sub, hostOps0_1_sub, hostOps0_2_sub, hostOps0_3_sub, hostOps0_4_sub⟩
    (by simp only [List.Forall]; repeat' constructor) main_chain

set_option backward.isDefEq.respectTransparency.types false in
set_option maxHeartbeats 1600000 in
/-- The program runs, leaves every array as the launch's proof data says, and every semaphore at zero. -/
theorem run_main : θ_run defs (onTc (τ := τ) (main (F := F))) (s₀ m ρ)
    (fun r => Pipeline.FramePost (cfgs (adm m)) (dats (Vm m) (adm m)) 0 (Vm m) r ∧ r.2.sem = fun _ => 0) :=
  Pipeline.θ_run_frameP_track_shared pcfgs (adm m) (dats (Vm m) (adm m)) (0 : Fin 1) launch0.to₀ defs₀ Variants.none m ρ main
    (hbody := fun c => (body_obligation (Vm m) (adm m) c).loose) (hq := fun _ _ _ => rfl) (howed := fun _ _ => rfl) (V := Vm m) (hmain := hmain m)
    (hA := A_eq (Vm m) (adm m)) (hpf := fun c k => by obtain rfl : c = 0 := Subsingleton.elim _ _; rfl)
    (hin := fun c => scratch_in (Vm m) (adm m) c) (hout := fun c => scratch_out (Vm m) (adm m) c _)
    (Q' := fun r => Pipeline.FramePost (cfgs (adm m)) (dats (Vm m) (adm m)) 0 (Vm m) r ∧ r.2.sem = fun _ => 0) (hQ' := fun _ h => h)

end Cert.OddIdeal.In

end
-- ==== Proof.OddValue.lean ====
/-
  The odd layer's input projection's arrays when its launch begins, and the arguments after it.
-/
module

public import proofs.«01_k».proof.Proof.OddFrame
public import proofs.«01_k».proof.Proof.ProjFinal

@[expose] public section

set_option maxRecDepth 16384

noncomputable section

namespace Cert.OddIdeal.In

open Cert.OddIdeal Cert.OddIdeal.Gen
open Idealize.ShloMosaic Idealize.ShloMosaic.TcCoe
open Idealize.SL.Sem

/-! ## What the host leaves -/

section Host

variable {F : FTy → Type} [FloatOps F]
variable (m : (ℓ : Loc nD τ sig) → Buf (Elt F) ℓ)

theorem Vm_main_arg0 (c : Dev nD) : Vm m c main_arg0 = m ((c : Thread nD τ).loc main_arg0) := (rfl)
theorem Vm_main_arg1 (c : Dev nD) : Vm m c main_arg1 = m ((c : Thread nD τ).loc main_arg1) := (rfl)
theorem Vm_main_arg2 (c : Dev nD) : Vm m c main_arg2 = m ((c : Thread nD τ).loc main_arg2) := (rfl)
theorem Vm_main_arg3 (c : Dev nD) : Vm m c main_arg3 = m ((c : Thread nD τ).loc main_arg3) := (rfl)

/-- The arguments are unchanged wherever the launch's post holds. -/
theorem args_kept {r : PUnit × MemSt nD τ sig (Elt F)} (h : Pipeline.FramePost (cfgs (adm m)) (dats (Vm m) (adm m)) 0 (Vm m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact ((h c).1 0).trans (((dats (Vm m) (adm m) 0 c).arrAt_in 0 rfl _).trans ((A_eq (Vm m) (adm m) c 0).trans (Vm_main_arg0 m c)))
  · exact ((h c).2 main_arg1 (Pipeline.mem_restRefs_of main_arg1 (by decide) (by show ∀ w : Fin 7, (spec0 w).arr.view.ref ≠ main_arg1; decide))).trans (Vm_main_arg1 m c)
  · exact ((h c).2 main_arg2 (Pipeline.mem_restRefs_of main_arg2 (by decide) (by show ∀ w : Fin 7, (spec0 w).arr.view.ref ≠ main_arg2; decide))).trans (Vm_main_arg2 m c)
  · exact ((h c).2 main_arg3 (Pipeline.mem_restRefs_of main_arg3 (by decide) (by show ∀ w : Fin 7, (spec0 w).arr.view.ref ≠ main_arg3; decide))).trans (Vm_main_arg3 m c)

/-- Keys and values of two groups: a group's key columns, then its value columns. -/
def pair (k v : FVec F S1024x128 .f32) : FVec F S1024x256 .f32 :=
  concatenate S1024x256 1 [⟨S1024x64, extractStridedSlice S1024x64 ![0, 0] k slices_S1024x128_S1024x64_0_0⟩, ⟨S1024x64, extractStridedSlice S1024x64 ![0, 0] v slices_S1024x128_S1024x64_0_0⟩,
    ⟨S1024x64, extractStridedSlice S1024x64 ![0, 64] k slices_S1024x128_S1024x64_0_64⟩, ⟨S1024x64, extractStridedSlice S1024x64 ![0, 64] v slices_S1024x128_S1024x64_0_64⟩] concatenates_S1024x64_S1024x64_S1024x64_S1024x64_S1024x256_d1

/-- The columns that the projection computes, side by side. -/
def wCols (w : FVec F S1024x3864 .f32) : FVec F S1024x3072 .f32 :=
  concatenate S1024x3072 1 [⟨S1024x512, extractStridedSlice S1024x512 ![0, 0] w slices_S1024x3864_S1024x512_0_0⟩,
    ⟨S1024x512, extractStridedSlice S1024x512 ![0, 512] w slices_S1024x3864_S1024x512_0_512⟩,
    ⟨S1024x512, extractStridedSlice S1024x512 ![0, 1024] w slices_S1024x3864_S1024x512_0_1024⟩,
    ⟨S1024x512, extractStridedSlice S1024x512 ![0, 2048] w slices_S1024x3864_S1024x512_0_2048⟩,
    ⟨S1024x256, pair (extractStridedSlice S1024x128 ![0, 2816] w slices_S1024x3864_S1024x128_0_2816) (extractStridedSlice S1024x128 ![0, 2944] w slices_S1024x3864_S1024x128_0_2944)⟩,
    ⟨S1024x256, pair (extractStridedSlice S1024x128 ![0, 3072] w slices_S1024x3864_S1024x128_0_3072) (extractStridedSlice S1024x128 ![0, 3200] w slices_S1024x3864_S1024x128_0_3200)⟩,
    ⟨S1024x128, extractStridedSlice S1024x128 ![0, 2560] w slices_S1024x3864_S1024x128_0_2560⟩,
    ⟨S1024x128, extractStridedSlice S1024x128 ![0, 2688] w slices_S1024x3864_S1024x128_0_2688⟩,
    ⟨S1024x256, broadcastInDim S1024x256 ![] bcast_S_S1024x256 (constant S_ .f32 0x00000000#32)⟩] concatenates_S1024x512_S1024x512_S1024x512_S1024x512_S1024x256_S1024x256_S1024x128_S1024x128_S1024x256_S1024x3072_d1

/-- A constant 512 times, and 64 times. -/
def rep (b : BitVec 32) : FVec F S512 .f32 := broadcastInDim S512 ![] bcast_S_S512 (constant S_ .f32 b)
def rep64 (b : BitVec 32) : FVec F S64 .f32 := broadcastInDim S64 ![] bcast_S_S64 (constant S_ .f32 b)

/-- The gains of eight heads, column by column. -/
def heads (g : FVec F S1x64 .f32) : FVec F S512 .f32 :=
  shapeCast S512 (broadcastInDim S8x64 ![0, 1] bcast_S1x64_S8x64_0_1 (shapeCast S1x64 (shapeCast S64 g shapeCasts_S1x64_S64) shapeCasts_S64_S1x64)) shapeCasts_S8x64_S512

/-- Four pieces of 64. -/
def four (a b c d : FVec F S64 .f32) : FVec F S256 .f32 := concatenate S256 0 [⟨S64, a⟩, ⟨S64, b⟩, ⟨S64, c⟩, ⟨S64, d⟩] concatenates_S64_S64_S64_S64_S256_d0

/-- The gains of two groups' keys, their values' at one. -/
def keys (g : FVec F S1x64 .f32) : FVec F S256 .f32 := four (shapeCast S64 g shapeCasts_S1x64_S64) (rep64 0x3F800000#32) (shapeCast S64 g shapeCasts_S1x64_S64) (rep64 0x3F800000#32)

/-- Seven pieces. -/
def seven (a b c d : FVec F S512 .f32) (e f : FVec F S256 .f32) (g : FVec F S512 .f32) : FVec F S3072 .f32 :=
  concatenate S3072 0 [⟨S512, a⟩, ⟨S512, b⟩, ⟨S512, c⟩, ⟨S512, d⟩, ⟨S256, e⟩, ⟨S256, f⟩, ⟨S512, g⟩] concatenates_S512_S512_S512_S512_S256_S256_S512_S3072_d0

/-- Which columns are normed. -/
def kvMask : FVec F S256 .f32 := four (rep64 0x3F800000#32) (rep64 0x00000000#32) (rep64 0x3F800000#32) (rep64 0x00000000#32)
def maskV : FVec F S3072 .f32 := seven (rep 0x3F800000#32) (rep 0x3F800000#32) (rep 0x00000000#32) (rep 0x3F800000#32) kvMask kvMask (rep 0x00000000#32)

/-- The gains, by column. -/
def gain (q : FVec F S6x64 .f32) : FVec F S3072 .f32 :=
  seven (mulf (heads (extractStridedSlice S1x64 ![0, 0] q slices_S6x64_S1x64_0_0)) (rep 0x3E000000#32)) (heads (extractStridedSlice S1x64 ![1, 0] q slices_S6x64_S1x64_1_0)) (rep 0x3F800000#32)
    (mulf (heads (extractStridedSlice S1x64 ![2, 0] q slices_S6x64_S1x64_2_0)) (rep 0x3E000000#32)) (keys (extractStridedSlice S1x64 ![4, 0] q slices_S6x64_S1x64_4_0))
    (keys (extractStridedSlice S1x64 ![5, 0] q slices_S6x64_S1x64_5_0)) (rep 0x3F800000#32)

/-- The table: whether a group of 512 columns has a normed one. -/
def tabV : IVec S6 32 :=
  extui 32 (cmpf .ogt (Host.reduce (FloatOps.maximumf (F := F) (φ := .f32)) (shapeCast S6x512 (maskV (F := F)) shapeCasts_S3072_S6x512) (constant S_ .f32 0xFF800000#32) reducesTo_S6x512_S6_d1 h_S_)
    (broadcastInDim S6 ![] bcast_S_S6 (constant S_ .f32 0x3F000000#32))) natLt_1_32

/-- The head that each of 256 columns is of. -/
def headV : IVec S256 32 :=
  let i : IVec S256 32 := iotaInDim S256 32 0
  let k : IVec S_ 32 := constantI S_ 32 64#32
  let d : IVec S256 32 := Host.divsi i (broadcastInDim S256 ![] bcast_S_S256 k)
  select (andi (cmpi .ne (signi i) (broadcastInDim S256 ![] bcast_S_S256 (signi k)))
      (cmpi .ne (Host.remsi i (broadcastInDim S256 ![] bcast_S_S256 k)) (broadcastInDim S256 ![] bcast_S_S256 (constantI S_ 32 0#32))))
    (subi d (broadcastInDim S256 ![] bcast_S_S256 (constantI S_ 32 1#32))) d

/-- One sixty-fourth within a head, zero across heads. -/
def blockV : FVec F S256x256 .f32 :=
  select (cmpi .eq (broadcastInDim S256x256 ![0, 1] bcast_S256x1_S256x256_0_1 (broadcastInDim S256x1 ![0] bcast_S256_S256x1_0 headV))
      (broadcastInDim S256x256 ![0, 1] bcast_S1x256_S256x256_0_1 (broadcastInDim S1x256 ![1] bcast_S256_S1x256_1 headV)))
    (broadcastInDim S256x256 ![] bcast_S_S256x256 (constant S_ .f32 0x3C800000#32)) (broadcastInDim S256x256 ![] bcast_S_S256x256 (constant S_ .f32 0x00000000#32))

theorem Vm_ln (c : Dev nD) : Vm m c main_v83 = shapeCast S1x1024 (m ((c : Thread nD τ).loc main_arg1)) shapeCasts_S1024_S1x1024 := (rfl)
set_option maxHeartbeats 2000000 in
theorem Vm_w (c : Dev nD) : Vm m c main_v25 = truncf .bf16 (wCols (m ((c : Thread nD τ).loc main_arg2))) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl
set_option maxHeartbeats 2000000 in
theorem Vm_gain (c : Dev nD) : Vm m c main_v84 = shapeCast S1x3072 (gain (m ((c : Thread nD τ).loc main_arg3))) shapeCasts_S3072_S1x3072 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl
set_option maxHeartbeats 2000000 in
theorem Vm_mask (c : Dev nD) : Vm m c main_v85 = shapeCast S1x3072 (maskV (F := F)) shapeCasts_S3072_S1x3072 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl
set_option maxHeartbeats 2000000 in
theorem Vm_tab (c : Dev nD) : Vm m c main_v73 = tabV (F := F) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl
set_option maxHeartbeats 2000000 in
theorem Vm_block (c : Dev nD) : Vm m c main_v82 = truncf .bf16 (blockV (F := F)) bitsLt_bf16_f32 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  try rfl

end Host

end Cert.OddIdeal.In

end
-- ==== Proof.OddRead.lean ====
/-
  The odd layer's input projection's payloads and blocks read at an index.
-/
module

public import proofs.«01_k».proof.Proof.OddValue
public import Idealize.ShloMosaic.Lib.Pipeline.ValueKit

@[expose] public section

set_option maxRecDepth 16384

noncomputable section

namespace Cert.OddIdeal.In

open Cert.OddIdeal Cert.OddIdeal.Gen
open Idealize.ShloMosaic Idealize.ShloMosaic.TcCoe
open Idealize.SL.Sem
open Cert.ProjIdeal.In (split)

/-! ## The payloads -/

theorem pay1_at (x : FVec Ideal S512x1024 .f32) (l : FVec Ideal S1x1024 .f32) (r : Fin 512) (k : Fin 1024) :
    k0_pay1 (F := Ideal) x l (ix2 r k)
      = x (ix2 r k) * Ideal.rsqrt (Ideal.div (∑ e : Fin 1024, x (ix2 r e) * x (ix2 r e)) (Ideal.ofBits .f32 0x44800000#32) + Ideal.ofBits .f32 0x358637BD#32) * l (ix2 0 k) := by
  pointwise [k0_pay1]

theorem pay2_at (h : FVec Ideal S512x1024 .bf16) (w : FVec Ideal S1024x512 .bf16) (r e : Fin 512) :
    k0_pay2 (F := Ideal) h w (ix2 r e) = ∑ k : Fin 1024, h (ix2 r k) * w (ix2 k e) := by
  pointwise [k0_pay2]

theorem pay3_at (h : FVec Ideal S512x1024 .bf16) (w : FVec Ideal S1024x512 .bf16) (r e : Fin 512) : k0_pay3 (F := Ideal) h w (ix2 r e) = k0_pay2 (F := Ideal) h w (ix2 r e) := rfl

theorem pay6_at (p : FVec Ideal S512x512 .f32) (bd : FVec Ideal S256x256 .bf16) (g nm : FVec Ideal S1x256 .f32) (r : Fin 512) (e : Fin 256) :
    k0_pay6 (F := Ideal) p bd g nm (ix2 r e)
      = Scalar.select (Ideal.cmp .ogt (nm (ix2 0 e)) (Ideal.ofBits .f32 0x3F000000#32))
          (split (fun s => p (ix2 r ⟨s.val, by omega⟩)) (fun s => bd (ix2 s e)) e * g (ix2 0 e)) (p (ix2 r ⟨e.val, by omega⟩)) := by
  pointwise [k0_pay6, k0_pay5, split]

theorem pay4_at (p : FVec Ideal S512x512 .f32) (bd : FVec Ideal S256x256 .bf16) (g nm : FVec Ideal S1x256 .f32) (r : Fin 512) (e : Fin 256) :
    k0_pay4 (F := Ideal) (k0_pay7 p) (k0_pay8 p bd) g nm (ix2 r e)
      = Scalar.select (Ideal.cmp .ogt (nm (ix2 0 e)) (Ideal.ofBits .f32 0x3F000000#32))
          (split (fun s => p (ix2 r ⟨256 + s.val, by omega⟩)) (fun s => bd (ix2 s e)) e * g (ix2 0 e)) (p (ix2 r ⟨256 + e.val, by omega⟩)) := by
  pointwise [k0_pay4, k0_pay8, k0_pay7, k0_pay5, split]

theorem lo_at (g : FVec Ideal S1x512 .f32) (e : Fin 256) : lo (F := Ideal) g (ix2 0 e) = g (ix2 0 ⟨e.val, by omega⟩) := by
  refine congrArg g (funext fun x => Fin.ext ?_)
  fin_cases x
  · rfl
  · show 0 + 1 * e.val = e.val
    omega
theorem hi_at (g : FVec Ideal S1x512 .f32) (e : Fin 256) : hi (F := Ideal) g (ix2 0 e) = g (ix2 0 ⟨256 + e.val, by omega⟩) := by
  refine congrArg g (funext fun x => Fin.ext ?_)
  fin_cases x
  · rfl
  · show 256 + 1 * e.val = 256 + e.val
    omega

/-! ## The blocks -/

section Blocks

variable (V : (c : Dev nD) → (b : Ref sig .tc) → Buf (Elt Ideal) ((c : Thread nD τ).loc b)) (a : (p : Fin 1) → (pcfgs (F := Ideal) p).Adm)

theorem idx : ∀ t : Fin (NN a),
    ((pcfg0 (F := Ideal)).win (a 0) 0).index t = ![(grid0.coords t 0).val, 0] ∧ ((pcfg0 (F := Ideal)).win (a 0) 1).index t = ![0, 0] ∧ ((pcfg0 (F := Ideal)).win (a 0) 2).index t = ![0, (grid0.coords t 1).val]
      ∧ ((pcfg0 (F := Ideal)).win (a 0) 3).index t = ![0, (grid0.coords t 1).val] ∧ ((pcfg0 (F := Ideal)).win (a 0) 4).index t = ![0, (grid0.coords t 1).val] ∧ ((pcfg0 (F := Ideal)).win (a 0) 5).index t = ![0, 0]
      ∧ ((pcfg0 (F := Ideal)).win (a 0) 6).index t = ![(grid0.coords t 0).val, (grid0.coords t 1).val] ∧ (grid0.coords t 0).val < 64 ∧ (grid0.coords t 1).val < 6 :=
  (by decide +kernel : ∀ t : Fin grid0.N, cc0_transform_0 (grid0.coords t) = ![(grid0.coords t 0).val, 0] ∧ cc0_transform_1 (grid0.coords t) = ![0, 0]
    ∧ cc0_transform_2 (grid0.coords t) = ![0, (grid0.coords t 1).val] ∧ cc0_transform_3 (grid0.coords t) = ![0, (grid0.coords t 1).val]
    ∧ cc0_transform_4 (grid0.coords t) = ![0, (grid0.coords t 1).val] ∧ cc0_transform_5 (grid0.coords t) = ![0, 0]
    ∧ cc0_transform_6 (grid0.coords t) = ![(grid0.coords t 0).val, (grid0.coords t 1).val] ∧ (grid0.coords t 0).val < 64 ∧ (grid0.coords t 1).val < 6)

theorem c0_lt (t : Fin (NN a)) : (grid0.coords t 0).val < 64 := (idx a t).2.2.2.2.2.2.2.1
theorem c1_lt (t : Fin (NN a)) : (grid0.coords t 1).val < 6 := (idx a t).2.2.2.2.2.2.2.2

/-- The row of the arrays that is row `r` of the blocks of point `t`. -/
def row (t : Fin (NN a)) (r : Fin 512) : Fin 32768 := ⟨512 * (grid0.coords t 0).val + r.val, by have := c0_lt a t; omega⟩
/-- The column that is column `e`. -/
def col (t : Fin (NN a)) (e : Fin 512) : Fin 3072 := ⟨512 * (grid0.coords t 1).val + e.val, by have := c1_lt a t; omega⟩

theorem x_at (c : Dev nD) (t : Fin (NN a)) (r : Fin 512) (k : Fin 1024) :
    (show FVec Ideal S512x1024 .f32 from iblk V a c 0 t) (ix2 r k) = (show FVec Ideal S32768x1024 .f32 from V c main_arg0) (ix2 (row a t r) k) := by
  have h0 := c0_lt a t
  unfold row
  blk_ext [iblk, idx a t]
theorem ln_at (c : Dev nD) (t : Fin (NN a)) (k : Fin 1024) :
    (show FVec Ideal S1x1024 .f32 from iblk V a c 1 t) (ix2 0 k) = (show FVec Ideal S1x1024 .f32 from V c main_v83) (ix2 0 k) := by
  blk_ext [iblk, idx a t]
theorem w_at (c : Dev nD) (t : Fin (NN a)) (k : Fin 1024) (e : Fin 512) :
    (show FVec Ideal S1024x512 .bf16 from iblk V a c 2 t) (ix2 k e) = (show FVec Ideal S1024x3072 .bf16 from V c main_v25) (ix2 k (col a t e)) := by
  have h0 := c1_lt a t
  unfold col
  blk_ext [iblk, idx a t]
theorem g_at (c : Dev nD) (t : Fin (NN a)) (e : Fin 512) :
    (show FVec Ideal S1x512 .f32 from iblk V a c 3 t) (ix2 0 e) = (show FVec Ideal S1x3072 .f32 from V c main_v84) (ix2 0 (col a t e)) := by
  have h0 := c1_lt a t
  unfold col
  blk_ext [iblk, idx a t]
theorem nm_at (c : Dev nD) (t : Fin (NN a)) (e : Fin 512) :
    (show FVec Ideal S1x512 .f32 from iblk V a c 4 t) (ix2 0 e) = (show FVec Ideal S1x3072 .f32 from V c main_v85) (ix2 0 (col a t e)) := by
  have h0 := c1_lt a t
  unfold col
  blk_ext [iblk, idx a t]
theorem bd_at (c : Dev nD) (t : Fin (NN a)) (r s : Fin 256) :
    (show FVec Ideal S256x256 .bf16 from iblk V a c 5 t) (ix2 r s) = (show FVec Ideal S256x256 .bf16 from V c main_v82) (ix2 r s) := by
  blk_ext [iblk, idx a t]

end Blocks

end Cert.OddIdeal.In

end
-- ==== Proof.OddMath.lean ====
/-
  The odd layer's input projection in the reals: which columns are normed, the result, and the host's values by column.
-/
module

public import proofs.«01_k».proof.Proof.OddRead

@[expose] public section

set_option maxRecDepth 16384

noncomputable section

namespace Cert.OddIdeal.In

open Cert.OddIdeal Cert.OddIdeal.Gen
open Idealize.ShloMosaic Idealize.ShloMosaic.TcCoe
open Cert.ProjIdeal.In (split hAt hAt_real c_half c_one c_zero c_inv64 c_64 div_real head_sum)

/-! ## The projection -/

/-- A normed row's product with column `n` of the weights. -/
def yAt (X : FVec Ideal S32768x1024 .f32) (L : FVec Ideal S1024 .f32) (W : FVec Ideal S1024x3864 .f32) (r : Fin 32768) (n : Fin 3864) : EReal :=
  ∑ k : Fin 1024, hAt X L r k * W (ix2 k n)

/-- The column of the weights that column `n` of the result is from. -/
def colN (n : Nat) : Nat :=
  if n < 1536 then n else if n < 2048 then n + 512 else if n < 2560 then 2816 + 256 * ((n - 2048) / 256) + 128 * (n / 64 % 2) + 64 * (n % 256 / 128) + n % 64 else n
theorem colN_lt (n : Nat) (h : n < 2816) : colN n < 3864 := by
  unfold colN
  split_ifs <;> omega
def colW (n : Nat) (h : n < 2816) : Fin 3864 := ⟨colN n, colN_lt n h⟩

/-- Whether column `n` of the result is of a normed head. -/
def isN (n : Nat) : Prop := n < 1024 ∨ (1536 ≤ n ∧ n < 2048) ∨ (2048 ≤ n ∧ n < 2560 ∧ n / 64 % 2 = 0)
instance (n : Nat) : Decidable (isN n) := by unfold isN; infer_instance
theorem isN_lt {n : Nat} (h : isN n) : n < 2560 := by unfold isN at h; omega

/-- Whether column `n` of the weights is. -/
def wN (n : Nat) : Prop := n < 1024 ∨ (2048 ≤ n ∧ n < 2560) ∨ (2816 ≤ n ∧ n < 2944) ∨ (3072 ≤ n ∧ n < 3200)

theorem wN_of (n : Nat) (h : isN n) (d : Fin 64) : wN (colN (64 * (n / 64) + d.val)) := by
  unfold isN at h
  unfold wN colN
  have := d.isLt
  split_ifs <;> omega

/-- Column `n` before any norm: zero where the result has no column of the weights. -/
def yR (X : FVec Ideal S32768x1024 .f32) (L : FVec Ideal S1024 .f32) (W : FVec Ideal S1024x3864 .f32) (r : Fin 32768) (n : Nat) : EReal :=
  if h : n < 2816 then yAt X L W r (colW n h) else Ideal.ofBits .f32 0x00000000#32

/-- Column `n` over the root of its head's mean of squares. -/
def headAt (X : FVec Ideal S32768x1024 .f32) (L : FVec Ideal S1024 .f32) (W : FVec Ideal S1024x3864 .f32) (r : Fin 32768) (n : Nat) : EReal :=
  yR X L W r n * Ideal.rsqrt (Ideal.div (∑ d : Fin 64, yR X L W r (64 * (n / 64) + d.val) * yR X L W r (64 * (n / 64) + d.val))
    (Ideal.ofBits .f32 0x42800000#32) + Ideal.ofBits .f32 0x358637BD#32)

/-- The gain of a normed column. -/
def gn (Q : FVec Ideal S6x64 .f32) (n : Nat) : EReal :=
  if n < 512 then Q (ix2 0 ⟨n % 64, by omega⟩) * Ideal.ofBits .f32 0x3E000000#32
  else if n < 1024 then Q (ix2 1 ⟨n % 64, by omega⟩)
  else if n < 2048 then Q (ix2 2 ⟨n % 64, by omega⟩) * Ideal.ofBits .f32 0x3E000000#32
  else if n < 2304 then Q (ix2 4 ⟨n % 64, by omega⟩) else Q (ix2 5 ⟨n % 64, by omega⟩)

/-- Entry `n` of row `r` of the result. -/
def resAt (X : FVec Ideal S32768x1024 .f32) (L : FVec Ideal S1024 .f32) (W : FVec Ideal S1024x3864 .f32) (Q : FVec Ideal S6x64 .f32) (r : Fin 32768) (n : Nat) : EReal :=
  if isN n then headAt X L W r n * gn Q n else yR X L W r n

/-- The result. -/
def res (X : FVec Ideal S32768x1024 .f32) (L : FVec Ideal S1024 .f32) (W : FVec Ideal S1024x3864 .f32) (Q : FVec Ideal S6x64 .f32) : FVec Ideal S32768x3072 .bf16 :=
  fun i => resAt X L W Q (i 0) (i 1).val

/-- A normed column's head is of real numbers. -/
theorem yR_real (X : FVec Ideal S32768x1024 .f32) (L : FVec Ideal S1024 .f32) (W : FVec Ideal S1024x3864 .f32) (hL : ∀ k, L k ≠ (⊤ : EReal) ∧ L k ≠ (⊥ : EReal))
    (hW : ∀ (k : Fin 1024) (n : Fin 3864), wN n.val → W (ix2 k n) ≠ (⊤ : EReal) ∧ W (ix2 k n) ≠ (⊥ : EReal)) (r : Fin 32768) (n : Nat) (hn : isN n) (d : Fin 64) :
    ∃ v : ℝ, yR X L W r (64 * (n / 64) + d.val) = (v : EReal) := by
  have hlt : 64 * (n / 64) + d.val < 2816 := by have := isN_lt hn; omega
  have hf := fun k => hW k (colW _ hlt) (wN_of n hn d)
  have hh := fun k => hAt_real X L hL r k
  choose v hv using hh
  refine ⟨∑ k, v k * (W (ix2 k (colW _ hlt))).toReal, ?_⟩
  unfold yR
  rw [dif_pos hlt, ← Cert.Soft.coe_sum]
  refine Finset.sum_congr rfl fun k _ => ?_
  rw [EReal.coe_mul, EReal.coe_toReal (hf k).1 (hf k).2, hv k]

/-! ## The mean of squares -/

/-- The two products give the mean of squares of a column's head, if that head is of real numbers. -/
theorem split_head (P : Fin 256 → EReal) (e : Fin 256) (hP : ∀ d : Fin 64, ∃ v : ℝ, P ⟨64 * (e.val / 64) + d.val, by omega⟩ = (v : EReal)) (B : Fin 256 → EReal)
    (hB : ∀ s, B s = if s.val / 64 = e.val / 64 then Ideal.ofBits .f32 0x3C800000#32 else Ideal.ofBits .f32 0x00000000#32) :
    split P B e = P e * Ideal.rsqrt (Ideal.div (∑ d : Fin 64, P ⟨64 * (e.val / 64) + d.val, by omega⟩ * P ⟨64 * (e.val / 64) + d.val, by omega⟩)
      (Ideal.ofBits .f32 0x42800000#32) + Ideal.ofBits .f32 0x358637BD#32) := by
  have hp : ∀ s : Fin 256, s.val / 64 = e.val / 64 → P s = ((P s).toReal : EReal) := by
    intro s hs
    obtain ⟨v, hv⟩ := hP ⟨s.val % 64, by omega⟩
    have e1 : s = ⟨64 * (e.val / 64) + (⟨s.val % 64, by omega⟩ : Fin 64).val, by dsimp only; omega⟩ := Fin.ext (by dsimp only; omega)
    rw [e1, hv]
    rfl
  have e1 : (∑ s, P s * P s * B s) = ((∑ s : Fin 256, (P s).toReal * (P s).toReal * (if s.val / 64 = e.val / 64 then (1 / 64 : ℝ) else 0) : ℝ) : EReal) := by
    rw [← Cert.Soft.coe_sum]
    refine Finset.sum_congr rfl fun s _ => ?_
    rw [hB, c_inv64, c_zero]
    by_cases h : s.val / 64 = e.val / 64
    · rw [if_pos h, if_pos h, EReal.coe_mul, EReal.coe_mul, ← hp s h]
    · rw [if_neg h, if_neg h, EReal.coe_zero, mul_zero, mul_zero, EReal.coe_zero]
  have e2 : (∑ s, (P s * P s - P s * P s) * B s) = 0 := by
    refine Finset.sum_eq_zero fun s _ => ?_
    by_cases h : s.val / 64 = e.val / 64
    · rw [hp s h, ← EReal.coe_mul, ← EReal.coe_sub, sub_self, EReal.coe_zero, zero_mul]
    · rw [hB, if_neg h, c_zero, EReal.coe_zero, mul_zero]
  have e3 : (∑ d : Fin 64, P ⟨64 * (e.val / 64) + d.val, by omega⟩ * P ⟨64 * (e.val / 64) + d.val, by omega⟩)
      = ((∑ d : Fin 64, (P ⟨64 * (e.val / 64) + d.val, by omega⟩).toReal * (P ⟨64 * (e.val / 64) + d.val, by omega⟩).toReal : ℝ) : EReal) := by
    rw [← Cert.Soft.coe_sum]
    refine Finset.sum_congr rfl fun d _ => ?_
    rw [EReal.coe_mul, ← hp _ (by dsimp only; omega)]
  rw [split, e1, e2, add_zero, e3, c_64, div_real _ _ (by norm_num), head_sum (fun s => (P s).toReal * (P s).toReal) e]

/-! ## The host's values, by column -/

theorem headV_at : ∀ r : Fin 256, headV (ix1 r) = BitVec.ofNat 32 (r.val / 64) := by decide +kernel

theorem blockV_at (r s : Fin 256) : blockV (F := Ideal) (ix2 r s) = if r.val / 64 = s.val / 64 then Ideal.ofBits .f32 0x3C800000#32 else Ideal.ofBits .f32 0x00000000#32 := by
  have e : blockV (F := Ideal) (ix2 r s) = Scalar.select (IntOp.cmpi .eq (headV (ix1 r)) (headV (ix1 s))) (Ideal.ofBits .f32 0x3C800000#32) (Ideal.ofBits .f32 0x00000000#32) := by
    pointwise [blockV]
  rw [e, headV_at, headV_at]
  have key : ∀ x y : Fin 4, IntOp.cmpi .eq (BitVec.ofNat 32 x.val) (BitVec.ofNat 32 y.val) = if x.val = y.val then 1#1 else 0#1 := by decide
  have k := key ⟨r.val / 64, by omega⟩ ⟨s.val / 64, by omega⟩
  dsimp only at k
  rw [k]
  split <;> rfl

theorem heads_at (g : FVec Ideal S1x64 .f32) (k : Fin 512) : heads g (ix1 k) = g (ix2 0 ⟨k.val % 64, by omega⟩) := by pointwise [heads]
theorem rep_at (b : BitVec 32) (k : Fin 512) : rep (F := Ideal) b (ix1 k) = Ideal.ofBits .f32 b := by pointwise [rep]
theorem rep64_at (b : BitVec 32) (k : Fin 64) : rep64 (F := Ideal) b (ix1 k) = Ideal.ofBits .f32 b := by pointwise [rep64]

theorem at_eq {N : ℕ} (v : FVec Ideal ⟨1, ![N]⟩ .f32) (i j : Fin N) (h : i.val = j.val) : v (ix1 i) = v (ix1 j) := by rw [Fin.ext h]
theorem at_eq2 {M N : ℕ} (v : FVec Ideal ⟨2, ![M, N]⟩ .f32) (k k' : Fin M) (i j : Fin N) (h' : k.val = k'.val) (h : i.val = j.val) : v (ix2 k i) = v (ix2 k' j) := by rw [Fin.ext h, Fin.ext h']

theorem four_at (a b c d : FVec Ideal S64 .f32) (k : Fin 256) :
    four a b c d (ix1 k) = if k.val < 64 then a (ix1 ⟨k.val % 64, by omega⟩) else if k.val < 128 then b (ix1 ⟨k.val % 64, by omega⟩)
      else if k.val < 192 then c (ix1 ⟨k.val % 64, by omega⟩) else d (ix1 ⟨k.val % 64, by omega⟩) := by
  pointwise [four]
  repeat' split
  all_goals first
    | (exfalso; omega)
    | (refine at_eq _ _ _ ?_; dsimp only; omega)

theorem seven_at (a b c d : FVec Ideal S512 .f32) (e f : FVec Ideal S256 .f32) (g : FVec Ideal S512 .f32) (n : Fin 3072) :
    seven a b c d e f g (ix1 n) = if n.val < 512 then a (ix1 ⟨n.val % 512, by omega⟩) else if n.val < 1024 then b (ix1 ⟨n.val % 512, by omega⟩)
      else if n.val < 1536 then c (ix1 ⟨n.val % 512, by omega⟩) else if n.val < 2048 then d (ix1 ⟨n.val % 512, by omega⟩)
      else if n.val < 2304 then e (ix1 ⟨n.val % 256, by omega⟩) else if n.val < 2560 then f (ix1 ⟨n.val % 256, by omega⟩) else g (ix1 ⟨n.val % 512, by omega⟩) := by
  pointwise [seven]
  repeat' split
  all_goals first
    | (exfalso; omega)
    | (refine at_eq _ _ _ ?_; dsimp only; omega)

theorem mask_at (n : Fin 3072) : maskV (F := Ideal) (ix1 n) = if isN n.val then Ideal.ofBits .f32 0x3F800000#32 else Ideal.ofBits .f32 0x00000000#32 := by
  unfold maskV
  rw [seven_at]
  simp only [rep_at, kvMask, four_at, rep64_at]
  by_cases h : isN n.val
  · rw [if_pos h]
    unfold isN at h
    split_ifs
    all_goals first
      | (exfalso; omega)
      | rfl
  · rw [if_neg h]
    unfold isN at h
    split_ifs
    all_goals first
      | (exfalso; omega)
      | rfl

theorem keys_at (g : FVec Ideal S1x64 .f32) (k : Fin 256) (h : k.val / 64 % 2 = 0) : keys g (ix1 k) = g (ix2 0 ⟨k.val % 64, by omega⟩) := by
  have e : ∀ d : Fin 64, shapeCast S64 g shapeCasts_S1x64_S64 (ix1 d) = g (ix2 0 d) := by
    intro d
    pointwise []
  unfold keys
  rw [four_at]
  split_ifs <;> first | omega | exact e _

theorem row_0 (q : FVec Ideal S6x64 .f32) (d : Fin 64) : extractStridedSlice S1x64 ![0, 0] q slices_S6x64_S1x64_0_0 (ix2 0 d) = q (ix2 0 d) := by pointwise []
theorem row_1 (q : FVec Ideal S6x64 .f32) (d : Fin 64) : extractStridedSlice S1x64 ![1, 0] q slices_S6x64_S1x64_1_0 (ix2 0 d) = q (ix2 1 d) := by pointwise []
theorem row_2 (q : FVec Ideal S6x64 .f32) (d : Fin 64) : extractStridedSlice S1x64 ![2, 0] q slices_S6x64_S1x64_2_0 (ix2 0 d) = q (ix2 2 d) := by pointwise []
theorem row_4 (q : FVec Ideal S6x64 .f32) (d : Fin 64) : extractStridedSlice S1x64 ![4, 0] q slices_S6x64_S1x64_4_0 (ix2 0 d) = q (ix2 4 d) := by pointwise []
theorem row_5 (q : FVec Ideal S6x64 .f32) (d : Fin 64) : extractStridedSlice S1x64 ![5, 0] q slices_S6x64_S1x64_5_0 (ix2 0 d) = q (ix2 5 d) := by pointwise []

theorem times_at (a b : FVec Ideal S512 .f32) (k : Fin 512) : mulf a b (ix1 k) = a (ix1 k) * b (ix1 k) := rfl

theorem gain_at (q : FVec Ideal S6x64 .f32) (n : Fin 3072) (h : isN n.val) : gain q (ix1 n) = gn q n.val := by
  have e1 : ∀ x, (⟨n.val % 512 % 64, x⟩ : Fin 64) = ⟨n.val % 64, by omega⟩ := fun _ => Fin.ext (by dsimp only; omega)
  have e2 : ∀ x, (⟨n.val % 256 % 64, x⟩ : Fin 64) = ⟨n.val % 64, by omega⟩ := fun _ => Fin.ext (by dsimp only; omega)
  unfold gain gn
  rw [seven_at]
  unfold isN at h
  split_ifs
  all_goals first
    | (exfalso; omega)
    | (rw [keys_at _ _ (by dsimp only; omega)]; dsimp only; first | rw [row_4, e2] | rw [row_5, e2])
    | (rw [times_at, heads_at, rep_at]; dsimp only; first | rw [row_0, e1] | rw [row_2, e1])
    | (rw [heads_at]; dsimp only; rw [row_1, e1])

theorem pair_at (u v : FVec Ideal S1024x128 .f32) (k : Fin 1024) (c : Fin 256) :
    pair u v (ix2 k c) = if c.val % 128 < 64 then u (ix2 k ⟨64 * (c.val / 128) + c.val % 64, by omega⟩) else v (ix2 k ⟨64 * (c.val / 128) + c.val % 64, by omega⟩) := by
  pointwise [pair]
  repeat' split
  all_goals first
    | (exfalso; omega)
    | (refine at_eq2 _ _ _ _ _ rfl ?_; dsimp only; omega)

theorem wCols_at (w : FVec Ideal S1024x3864 .f32) (k : Fin 1024) (n : Fin 3072) :
    wCols w (ix2 k n) = if h : n.val < 2816 then w (ix2 k (colW n.val h)) else Ideal.ofBits .f32 0x00000000#32 := by
  by_cases hn : n.val < 2816
  · rw [dif_pos hn]
    have e : ∀ (i : Fin 3864), i.val = colN n.val → w (ix2 k i) = w (ix2 k (colW n.val hn)) := fun i hi => by
      rw [show i = colW n.val hn from Fin.ext hi]
    unfold colN at e
    pointwise [wCols]
    simp only [pair_at]
    pointwise []
    repeat' split
    all_goals first
      | (exfalso; omega)
      | (refine e _ ?_; dsimp only; split_ifs <;> omega)
  · rw [dif_neg hn]
    pointwise [wCols]
    repeat' split
    all_goals first
      | (exfalso; omega)
      | rfl

end Cert.OddIdeal.In

end
-- ==== Proof.OddFinal.lean ====
/-
  The odd layer's input projection's kernel: its result array, entry by entry.
-/
module

public import proofs.«01_k».proof.Proof.OddMath

@[expose] public section

set_option maxRecDepth 16384

noncomputable section

namespace Cert.OddIdeal.In

open Cert.OddIdeal Cert.OddIdeal.Gen
open Idealize.ShloMosaic Idealize.ShloMosaic.TcCoe
open Cert.ProjIdeal.In (split c_half c_one c_zero sel_on sel_off)

/-! ## The table -/

theorem row_at (x : FVec Ideal S3072 .f32) (j : Fin 6) (k : Fin 512) : shapeCast S6x512 x shapeCasts_S3072_S6x512 (ix2 j k) = x (ix1 ⟨512 * j.val + k.val, by omega⟩) := by
  pointwise []
  exact congrArg (fun n => x (ix1 n)) (Fin.ext (by dsimp only; omega))

theorem tab_on (j : Fin 6) (k : Fin 512) (hk : isN (512 * j.val + k.val)) : ¬ k0_cond2 (tabV (F := Ideal) (ix1 j)) = 1#1 := by
  have e : tabV (F := Ideal) (ix1 j) = (Ideal.cmp .ogt (Host.reduce (FloatOps.maximumf (F := Ideal) (φ := .f32)) (shapeCast S6x512 (maskV (F := Ideal)) shapeCasts_S3072_S6x512) (constant (F := Ideal) S_ .f32 0xFF800000#32) reducesTo_S6x512_S6_d1 h_S_ (ix1 j))
      (Ideal.ofBits .f32 0x3F000000#32)).setWidth 32 := rfl
  have hm : (Ideal.ofBits .f32 0x3F000000#32) < Host.reduce (FloatOps.maximumf (F := Ideal) (φ := .f32)) (shapeCast S6x512 (maskV (F := Ideal)) shapeCasts_S3072_S6x512) (constant S_ .f32 0xFF800000#32) reducesTo_S6x512_S6_d1 h_S_ (ix1 j) := by
    rw [Host.reduce_eq_fold]
    refine lt_of_lt_of_le ?_ ((Finset.le_fold_max (s := Finset.univ.filter fun i => reducesTo_S6x512_S6_d1.drop i = ix1 j) (f := shapeCast S6x512 (maskV (F := Ideal)) shapeCasts_S3072_S6x512) (Ideal.ofBits .f32 0x3F800000#32)).mpr
      (Or.inr ⟨ix2 j k, Finset.mem_filter.mpr ⟨Finset.mem_univ _, ?_⟩, ?_⟩))
    · rw [c_half, c_one]
      exact_mod_cast (by norm_num : (1 / 2 : ℝ) < 1)
    · funext a
      fin_cases a
      rfl
    · refine le_of_eq ((row_at _ j k).trans ((mask_at _).trans (if_pos hk))).symm
  rw [e]
  have e2 : ∀ M : EReal, Ideal.ofBits .f32 0x3F000000#32 < M → Ideal.cmp .ogt M (Ideal.ofBits .f32 0x3F000000#32) = 1#1 := by
    intro M h
    simp [Ideal.cmp, h]
  rw [e2 _ hm]
  decide

/-! ## The result -/

section Result

variable (m : (x : Loc nD τ sig) → Buf (Elt Ideal) x)

theorem flag_eq (t : Fin (NN (adm m))) : flag (F := Ideal) (grid0.coords t) (tbl.view.read (Elt Ideal) (tab (adm m))) = tabV (F := Ideal) (ix1 ⟨(grid0.coords t 1).val, c1_lt (adm m) t⟩) := by
  have e : tab (adm m) = tabV (F := Ideal) := Vm_tab m 0
  rw [e]
  refine congrArg (tabV (F := Ideal)) (funext fun x => Fin.ext ?_)
  fin_cases x
  exact (by decide +kernel : ∀ i : Fin grid0.N, (k0_off1 (grid0.coords i)) 0 + 1 * 0 = (grid0.coords i 1).val) t

theorem p_at (c : Dev nD) (t : Fin (NN (adm m))) (r e : Fin 512) :
    k0_pay2 (F := Ideal) (k0_pay1 (iblk (Vm m) (adm m) c 0 t) (iblk (Vm m) (adm m) c 1 t)) (iblk (Vm m) (adm m) c 2 t) (ix2 r e)
      = yR (m ((c : Thread nD τ).loc main_arg0)) (m ((c : Thread nD τ).loc main_arg1)) (m ((c : Thread nD τ).loc main_arg2)) (row (adm m) t r) (col (adm m) t e).val := by
  have hw : ∀ k : Fin 1024, (show FVec Ideal S1024x512 .bf16 from iblk (Vm m) (adm m) c 2 t) (ix2 k e)
      = if h : (col (adm m) t e).val < 2816 then (m ((c : Thread nD τ).loc main_arg2) : FVec Ideal S1024x3864 .f32) (ix2 k (colW (col (adm m) t e).val h)) else Ideal.ofBits .f32 0x00000000#32 := by
    intro k
    refine (w_at (Vm m) (adm m) c t k e).trans ?_
    rw [Vm_w]
    exact wCols_at _ k _
  refine (pay2_at _ _ r e).trans ?_
  unfold yR
  by_cases h : (col (adm m) t e).val < 2816
  · rw [dif_pos h]
    refine Finset.sum_congr rfl fun k _ => congrArg₂ (· * ·) ?_ ((hw k).trans (dif_pos h))
    refine (pay1_at _ _ r k).trans ?_
    have hx := fun k => x_at (Vm m) (adm m) c t r k
    have hl : (show FVec Ideal S1x1024 .f32 from iblk (Vm m) (adm m) c 1 t) (ix2 0 k) = (m ((c : Thread nD τ).loc main_arg1) : FVec Ideal S1024 .f32) (ix1 k) := by
      refine (ln_at (Vm m) (adm m) c t k).trans ?_
      rw [Vm_ln]
      pointwise []
    refine congrArg₂ (· * ·) (congrArg₂ (· * ·) (hx k) (congrArg (fun s => Ideal.rsqrt (Ideal.div s _ + _)) (Finset.sum_congr rfl fun e _ => congrArg₂ (· * ·) (hx e) (hx e)))) hl
  · rw [dif_neg h]
    refine (Finset.sum_eq_zero fun k _ => ?_).trans (c_zero.trans EReal.coe_zero).symm
    refine (congrArg (_ * ·) (((hw k).trans (dif_neg h)).trans (c_zero.trans EReal.coe_zero))).trans (mul_zero _)

theorem gain_eq (c : Dev nD) (t : Fin (NN (adm m))) (e : Fin 512) :
    (show FVec Ideal S1x512 .f32 from iblk (Vm m) (adm m) c 3 t) (ix2 0 e) = gain (m ((c : Thread nD τ).loc main_arg3)) (ix1 (col (adm m) t e)) := by
  refine (g_at (Vm m) (adm m) c t e).trans ?_
  rw [Vm_gain]
  generalize col (adm m) t e = n
  show _ = gain _ _
  generalize gain (F := Ideal) _ = f
  pointwise []
theorem mask_eq (c : Dev nD) (t : Fin (NN (adm m))) (e : Fin 512) :
    (show FVec Ideal S1x512 .f32 from iblk (Vm m) (adm m) c 4 t) (ix2 0 e) = maskV (F := Ideal) (ix1 (col (adm m) t e)) := by
  refine (nm_at (Vm m) (adm m) c t e).trans ?_
  rw [Vm_mask]
  generalize col (adm m) t e = n
  generalize maskV (F := Ideal) = f
  pointwise []
theorem block_eq (c : Dev nD) (t : Fin (NN (adm m))) (r s : Fin 256) :
    (show FVec Ideal S256x256 .bf16 from iblk (Vm m) (adm m) c 5 t) (ix2 r s) = if r.val / 64 = s.val / 64 then Ideal.ofBits .f32 0x3C800000#32 else Ideal.ofBits .f32 0x00000000#32 := by
  refine (bd_at (Vm m) (adm m) c t r s).trans ?_
  rw [Vm_block]
  exact blockV_at r s

/-- A column of a normed block, in either half. -/
theorem normed_at (p : FVec Ideal S512x512 .f32) (bd : FVec Ideal S256x256 .bf16) (g nm : FVec Ideal S1x512 .f32) (r e : Fin 512) :
    normed (F := Ideal) p bd g nm (ix2 r e) = Scalar.select (Ideal.cmp .ogt (nm (ix2 0 e)) (Ideal.ofBits .f32 0x3F000000#32))
      (split (fun s => p (ix2 r ⟨256 * (e.val / 256) + s.val, by omega⟩)) (fun s => bd (ix2 s ⟨e.val % 256, by omega⟩)) ⟨e.val % 256, by omega⟩ * g (ix2 0 e)) (p (ix2 r e)) := by
  by_cases h : e.val < 256
  · have e0 : normed (F := Ideal) p bd g nm (ix2 r e) = k0_pay6 p bd (lo g) (lo nm) (ix2 r ⟨e.val, h⟩) := by
      show (if h : _ then _ else _) = _
      exact dif_pos h
    rw [e0, pay6_at, lo_at, lo_at]
    have e1 : (⟨e.val % 256, by omega⟩ : Fin 256) = ⟨e.val, h⟩ := Fin.ext (Nat.mod_eq_of_lt h)
    have e2 : ∀ s : Fin 256, (⟨256 * (e.val / 256) + s.val, by omega⟩ : Fin 512) = ⟨s.val, by omega⟩ := fun s => Fin.ext (by dsimp only; omega)
    simp only [e1, e2]
  · have e0 : normed (F := Ideal) p bd g nm (ix2 r e) = k0_pay4 (k0_pay7 p) (k0_pay8 p bd) (hi g) (hi nm) (ix2 r ⟨e.val - 256, by omega⟩) := by
      show (if h : _ then _ else _) = _
      exact dif_neg h
    rw [e0, pay4_at, hi_at, hi_at]
    have e1 : (⟨e.val % 256, by omega⟩ : Fin 256) = ⟨e.val - 256, by omega⟩ := Fin.ext (by dsimp only; omega)
    have e2 : ∀ s : Fin 256, (⟨256 * (e.val / 256) + s.val, by omega⟩ : Fin 512) = ⟨256 + s.val, by omega⟩ := fun s => Fin.ext (by dsimp only; omega)
    have e3 : (⟨256 + (⟨e.val - 256, by omega⟩ : Fin 256).val, by dsimp only; omega⟩ : Fin 512) = e := Fin.ext (by dsimp only; omega)
    simp only [e1, e2, e3]

/-- Entry `e` of a row of a block of group `j`, whichever branch wrote it. -/
theorem out_core (X : FVec Ideal S32768x1024 .f32) (L : FVec Ideal S1024 .f32) (W : FVec Ideal S1024x3864 .f32) (Q : FVec Ideal S6x64 .f32) (hL : ∀ k, L k ≠ (⊤ : EReal) ∧ L k ≠ (⊥ : EReal))
    (hW : ∀ (k : Fin 1024) (n : Fin 3864), wN n.val → W (ix2 k n) ≠ (⊤ : EReal) ∧ W (ix2 k n) ≠ (⊥ : EReal)) (R : Fin 32768) (j : Fin 6) (r e : Fin 512)
    (h : FVec Ideal S512x1024 .bf16) (w : FVec Ideal S1024x512 .bf16) (bd : FVec Ideal S256x256 .bf16) (g nm : FVec Ideal S1x512 .f32)
    (hp : ∀ s : Fin 512, k0_pay2 (F := Ideal) h w (ix2 r s) = yR X L W R (512 * j.val + s.val)) (hg : g (ix2 0 e) = gain Q (ix1 ⟨512 * j.val + e.val, by omega⟩))
    (hm : nm (ix2 0 e) = maskV (F := Ideal) (ix1 ⟨512 * j.val + e.val, by omega⟩))
    (hb : ∀ r s : Fin 256, bd (ix2 r s) = if r.val / 64 = s.val / 64 then Ideal.ofBits .f32 0x3C800000#32 else Ideal.ofBits .f32 0x00000000#32) :
    (if k0_cond2 (tabV (F := Ideal) (ix1 j)) = 1#1 then k0_pay3 (F := Ideal) h w else normed (F := Ideal) (k0_pay2 h w) bd g nm) (ix2 r e) = resAt X L W Q R (512 * j.val + e.val) := by
  unfold resAt
  by_cases hn : isN (512 * j.val + e.val)
  · have hd : ∀ d : Fin 64, k0_pay2 (F := Ideal) h w (ix2 r ⟨256 * (e.val / 256) + (⟨64 * ((⟨e.val % 256, by omega⟩ : Fin 256).val / 64) + d.val, by dsimp only; omega⟩ : Fin 256).val, by dsimp only; omega⟩)
        = yR X L W R (64 * ((512 * j.val + e.val) / 64) + d.val) := fun d => (hp _).trans (congrArg (yR X L W R) (by dsimp only; omega))
    rw [if_neg (tab_on j e hn), normed_at, hm, mask_at, if_pos hn, sel_on, hg, gain_at _ _ hn, if_pos hn]
    refine congrArg (· * _) ((split_head (fun s => k0_pay2 (F := Ideal) h w (ix2 r ⟨256 * (e.val / 256) + s.val, by omega⟩)) ⟨e.val % 256, by omega⟩
      (fun d => (yR_real X L W hL hW R _ hn d).imp fun v hv => (hd d).trans hv) _ (fun s => hb s _)).trans ?_)
    unfold headAt
    exact congrArg₂ (· * ·) ((hp _).trans (congrArg (yR X L W R) (by dsimp only; omega)))
      (congrArg (fun s => Ideal.rsqrt (Ideal.div s _ + _)) (Finset.sum_congr rfl fun d _ => congrArg₂ (· * ·) (hd d) (hd d)))
  · rw [if_neg hn]
    by_cases hc : k0_cond2 (tabV (F := Ideal) (ix1 j)) = 1#1
    · rw [if_pos hc]
      exact (pay3_at h w r e).trans (hp e)
    · rw [if_neg hc, normed_at, hm, mask_at, if_neg hn, sel_off]
      exact hp e

variable (c : Dev nD)
  (hL : ∀ k, (m ((c : Thread nD τ).loc main_arg1) : FVec Ideal S1024 .f32) k ≠ (⊤ : EReal) ∧ (m ((c : Thread nD τ).loc main_arg1) : FVec Ideal S1024 .f32) k ≠ (⊥ : EReal))
  (hW : ∀ (k : Fin 1024) (n : Fin 3864), wN n.val → (m ((c : Thread nD τ).loc main_arg2) : FVec Ideal S1024x3864 .f32) (ix2 k n) ≠ (⊤ : EReal) ∧ (m ((c : Thread nD τ).loc main_arg2) : FVec Ideal S1024x3864 .f32) (ix2 k n) ≠ (⊥ : EReal))

include hL hW

theorem out_at (t : Fin (NN (adm m))) (r e : Fin 512) : outAt (Vm m) (adm m) c t (ix2 r e)
      = resAt (m ((c : Thread nD τ).loc main_arg0)) (m ((c : Thread nD τ).loc main_arg1)) (m ((c : Thread nD τ).loc main_arg2)) (m ((c : Thread nD τ).loc main_arg3)) (row (adm m) t r) (col (adm m) t e).val := by
  unfold outAt outBlk
  rw [flag_eq]
  exact out_core _ _ _ _ hL hW (row (adm m) t r) ⟨(grid0.coords t 1).val, c1_lt (adm m) t⟩ r e _ _ _ _ _ (p_at m c t r) (gain_eq m c t e) (mask_eq m c t e) (block_eq m c t)

omit hL hW in
theorem points : grid0.N = 384 := by decide +kernel

/-- The point that writes block `(i, j)`. -/
def pt (i : Fin 64) (j : Fin 6) : Fin grid0.N := ⟨6 * i.val + j.val, by rw [points]; omega⟩

omit hL hW in
theorem pt_of : ∀ (i : Fin 64) (j : Fin 6), Pipeline.Window.flushOf grid0 true cc0_transform_6 (pt i j) = true ∧ cc0_transform_6 (grid0.coords (pt i j)) = ![i.val, j.val] := by
  decide +kernel

omit hL hW in
/-- Every block of the result is written. -/
theorem covers (a : (p : Fin 1) → (pcfgs (F := Ideal) p).Adm) : ((cfgs a 0).win 6).Covers := by
  refine ⟨fun x => (by decide : ∀ x : Fin 2, 0 < (![512, 512] : Fin 2 → ℕ) x) x, fun β => ?_⟩
  have e0 : ((cfgs a 0).win 6).nblk (0 : Fin 2) = 64 := by
    show (32768 + 512 - 1) / 512 = 64
    rfl
  have e1 : ((cfgs a 0).win 6).nblk (1 : Fin 2) = 6 := by
    show (3072 + 512 - 1) / 512 = 6
    rfl
  have h := pt_of ⟨(β (0 : Fin 2)).val, lt_of_lt_of_eq (β (0 : Fin 2)).isLt e0⟩ ⟨(β (1 : Fin 2)).val, lt_of_lt_of_eq (β (1 : Fin 2)).isLt e1⟩
  refine ⟨pt ⟨(β (0 : Fin 2)).val, lt_of_lt_of_eq (β (0 : Fin 2)).isLt e0⟩ ⟨(β (1 : Fin 2)).val, lt_of_lt_of_eq (β (1 : Fin 2)).isLt e1⟩, h.1, fun x => ⟨(congrFun h.2 x).trans ?_, Or.inl rfl⟩⟩
  revert x
  show ∀ x : Fin 2, _
  intro x
  fin_cases x <;> rfl

/-- What the launch leaves in the result. -/
theorem final : (dats (Vm m) (adm m) 0 c).arrAt 6 (NN (adm m))
    = res (m ((c : Thread nD τ).loc main_arg0)) (m ((c : Thread nD τ).loc main_arg1)) (m ((c : Thread nD τ).loc main_arg2)) (m ((c : Thread nD τ).loc main_arg3)) := by
  refine (dats (Vm m) (adm m) 0 c).arrAt_eq_of_covers 6 _ (covers (adm m)) fun t _ y => ?_
  blk_simp
  rw [after0_6]
  change S512x512.Idx at y
  obtain ⟨r, e, hy⟩ : ∃ r e : Fin 512, y = ix2 r e := ⟨y 0, y 1, by
    funext a
    fin_cases a <;> rfl⟩
  subst hy
  refine (out_at m c hL hW t r e).trans ?_
  refine congrArg₂ (resAt _ _ _ _) (Fin.ext ?_) ?_
  · show 512 * (grid0.coords t 0).val + r.val = _
    blk_simp [idx (adm m) t]
    rw [Nat.mul_comm]
    exact (congrArg (· * 512 + r.val) (congrFun (idx (adm m) t).2.2.2.2.2.2.1 (0 : Fin 2))).symm
  · show 512 * (grid0.coords t 1).val + e.val = _
    blk_simp [idx (adm m) t]
    rw [Nat.mul_comm]
    exact (congrArg (· * 512 + e.val) (congrFun (idx (adm m) t).2.2.2.2.2.2.1 (1 : Fin 2))).symm

end Result

end Cert.OddIdeal.In

end
-- ==== Proof.OddRef.lean ====
/-
  The odd layer's input projection: the reference's array is the kernel's.
-/
module

public import proofs.«01_k».proof.Proof.OddMath
public import proofs.«01_k».proof.Proof.Gen.OddReferenceIdeal.Run

@[expose] public section

set_option maxRecDepth 16384

noncomputable section

namespace Cert.OddReferenceIdeal.In

open Cert.OddReferenceIdeal Cert.OddReferenceIdeal.Gen
open Idealize.ShloMosaic Idealize.ShloMosaic.TcCoe
open Cert.ProjIdeal.In (hAt)
open Cert.OddIdeal.In (yAt yR headAt colN colW isN gn resAt res at_eq2 row_0 row_1 row_2 row_4 row_5)

/-- The normed rows. -/
def rNorm (x : FVec Ideal S32768x1024 .f32) (l : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 l))

/-- Their product with the weights. -/
def rProd (x : FVec Ideal S32768x1024 .f32) (l : FVec Ideal S1024 .f32) (w : FVec Ideal S1024x3864 .f32) : FVec Ideal S32768x3864 .f32 :=
  Host.dotGeneral dot_S32768x1024_S1024x3864_S32768x3864_1_0_0_1_n_n none (rNorm x l) w

/-- Eight heads, normed. -/
def rHead (u : FVec Ideal S32768x8x64 .f32) (q : FVec Ideal S64 .f32) : FVec Ideal S32768x8x64 .f32 :=
  mulf (mulf u (broadcastInDim S32768x8x64 ![0, 1, 2] bcast_S32768x8x1_S32768x8x64_0_1_2 (Host.rsqrt (addf (Host.divf (broadcastInDim S32768x8x1 ![0, 1] bcast_S32768x8_S32768x8x1_0_1
      (Host.reduceAdd (mulf u u) (constant S_ .f32 0x00000000#32) reducesTo_S32768x8x64_S32768x8_d2 h_S_)) (broadcastInDim S32768x8x1 ![] bcast_S_S32768x8x1 (constant S_ .f32 0x42800000#32)))
      (broadcastInDim S32768x8x1 ![] bcast_S_S32768x8x1 (constant S_ .f32 0x358637BD#32))))))
    (broadcastInDim S32768x8x64 ![0, 1, 2] bcast_S1x1x64_S32768x8x64_0_1_2 (broadcastInDim S1x1x64 ![2] bcast_S64_S1x1x64_2 q))

/-- Two heads, normed. -/
def rHead2 (u : FVec Ideal S32768x2x64 .f32) (q : FVec Ideal S64 .f32) : FVec Ideal S32768x2x64 .f32 :=
  mulf (mulf u (broadcastInDim S32768x2x64 ![0, 1, 2] bcast_S32768x2x1_S32768x2x64_0_1_2 (Host.rsqrt (addf (Host.divf (broadcastInDim S32768x2x1 ![0, 1] bcast_S32768x2_S32768x2x1_0_1
      (Host.reduceAdd (mulf u u) (constant S_ .f32 0x00000000#32) reducesTo_S32768x2x64_S32768x2_d2 h_S_)) (broadcastInDim S32768x2x1 ![] bcast_S_S32768x2x1 (constant S_ .f32 0x42800000#32)))
      (broadcastInDim S32768x2x1 ![] bcast_S_S32768x2x1 (constant S_ .f32 0x358637BD#32))))))
    (broadcastInDim S32768x2x64 ![0, 1, 2] bcast_S1x1x64_S32768x2x64_0_1_2 (broadcastInDim S1x1x64 ![2] bcast_S64_S1x1x64_2 q))

/-- Queries, with their factor; keys; and keys of two groups, each beside its group's values. -/
def rQ (u : FVec Ideal S32768x512 .f32) (g : FVec Ideal S1x64 .f32) : FVec Ideal S32768x512 .f32 :=
  shapeCast S32768x512 (mulf (rHead (shapeCast S32768x8x64 u shapeCasts_S32768x512_S32768x8x64) (shapeCast S64 g shapeCasts_S1x64_S64))
    (broadcastInDim S32768x8x64 ![] bcast_S_S32768x8x64 (constant S_ .f32 0x3E000000#32))) shapeCasts_S32768x8x64_S32768x512
def rK (u : FVec Ideal S32768x512 .f32) (g : FVec Ideal S1x64 .f32) : FVec Ideal S32768x512 .f32 :=
  shapeCast S32768x512 (rHead (shapeCast S32768x8x64 u shapeCasts_S32768x512_S32768x8x64) (shapeCast S64 g shapeCasts_S1x64_S64)) shapeCasts_S32768x8x64_S32768x512
def rBeside (a b : FVec Ideal S32768x2x64 .f32) : FVec Ideal S32768x256 .f32 :=
  shapeCast S32768x256 (concatenate S32768x2x128 2 [⟨S32768x2x64, a⟩, ⟨S32768x2x64, b⟩] concatenates_S32768x2x64_S32768x2x64_S32768x2x128_d2) shapeCasts_S32768x2x128_S32768x256
def rKV (u v : FVec Ideal S32768x128 .f32) (g : FVec Ideal S1x64 .f32) : FVec Ideal S32768x256 .f32 :=
  rBeside (rHead2 (shapeCast S32768x2x64 u shapeCasts_S32768x128_S32768x2x64) (shapeCast S64 g shapeCasts_S1x64_S64)) (shapeCast S32768x2x64 v shapeCasts_S32768x128_S32768x2x64)

def rCat (a b c d : FVec Ideal S32768x512 .f32) (e f g z : FVec Ideal S32768x256 .f32) : FVec Ideal S32768x3072 .f32 :=
  concatenate S32768x3072 1 [⟨S32768x512, a⟩, ⟨S32768x512, b⟩, ⟨S32768x512, c⟩, ⟨S32768x512, d⟩, ⟨S32768x256, e⟩, ⟨S32768x256, f⟩, ⟨S32768x256, g⟩, ⟨S32768x256, z⟩]
    concatenates_S32768x512_S32768x512_S32768x512_S32768x512_S32768x256_S32768x256_S32768x256_S32768x256_S32768x3072_d1

/-- The pieces' columns of the product. -/
def part (o : Nat) (y : FVec Ideal S32768x3864 .f32) (h : S32768x3864.Slices ![0, o] S32768x512) : FVec Ideal S32768x512 .f32 := extractStridedSlice S32768x512 ![0, o] y h
def part2 (o : Nat) (y : FVec Ideal S32768x3864 .f32) (h : S32768x3864.Slices ![0, o] S32768x128) : FVec Ideal S32768x128 .f32 := extractStridedSlice S32768x128 ![0, o] y h

/-- The reference's array from the product. -/
def rAll (y : FVec Ideal S32768x3864 .f32) (q : FVec Ideal S6x64 .f32) : FVec Ideal S32768x3072 .f32 :=
  rCat (rQ (part 0 y slices_S32768x3864_S32768x512_0_0) (extractStridedSlice S1x64 ![0, 0] q slices_S6x64_S1x64_0_0))
    (rK (part 512 y slices_S32768x3864_S32768x512_0_512) (extractStridedSlice S1x64 ![1, 0] q slices_S6x64_S1x64_1_0))
    (part 1024 y slices_S32768x3864_S32768x512_0_1024)
    (rQ (part 2048 y slices_S32768x3864_S32768x512_0_2048) (extractStridedSlice S1x64 ![2, 0] q slices_S6x64_S1x64_2_0))
    (rKV (part2 2816 y slices_S32768x3864_S32768x128_0_2816) (part2 2944 y slices_S32768x3864_S32768x128_0_2944) (extractStridedSlice S1x64 ![4, 0] q slices_S6x64_S1x64_4_0))
    (rKV (part2 3072 y slices_S32768x3864_S32768x128_0_3072) (part2 3200 y slices_S32768x3864_S32768x128_0_3200) (extractStridedSlice S1x64 ![5, 0] q slices_S6x64_S1x64_5_0))
    (extractStridedSlice S32768x256 ![0, 2560] y slices_S32768x3864_S32768x256_0_2560) (broadcastInDim S32768x256 ![] bcast_S_S32768x256 (constant S_ .f32 0x00000000#32))

/-- The reference's array, in its own format. -/
def rIn (x : FVec Ideal S32768x1024 .f32) (l : FVec Ideal S1024 .f32) (w : FVec Ideal S1024x3864 .f32) (q : FVec Ideal S6x64 .f32) : FVec Ideal S32768x3072 .bf16 :=
  truncf .bf16 (rAll (rProd x l w) q) bitsLt_bf16_f32

theorem rNorm_at (x : FVec Ideal S32768x1024 .f32) (l : FVec Ideal S1024 .f32) (r : Fin 32768) (k : Fin 1024) : rNorm x l (ix2 r k) = hAt x l r k := by
  unfold hAt
  pointwise [rNorm]

theorem rProd_at (x : FVec Ideal S32768x1024 .f32) (l : FVec Ideal S1024 .f32) (w : FVec Ideal S1024x3864 .f32) (r : Fin 32768) (n : Fin 3864) : rProd x l w (ix2 r n) = yAt x l w r n := by
  have e : ∀ h : FVec Ideal S32768x1024 .f32, Host.dotGeneral dot_S32768x1024_S1024x3864_S32768x3864_1_0_0_1_n_n none h w (ix2 r n) = ∑ k : Fin 1024, h (ix2 r k) * w (ix2 k n) := by
    intro h
    pointwise []
  exact (e _).trans (Finset.sum_congr rfl fun k _ => congrArg (· * w (ix2 k n)) (rNorm_at x l r k))

/-- An entry of a row over the root of its mean of squares. -/
def over (f : Fin 64 → EReal) (d : Fin 64) : EReal :=
  f d * Ideal.rsqrt (Ideal.div (∑ s, f s * f s) (Ideal.ofBits .f32 0x42800000#32) + Ideal.ofBits .f32 0x358637BD#32)

theorem rHead_at (u : FVec Ideal S32768x8x64 .f32) (q : FVec Ideal S64 .f32) (r : Fin 32768) (h : Fin 8) (d : Fin 64) : rHead u q (ix3 r h d) = over (fun s => u (ix3 r h s)) d * q (ix1 d) := by
  unfold over
  pointwise [rHead]

theorem rHead2_at (u : FVec Ideal S32768x2x64 .f32) (q : FVec Ideal S64 .f32) (r : Fin 32768) (h : Fin 2) (d : Fin 64) : rHead2 u q (ix3 r h d) = over (fun s => u (ix3 r h s)) d * q (ix1 d) := by
  unfold over
  pointwise [rHead2]

theorem split_8 (u : FVec Ideal S32768x512 .f32) (r : Fin 32768) (h : Fin 8) (d : Fin 64) :
    shapeCast S32768x8x64 u shapeCasts_S32768x512_S32768x8x64 (ix3 r h d) = u (ix2 r ⟨64 * h.val + d.val, by omega⟩) := by
  pointwise []
  refine congrArg u (congrArg₂ ix2 (Fin.ext ?_) (Fin.ext ?_)) <;> dsimp only <;> omega
theorem split_2 (u : FVec Ideal S32768x128 .f32) (r : Fin 32768) (h : Fin 2) (d : Fin 64) :
    shapeCast S32768x2x64 u shapeCasts_S32768x128_S32768x2x64 (ix3 r h d) = u (ix2 r ⟨64 * h.val + d.val, by omega⟩) := by
  pointwise []
  refine congrArg u (congrArg₂ ix2 (Fin.ext ?_) (Fin.ext ?_)) <;> dsimp only <;> omega

theorem gains_at (g : FVec Ideal S1x64 .f32) (d : Fin 64) : shapeCast S64 g shapeCasts_S1x64_S64 (ix1 d) = g (ix2 0 d) := by pointwise []

theorem join_at (u : FVec Ideal S32768x8x64 .f32) (r : Fin 32768) (k : Fin 512) :
    shapeCast S32768x512 u shapeCasts_S32768x8x64_S32768x512 (ix2 r k) = u (ix3 r ⟨k.val / 64, by omega⟩ ⟨k.val % 64, by omega⟩) := by
  pointwise []
theorem beside_at (a b : FVec Ideal S32768x2x64 .f32) (r : Fin 32768) (k : Fin 256) :
    rBeside a b (ix2 r k) = if k.val % 128 < 64 then a (ix3 r ⟨k.val / 128, by omega⟩ ⟨k.val % 64, by omega⟩) else b (ix3 r ⟨k.val / 128, by omega⟩ ⟨k.val % 64, by omega⟩) := by
  have e : ∀ (c : FVec Ideal S32768x2x64 .f32) (p p' : Fin 2) (d d' : Fin 64), p.val = p'.val → d.val = d'.val → c (ix3 r p d) = c (ix3 r p' d') := by
    intro c p p' d d' h h'
    rw [Fin.ext h, Fin.ext h']
  pointwise [rBeside]
  repeat' split
  all_goals first
    | (exfalso; omega)
    | (refine e _ _ _ _ _ ?_ ?_ <;> dsimp only <;> omega)

theorem rQ_at (u : FVec Ideal S32768x512 .f32) (g : FVec Ideal S1x64 .f32) (r : Fin 32768) (k : Fin 512) (d : Fin 64) (hd : d.val = k.val % 64) :
    rQ u g (ix2 r k) = over (fun s => u (ix2 r ⟨64 * (k.val / 64) + s.val, by omega⟩)) d * g (ix2 0 d) * Ideal.ofBits .f32 0x3E000000#32 := by
  have e : ∀ u : FVec Ideal S32768x8x64 .f32, ∀ h d, mulf u (broadcastInDim S32768x8x64 ![] bcast_S_S32768x8x64 (constant S_ .f32 0x3E000000#32)) (ix3 r h d) = u (ix3 r h d) * Ideal.ofBits .f32 0x3E000000#32 := by
    intro u h d
    pointwise []
  obtain ⟨d, hlt⟩ := d
  dsimp only at hd
  subst hd
  refine (join_at _ r k).trans ((e _ _ _).trans (congrArg (· * _) ((rHead_at _ _ _ _ _).trans (congrArg₂ (· * ·) ?_ (gains_at g _)))))
  exact congrArg (fun f => over f _) (funext fun s => split_8 u r _ s)
theorem rK_at (u : FVec Ideal S32768x512 .f32) (g : FVec Ideal S1x64 .f32) (r : Fin 32768) (k : Fin 512) (d : Fin 64) (hd : d.val = k.val % 64) :
    rK u g (ix2 r k) = over (fun s => u (ix2 r ⟨64 * (k.val / 64) + s.val, by omega⟩)) d * g (ix2 0 d) := by
  obtain ⟨d, hlt⟩ := d
  dsimp only at hd
  subst hd
  refine (join_at _ r k).trans ((rHead_at _ _ _ _ _).trans (congrArg₂ (· * ·) ?_ (gains_at g _)))
  exact congrArg (fun f => over f _) (funext fun s => split_8 u r _ s)
theorem rKV_at (u v : FVec Ideal S32768x128 .f32) (g : FVec Ideal S1x64 .f32) (r : Fin 32768) (k : Fin 256) (d : Fin 64) (hd : d.val = k.val % 64) :
    rKV u v g (ix2 r k) = if k.val % 128 < 64 then over (fun s => u (ix2 r ⟨64 * (k.val / 128) + s.val, by omega⟩)) d * g (ix2 0 d) else v (ix2 r ⟨64 * (k.val / 128) + d.val, by omega⟩) := by
  obtain ⟨d, hlt⟩ := d
  dsimp only at hd
  subst hd
  refine (beside_at _ _ r k).trans ?_
  by_cases h : k.val % 128 < 64
  · rw [if_pos h, if_pos h]
    refine (rHead2_at _ _ _ _ _).trans (congrArg₂ (· * ·) ?_ (gains_at g _))
    exact congrArg (fun f => over f _) (funext fun s => split_2 u r _ s)
  · rw [if_neg h, if_neg h]
    exact split_2 v r _ _

theorem part_at (o : Nat) (y : FVec Ideal S32768x3864 .f32) (h : S32768x3864.Slices ![0, o] S32768x512) (ho : o + 512 ≤ 3864) (r : Fin 32768) (k : Fin 512) :
    part o y h (ix2 r k) = y (ix2 r ⟨o + k.val, by omega⟩) := by pointwise [part]
theorem part2_at (o : Nat) (y : FVec Ideal S32768x3864 .f32) (h : S32768x3864.Slices ![0, o] S32768x128) (ho : o + 128 ≤ 3864) (r : Fin 32768) (k : Fin 128) :
    part2 o y h (ix2 r k) = y (ix2 r ⟨o + k.val, by omega⟩) := by pointwise [part2]

theorem rCat_at (a b c d : FVec Ideal S32768x512 .f32) (e f g z : FVec Ideal S32768x256 .f32) (r : Fin 32768) (n : Fin 3072) :
    rCat a b c d e f g z (ix2 r n) = if n.val < 512 then a (ix2 r ⟨n.val % 512, by omega⟩) else if n.val < 1024 then b (ix2 r ⟨n.val % 512, by omega⟩)
      else if n.val < 1536 then c (ix2 r ⟨n.val % 512, by omega⟩) else if n.val < 2048 then d (ix2 r ⟨n.val % 512, by omega⟩)
      else if n.val < 2304 then e (ix2 r ⟨n.val % 256, by omega⟩) else if n.val < 2560 then f (ix2 r ⟨n.val % 256, by omega⟩)
      else if n.val < 2816 then g (ix2 r ⟨n.val % 256, by omega⟩) else z (ix2 r ⟨n.val % 256, by omega⟩) := by
  pointwise [rCat]
  repeat' split
  all_goals first
    | (exfalso; omega)
    | (refine at_eq2 _ _ _ _ _ rfl ?_; dsimp only; omega)

section Columns

variable (x : FVec Ideal S32768x1024 .f32) (l : FVec Ideal S1024 .f32) (w : FVec Ideal S1024x3864 .f32) (q : FVec Ideal S6x64 .f32) (r : Fin 32768) (n : Nat)

theorem prod_y (k : Fin 3864) (h : n < 2816) (hk : k.val = colN n) : rProd x l w (ix2 r k) = yR x l w r n := by
  unfold yR
  rw [dif_pos h, rProd_at]
  exact congrArg (yAt x l w r) (Fin.ext hk)

theorem norm_eq (hn : isN n) (f : Fin 64 → EReal) (hf : ∀ s : Fin 64, f s = yR x l w r (64 * (n / 64) + s.val)) (d : Fin 64) (hd : d.val = n % 64) (G : EReal) (hG : G = gn q n) :
    over f d * G = resAt x l w q r n := by
  unfold resAt over headAt
  rw [if_pos hn, hG]
  refine congrArg (· * _) (congrArg₂ (· * ·) ((hf d).trans (congrArg (yR x l w r) (by omega)))
    (congrArg (fun s => Ideal.rsqrt (Ideal.div s _ + _)) (Finset.sum_congr rfl fun d _ => congrArg₂ (· * ·) (hf d) (hf d))))
theorem plain_eq (hn : ¬ isN n) (h : n < 2816) (k : Fin 3864) (hk : k.val = colN n) : rProd x l w (ix2 r k) = resAt x l w q r n := by
  unfold resAt
  rw [if_neg hn]
  exact prod_y x l w r n k h hk

end Columns

theorem rAll_at (x : FVec Ideal S32768x1024 .f32) (l : FVec Ideal S1024 .f32) (w : FVec Ideal S1024x3864 .f32) (q : FVec Ideal S6x64 .f32) (r : Fin 32768) (n : Fin 3072) :
    rAll (rProd x l w) q (ix2 r n) = resAt x l w q r n.val := by
  have hn := n.isLt
  refine (rCat_at _ _ _ _ _ _ _ _ r n).trans ?_
  split_ifs with h0 h1 h2 h3 h4 h5 h6
  · rw [rQ_at _ _ r _ ⟨n.val % 64, by omega⟩ (by dsimp only; omega), row_0, mul_assoc]
    refine norm_eq x l w q r n.val (by unfold isN; omega) _ (fun s => ?_) _ rfl _ (by unfold gn; rw [if_pos h0])
    dsimp only
    rw [part_at _ _ _ (by omega)]
    exact prod_y x l w r _ _ (by omega) (by unfold colN; dsimp only; split_ifs <;> omega)
  · rw [rK_at _ _ r _ ⟨n.val % 64, by omega⟩ (by dsimp only; omega), row_1]
    refine norm_eq x l w q r n.val (by unfold isN; omega) _ (fun s => ?_) _ rfl _ (by unfold gn; rw [if_neg h0, if_pos h1])
    dsimp only
    rw [part_at _ _ _ (by omega)]
    exact prod_y x l w r _ _ (by omega) (by unfold colN; dsimp only; split_ifs <;> omega)
  · rw [part_at _ _ _ (by omega)]
    exact plain_eq x l w q r _ (by unfold isN; omega) (by omega) _ (by unfold colN; dsimp only; split_ifs <;> omega)
  · rw [rQ_at _ _ r _ ⟨n.val % 64, by omega⟩ (by dsimp only; omega), row_2, mul_assoc]
    refine norm_eq x l w q r n.val (by unfold isN; omega) _ (fun s => ?_) _ rfl _ (by unfold gn; rw [if_neg h0, if_neg h1, if_pos h3])
    dsimp only
    rw [part_at _ _ _ (by omega)]
    exact prod_y x l w r _ _ (by omega) (by unfold colN; dsimp only; split_ifs <;> omega)
  · rw [rKV_at _ _ _ r _ ⟨n.val % 64, by omega⟩ (by dsimp only; omega), row_4]
    split_ifs with h
    · refine norm_eq x l w q r n.val (by unfold isN; dsimp only at h; omega) _ (fun s => ?_) _ rfl _ (by unfold gn; rw [if_neg h0, if_neg h1, if_neg h3, if_pos h4])
      dsimp only at h ⊢
      rw [part2_at _ _ _ (by omega)]
      exact prod_y x l w r _ _ (by omega) (by unfold colN; dsimp only; split_ifs <;> omega)
    · dsimp only at h
      rw [part2_at _ _ _ (by omega)]
      exact plain_eq x l w q r _ (by unfold isN; omega) (by omega) _ (by unfold colN; dsimp only; split_ifs <;> omega)
  · rw [rKV_at _ _ _ r _ ⟨n.val % 64, by omega⟩ (by dsimp only; omega), row_5]
    split_ifs with h
    · refine norm_eq x l w q r n.val (by unfold isN; dsimp only at h; omega) _ (fun s => ?_) _ rfl _ (by unfold gn; rw [if_neg h0, if_neg h1, if_neg h3, if_neg h4])
      dsimp only at h ⊢
      rw [part2_at _ _ _ (by omega)]
      exact prod_y x l w r _ _ (by omega) (by unfold colN; dsimp only; split_ifs <;> omega)
    · dsimp only at h
      rw [part2_at _ _ _ (by omega)]
      exact plain_eq x l w q r _ (by unfold isN; omega) (by omega) _ (by unfold colN; dsimp only; split_ifs <;> omega)
  · have e : ∀ (y : FVec Ideal S32768x3864 .f32) (k : Fin 256), extractStridedSlice S32768x256 ![0, 2560] y slices_S32768x3864_S32768x256_0_2560 (ix2 r k) = y (ix2 r ⟨2560 + k.val, by omega⟩) := by
      intro y k
      pointwise []
    rw [e]
    exact plain_eq x l w q r _ (by unfold isN; omega) (by omega) _ (by unfold colN; dsimp only; split_ifs <;> omega)
  · have e : ∀ k : Fin 256, broadcastInDim S32768x256 ![] bcast_S_S32768x256 (constant (F := Ideal) S_ .f32 0x00000000#32) (ix2 r k) = Ideal.ofBits .f32 0x00000000#32 := by
      intro k
      pointwise []
    rw [e]
    unfold resAt yR
    rw [if_neg (by unfold isN; omega), dif_neg h6]

theorem rIn_eq (x : FVec Ideal S32768x1024 .f32) (l : FVec Ideal S1024 .f32) (w : FVec Ideal S1024x3864 .f32) (q : FVec Ideal S6x64 .f32) : rIn x l w q = res x l w q := by
  funext y
  obtain ⟨r, n, rfl⟩ : ∃ (r : Fin 32768) (n : Fin 3072), y = ix2 r n := ⟨y 0, y 1, by
    funext a
    fin_cases a <;> rfl⟩
  exact rAll_at x l w q r n

theorem res_eq (m : (x : Loc nD τ sig) → Buf (Elt Ideal) x) (c : Dev nD) : Cert.OddReferenceIdeal.Value.res_main_v118 (F := Ideal) m c
    = rIn (m ((c.tc : Thread nD τ).loc main_arg0)) (m ((c.tc : Thread nD τ).loc main_arg1)) (m ((c.tc : Thread nD τ).loc main_arg2)) (m ((c.tc : Thread nD τ).loc main_arg3)) := by
  unfold Cert.OddReferenceIdeal.Value.res_main_v118
  rfl

end Cert.OddReferenceIdeal.In

end
-- ==== Proof.OddFinite.lean ====
/-
  The odd layer's input projection's precondition, read: the gains of the norm and the normed columns of the weights are real numbers.
-/
module

public import proofs.«01_k».proof.Proof.Finite
public import proofs.«01_k».proof.Proof.OddMath

@[expose] public section

set_option maxRecDepth 16384

noncomputable section

namespace Cert.FiniteOdd

open Idealize.ShloMosaic Cert.Finite

theorem facts : Cert.Pre_finite_odd.Facts where
  bcast_S_S1024 := by decide
  reducesTo_S1024_S_d0 := by decide
  h_S_ := by decide
  slices_S1024x3864_S1024x1024_0_0 := by decide
  bcast_S_S1024x1024 := by decide
  reducesTo_S1024x1024_S_d0_1 := by decide
  slices_S1024x3864_S1024x512_0_2048 := by decide
  bcast_S_S1024x512 := by decide
  reducesTo_S1024x512_S_d0_1 := by decide
  slices_S1024x3864_S1024x128_0_2816 := by decide
  bcast_S_S1024x128 := by decide
  reducesTo_S1024x128_S_d0_1 := by decide
  slices_S1024x3864_S1024x128_0_3072 := by decide

variable [Cert.Pre_finite_odd.Facts]

theorem slice_0 (w : FVec Ideal Cert.Pre_finite_odd.S1024x3864 .f32) (h : Cert.Pre_finite_odd.S1024x3864.Slices ![0, 0] Cert.Pre_finite_odd.S1024x1024) (k : Fin 1024) (n : Fin 1024) :
    extractStridedSlice Cert.Pre_finite_odd.S1024x1024 ![0, 0] w h (ix2 k n) = w (ix2 k ⟨n.val, by omega⟩) := by
  pointwise []
theorem slice_1 (w : FVec Ideal Cert.Pre_finite_odd.S1024x3864 .f32) (h : Cert.Pre_finite_odd.S1024x3864.Slices ![0, 2048] Cert.Pre_finite_odd.S1024x512) (k : Fin 1024) (n : Fin 512) :
    extractStridedSlice Cert.Pre_finite_odd.S1024x512 ![0, 2048] w h (ix2 k n) = w (ix2 k ⟨2048 + n.val, by omega⟩) := by
  pointwise []
theorem slice_2 (w : FVec Ideal Cert.Pre_finite_odd.S1024x3864 .f32) (h : Cert.Pre_finite_odd.S1024x3864.Slices ![0, 2816] Cert.Pre_finite_odd.S1024x128) (k : Fin 1024) (n : Fin 128) :
    extractStridedSlice Cert.Pre_finite_odd.S1024x128 ![0, 2816] w h (ix2 k n) = w (ix2 k ⟨2816 + n.val, by omega⟩) := by
  pointwise []
theorem slice_3 (w : FVec Ideal Cert.Pre_finite_odd.S1024x3864 .f32) (h : Cert.Pre_finite_odd.S1024x3864.Slices ![0, 3072] Cert.Pre_finite_odd.S1024x128) (k : Fin 1024) (n : Fin 128) :
    extractStridedSlice Cert.Pre_finite_odd.S1024x128 ![0, 3072] w h (ix2 k n) = w (ix2 k ⟨3072 + n.val, by omega⟩) := by
  pointwise []

theorem entries (X : FVec Ideal Cert.Pre_finite_odd.S32768x1024 .f32) (L : FVec Ideal Cert.Pre_finite_odd.S1024 .f32) (w : FVec Ideal Cert.Pre_finite_odd.S1024x3864 .f32) (q : FVec Ideal Cert.Pre_finite_odd.S6x64 .f32)
    (h : Cert.Pre_finite_odd.fn (F := Ideal) X L w q = fun _ => 1#1) :
    (∀ i, L i ≠ (⊤ : EReal) ∧ L i ≠ (⊥ : EReal)) ∧ ∀ (k : Fin 1024) (n : Fin 3864), Cert.OddIdeal.In.wN n.val → w (ix2 k n) ≠ (⊤ : EReal) ∧ w (ix2 k n) ≠ (⊥ : EReal) := by
  have h1 := congrFun h (fun i => i.elim0)
  unfold Cert.Pre_finite_odd.fn Cert.Pre_finite_odd.fn_part1 at h1
  dsimp only at h1
  have a4 := and_one _ _ h1
  have a3 := and_one _ _ a4.1
  have a2 := and_one _ _ a3.1
  have a1 := and_one _ _ a2.1
  clear h h1
  refine ⟨fun i => ?_, fun k n hn => ?_⟩
  · have h := reduce_one _ _ _ _ _ a1.1 i (funext fun i => i.elim0)
    exact lt_top_real _ h
  · rcases hn with hn | hn | hn | hn
    · have h := reduce_one _ _ _ _ _ a1.2 (ix2 k ⟨n.val, hn⟩) (funext fun i => i.elim0)
      have e := lt_top_real _ h
      rw [slice_0] at e
      exact e
    · obtain ⟨j, hj, rfl⟩ : ∃ (j : Fin 512) (hj : 2048 + j.val < 3864), n = ⟨2048 + j.val, hj⟩ := ⟨⟨n.val - 2048, by omega⟩, by dsimp only; omega, Fin.ext (by dsimp only; omega)⟩
      have h := reduce_one _ _ _ _ _ a2.2 (ix2 k j) (funext fun i => i.elim0)
      have e := lt_top_real _ h
      rw [slice_1] at e
      exact e
    · obtain ⟨j, hj, rfl⟩ : ∃ (j : Fin 128) (hj : 2816 + j.val < 3864), n = ⟨2816 + j.val, hj⟩ := ⟨⟨n.val - 2816, by omega⟩, by dsimp only; omega, Fin.ext (by dsimp only; omega)⟩
      have h := reduce_one _ _ _ _ _ a3.2 (ix2 k j) (funext fun i => i.elim0)
      have e := lt_top_real _ h
      rw [slice_2] at e
      exact e
    · obtain ⟨j, hj, rfl⟩ : ∃ (j : Fin 128) (hj : 3072 + j.val < 3864), n = ⟨3072 + j.val, hj⟩ := ⟨⟨n.val - 3072, by omega⟩, by dsimp only; omega, Fin.ext (by dsimp only; omega)⟩
      have h := reduce_one _ _ _ _ _ a4.2 (ix2 k j) (funext fun i => i.elim0)
      have e := lt_top_real _ h
      rw [slice_3] at e
      exact e

end Cert.FiniteOdd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenIdeal.Value
public import proofs.«01_k».proof.Proof.Gen.EvenReferenceIdeal
public import proofs.«01_k».proof.Proof.Gen.EvenReferenceIdeal.Run
public import proofs.«01_k».proof.Proof.DiffFrame
public import proofs.«01_k».proof.Proof.PlainFrame
public import proofs.«01_k».proof.Proof.Finite
public import proofs.«01_k».proof.Proof.Agree
public import proofs.«01_k».proof.Proof.MixRef
public import proofs.«01_k».proof.Proof.EvenMix
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Run
public import proofs.«01_k».proof.Proof.ProjFinal
public import proofs.«01_k».proof.Proof.ProjRef
public import proofs.«01_k».proof.Proof.ProjFinite
public import proofs.«01_k».proof.Proof.PlainProjFrame
public import proofs.«01_k».proof.Proof.Gen.Odd
public import proofs.«01_k».proof.Proof.Gen.Odd.Skeleton
public import proofs.«01_k».proof.Proof.Gen.Odd.Launch
public import proofs.«01_k».proof.Proof.Gen.OddIdeal
public import proofs.«01_k».proof.Proof.Gen.OddIdeal.Skeleton
public import proofs.«01_k».proof.Proof.Gen.OddIdeal.Launch
public import proofs.«01_k».proof.Proof.Gen.OddReferenceIdeal
public import proofs.«01_k».proof.Proof.Gen.OddReferenceIdeal.Run
public import proofs.«01_k».proof.Proof.OddFinal
public import proofs.«01_k».proof.Proof.OddRef
public import proofs.«01_k».proof.Proof.OddFinite
public import proofs.«01_k».proof.Proof.PlainOddFrame
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun _ h => ⟨fun c => Cert.Kernel.Diff.args_kept m h.1 c, h.2⟩) (Cert.Kernel.Diff.run_main (F := Bits) m ρ)

theorem frame_ideal : Cert.quiescent_KernelIdeal := fun m ρ _ =>
  (θ_run Cert.KernelIdeal.defs _ _).mono (fun _ h => ⟨fun c => Cert.KernelIdeal.Diff.args_kept m h.1 c, h.2⟩) (Cert.KernelIdeal.Diff.run_main (F := Ideal) m ρ)

theorem frame_reference : Cert.quiescent_ReferenceIdeal := fun m ρ _ =>
  (θ_run Cert.ReferenceIdeal.defs _ _).mono (fun r h => ⟨fun c => ⟨(h c).2.1, (h c).2.2.1, (h c).2.2.2⟩, sem_eq_zero_of_no_sems (by decide) r.2⟩)
    (Cert.ReferenceIdeal.Value.run (F := Ideal) m ρ)

theorem mask_named : Cert.preserves_Kernel_KernelIdeal :=
  IdealRules.named_const.statement (κ := Cert.KernelIdeal.κ) (name := "mask") .f32 0xF149F2CA#32 ⊥ rfl

instance pre_facts : Cert.Pre_finite.Facts := Cert.Finite.facts

theorem frame_ideal_finite : Cert.quiescent_KernelIdeal_pre_finite := fun m ρ _ => frame_ideal m ρ trivial

theorem frame_reference_finite : Cert.quiescent_ReferenceIdeal_pre_finite := fun m ρ _ => frame_reference m ρ trivial

/-- Kernel and reference leave one array. -/
theorem equal : Cert.algebraic_KernelIdeal_ReferenceIdeal_pre_finite := by
  intro m g m' g' hpre hargs
  have ent := fun c => Cert.Finite.entries _ _ _ (hpre c)
  have hlam := fun c => Cert.ReferenceIdeal.Diff.lam_real _ (ent c).2
  choose lam hl using hlam
  refine ⟨fun c => Cert.KernelIdeal.Diff.res (m ((c.tc : Thread Cert.KernelIdeal.nD Cert.KernelIdeal.τ).loc Cert.KernelIdeal.main_arg0)) (lam c)
    (m ((c.tc : Thread Cert.KernelIdeal.nD Cert.KernelIdeal.τ).loc Cert.KernelIdeal.main_arg2)), ?_, ?_⟩
  · refine (θ_run Cert.KernelIdeal.defs _ _).mono (fun r h c => ⟨?_, Cert.KernelIdeal.Diff.args_kept m h.1 c⟩) (Cert.KernelIdeal.Diff.run_main (F := Ideal) m g)
    exact ((h.1 c).1 5).trans (Cert.KernelIdeal.Diff.final m c (ent c).1 (lam c) ((Cert.Agree.lam_eq _).trans (hl c)))
  · refine (θ_run Cert.ReferenceIdeal.defs _ _).mono (fun r h c => ⟨(h c).1.trans ?_, (h c).2⟩) (Cert.ReferenceIdeal.Value.run (F := Ideal) m' g')
    refine (Cert.ReferenceIdeal.Diff.res_eq m' c).trans ?_
    have e0 := (hargs c).1
    have e1 := (hargs c).2.1
    have e2 := (hargs c).2.2
    rw [e0, e1, e2]
    exact Cert.Agree.ref_res _ _ _ (ent c).1 (lam c) (hl c)

/-! ## The output projection -/

theorem frame_mix : Cert.quiescent_Mix := fun m ρ _ => Cert.Mix.Gen.frame m ρ

theorem frame_mix_ideal : Cert.quiescent_MixIdeal := fun m ρ _ => Cert.MixIdeal.Gen.frame m ρ

theorem frame_mix_reference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

/-- The output projection and its reference leave one array. -/
theorem equal_mix : Cert.algebraic_MixIdeal_MixReferenceIdeal := by
  intro m g m' g' _ hargs
  refine ⟨fun c => Cert.MixIdeal.Mix.res (m ((c.tc : Thread Cert.MixIdeal.nD Cert.MixIdeal.τ).loc Cert.MixIdeal.main_arg0))
    (m ((c.tc : Thread Cert.MixIdeal.nD Cert.MixIdeal.τ).loc Cert.MixIdeal.main_arg1))
    (m ((c.tc : Thread Cert.MixIdeal.nD Cert.MixIdeal.τ).loc Cert.MixIdeal.main_arg2))
    (m ((c.tc : Thread Cert.MixIdeal.nD Cert.MixIdeal.τ).loc Cert.MixIdeal.main_arg3))
    (m ((c.tc : Thread Cert.MixIdeal.nD Cert.MixIdeal.τ).loc Cert.MixIdeal.main_arg4)), ?_, ?_⟩
  · exact (θ_run Cert.MixIdeal.defs _ _).mono (fun r h c => ⟨(h c).1.trans (Cert.MixIdeal.Mix.final m c), (h c).2⟩)
      (Cert.MixIdeal.Value.run_blocks (F := Ideal) m g)
  · refine (θ_run Cert.MixReferenceIdeal.defs _ _).mono (fun r h c => ⟨(h c).1.trans ?_, (h c).2⟩) (Cert.MixReferenceIdeal.Value.run (F := Ideal) m' g')
    obtain ⟨e0, e1, e2, e3, e4⟩ := hargs c
    refine (show _ = Cert.MixReferenceIdeal.Mix.rMix
      (m' ((c.tc : Thread Cert.MixReferenceIdeal.nD Cert.MixReferenceIdeal.τ).loc Cert.MixReferenceIdeal.main_arg0))
      (m' ((c.tc : Thread Cert.MixReferenceIdeal.nD Cert.MixReferenceIdeal.τ).loc Cert.MixReferenceIdeal.main_arg1))
      (m' ((c.tc : Thread Cert.MixReferenceIdeal.nD Cert.MixReferenceIdeal.τ).loc Cert.MixReferenceIdeal.main_arg2))
      (m' ((c.tc : Thread Cert.MixReferenceIdeal.nD Cert.MixReferenceIdeal.τ).loc Cert.MixReferenceIdeal.main_arg3))
      (m' ((c.tc : Thread Cert.MixReferenceIdeal.nD Cert.MixReferenceIdeal.τ).loc Cert.MixReferenceIdeal.main_arg4)) from rfl).trans ?_
    rw [e0, e1, e2, e3, e4]
    exact Cert.MixReferenceIdeal.Mix.rMix_eq _ _ _ _ _

/-! ## The even layer's output projection -/

theorem frame_even : Cert.quiescent_Even := fun m ρ _ => Cert.Even.Gen.frame m ρ

theorem frame_even_ideal : Cert.quiescent_EvenIdeal := fun m ρ _ => Cert.EvenIdeal.Gen.frame m ρ

theorem frame_even_reference : Cert.quiescent_EvenReferenceIdeal := fun m ρ _ =>
  (θ_run Cert.EvenReferenceIdeal.defs _ _).mono (fun r h => ⟨fun c => (h c).2, sem_eq_zero_of_no_sems (by decide) r.2⟩)
    (Cert.EvenReferenceIdeal.Value.run (F := Ideal) m ρ)

/-- The even layer's output projection and its reference leave one array. -/
theorem equal_even : Cert.algebraic_EvenIdeal_EvenReferenceIdeal := by
  intro m g m' g' _ hargs
  refine ⟨fun c => Cert.EvenIdeal.Mix.left m c, ?_, ?_⟩
  · exact (θ_run Cert.EvenIdeal.defs _ _).mono (fun r h c => ⟨(h c).1.trans (Cert.EvenIdeal.Mix.final m c), (h c).2⟩)
      (Cert.EvenIdeal.Value.run_blocks (F := Ideal) m g)
  · refine (θ_run Cert.EvenReferenceIdeal.defs _ _).mono (fun r h c => ⟨(h c).1.trans ?_, (h c).2⟩) (Cert.EvenReferenceIdeal.Value.run (F := Ideal) m' g')
    obtain ⟨e0, e1, e2, e3, e4⟩ := hargs c
    refine (show _ = Cert.EvenIdeal.Mix.rEven
      (m' ((c.tc : Thread Cert.EvenReferenceIdeal.nD Cert.EvenReferenceIdeal.τ).loc Cert.EvenReferenceIdeal.main_arg0))
      (m' ((c.tc : Thread Cert.EvenReferenceIdeal.nD Cert.EvenReferenceIdeal.τ).loc Cert.EvenReferenceIdeal.main_arg1))
      (m' ((c.tc : Thread Cert.EvenReferenceIdeal.nD Cert.EvenReferenceIdeal.τ).loc Cert.EvenReferenceIdeal.main_arg2))
      (m' ((c.tc : Thread Cert.EvenReferenceIdeal.nD Cert.EvenReferenceIdeal.τ).loc Cert.EvenReferenceIdeal.main_arg3))
      (m' ((c.tc : Thread Cert.EvenReferenceIdeal.nD Cert.EvenReferenceIdeal.τ).loc Cert.EvenReferenceIdeal.main_arg4)) from rfl).trans ?_
    rw [e0, e1, e2, e3, e4]
    exact Cert.EvenIdeal.Mix.rEven_eq _ _ _ _ _

/-! ## The input projection -/

theorem frame_proj : Cert.quiescent_Proj := fun m ρ _ =>
  (θ_run Cert.Proj.defs _ _).mono (fun _ h => ⟨fun c => Cert.Proj.In.args_kept m h.1 c, h.2⟩) (Cert.Proj.In.run_main (F := Bits) m ρ)

theorem frame_proj_ideal : Cert.quiescent_ProjIdeal := fun m ρ _ =>
  (θ_run Cert.ProjIdeal.defs _ _).mono (fun _ h => ⟨fun c => Cert.ProjIdeal.In.args_kept m h.1 c, h.2⟩) (Cert.ProjIdeal.In.run_main (F := Ideal) m ρ)

theorem frame_proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

instance pre_in_facts : Cert.Pre_finite_in.Facts := Cert.FiniteIn.facts

theorem frame_proj_ideal_finite : Cert.quiescent_ProjIdeal_pre_finite_in := fun m ρ _ => frame_proj_ideal m ρ trivial

theorem frame_proj_reference_finite : Cert.quiescent_ProjReferenceIdeal_pre_finite_in := fun m ρ _ => frame_proj_reference m ρ trivial

/-- The input projection and its reference leave one array. -/
theorem equal_proj : Cert.algebraic_ProjIdeal_ProjReferenceIdeal_pre_finite_in := by
  intro m g m' g' hpre hargs
  have ent := fun c => Cert.FiniteIn.entries _ _ _ _ (hpre c)
  refine ⟨fun c => Cert.ProjIdeal.In.res (m ((c.tc : Thread Cert.ProjIdeal.nD Cert.ProjIdeal.τ).loc Cert.ProjIdeal.main_arg0))
    (m ((c.tc : Thread Cert.ProjIdeal.nD Cert.ProjIdeal.τ).loc Cert.ProjIdeal.main_arg1))
    (m ((c.tc : Thread Cert.ProjIdeal.nD Cert.ProjIdeal.τ).loc Cert.ProjIdeal.main_arg2))
    (m ((c.tc : Thread Cert.ProjIdeal.nD Cert.ProjIdeal.τ).loc Cert.ProjIdeal.main_arg3)), ?_, ?_⟩
  · refine (θ_run Cert.ProjIdeal.defs _ _).mono (fun r h c => ⟨?_, Cert.ProjIdeal.In.args_kept m h.1 c⟩) (Cert.ProjIdeal.In.run_main (F := Ideal) m g)
    exact ((h.1 c).1 6).trans (Cert.ProjIdeal.In.final m c (ent c).1 (ent c).2)
  · refine (θ_run Cert.ProjReferenceIdeal.defs _ _).mono (fun r h c => ⟨(h c).1.trans ?_, (h c).2⟩) (Cert.ProjReferenceIdeal.Value.run (F := Ideal) m' g')
    obtain ⟨e0, e1, e2, e3⟩ := hargs c
    refine (Cert.ProjReferenceIdeal.In.res_eq m' c).trans ?_
    rw [e0, e1, e2, e3]
    exact Cert.ProjReferenceIdeal.In.rIn_eq _ _ _ _

/-! ## The odd layer's input projection -/

theorem frame_odd : Cert.quiescent_Odd := fun m ρ _ =>
  (θ_run Cert.Odd.defs _ _).mono (fun _ h => ⟨fun c => Cert.Odd.In.args_kept m h.1 c, h.2⟩) (Cert.Odd.In.run_main (F := Bits) m ρ)

theorem frame_odd_ideal : Cert.quiescent_OddIdeal := fun m ρ _ =>
  (θ_run Cert.OddIdeal.defs _ _).mono (fun _ h => ⟨fun c => Cert.OddIdeal.In.args_kept m h.1 c, h.2⟩) (Cert.OddIdeal.In.run_main (F := Ideal) m ρ)

theorem frame_odd_reference : Cert.quiescent_OddReferenceIdeal := fun m ρ _ =>
  (θ_run Cert.OddReferenceIdeal.defs _ _).mono (fun r h => ⟨fun c => (h c).2, sem_eq_zero_of_no_sems (by decide) r.2⟩)
    (Cert.OddReferenceIdeal.Value.run (F := Ideal) m ρ)

instance pre_odd_facts : Cert.Pre_finite_odd.Facts := Cert.FiniteOdd.facts

theorem frame_odd_ideal_finite : Cert.quiescent_OddIdeal_pre_finite_odd := fun m ρ _ => frame_odd_ideal m ρ trivial

theorem frame_odd_reference_finite : Cert.quiescent_OddReferenceIdeal_pre_finite_odd := fun m ρ _ => frame_odd_reference m ρ trivial

/-- The odd layer's input projection and its reference leave one array. -/
theorem equal_odd : Cert.algebraic_OddIdeal_OddReferenceIdeal_pre_finite_odd := by
  intro m g m' g' hpre hargs
  have ent := fun c => Cert.FiniteOdd.entries _ _ _ _ (hpre c)
  refine ⟨fun c => Cert.OddIdeal.In.res (m ((c.tc : Thread Cert.OddIdeal.nD Cert.OddIdeal.τ).loc Cert.OddIdeal.main_arg0))
    (m ((c.tc : Thread Cert.OddIdeal.nD Cert.OddIdeal.τ).loc Cert.OddIdeal.main_arg1))
    (m ((c.tc : Thread Cert.OddIdeal.nD Cert.OddIdeal.τ).loc Cert.OddIdeal.main_arg2))
    (m ((c.tc : Thread Cert.OddIdeal.nD Cert.OddIdeal.τ).loc Cert.OddIdeal.main_arg3)), ?_, ?_⟩
  · refine (θ_run Cert.OddIdeal.defs _ _).mono (fun r h c => ⟨?_, Cert.OddIdeal.In.args_kept m h.1 c⟩) (Cert.OddIdeal.In.run_main (F := Ideal) m g)
    exact ((h.1 c).1 6).trans (Cert.OddIdeal.In.final m c (ent c).1 (ent c).2)
  · refine (θ_run Cert.OddReferenceIdeal.defs _ _).mono (fun r h c => ⟨(h c).1.trans ?_, (h c).2⟩) (Cert.OddReferenceIdeal.Value.run (F := Ideal) m' g')
    obtain ⟨e0, e1, e2, e3⟩ := hargs c
    refine (Cert.OddReferenceIdeal.In.res_eq m' c).trans ?_
    rw [e0, e1, e2, e3]
    exact Cert.OddReferenceIdeal.In.rIn_eq _ _ _ _

theorem claim : Cert.Claim := ⟨Cert.Kernel.Gen.facts, Cert.KernelIdeal.Gen.facts, Cert.ReferenceIdeal.Gen.facts,
  Cert.Mix.Gen.facts, Cert.MixIdeal.Gen.facts, Cert.MixReferenceIdeal.Gen.facts,
  Cert.Even.Gen.facts, Cert.EvenIdeal.Gen.facts, Cert.EvenReferenceIdeal.Gen.facts,
  Cert.Proj.Gen.facts, Cert.ProjIdeal.Gen.facts, Cert.ProjReferenceIdeal.Gen.facts, Cert.Odd.Gen.facts, Cert.OddIdeal.Gen.facts, Cert.OddReferenceIdeal.Gen.facts,
  Cert.Finite.facts, Cert.FiniteIn.facts, Cert.FiniteOdd.facts,
  frame_kernel, frame_ideal, frame_ideal_finite, frame_reference, frame_reference_finite,
  frame_mix, frame_mix_ideal, frame_mix_reference, frame_even, frame_even_ideal, frame_even_reference,
  frame_proj, frame_proj_ideal, frame_proj_ideal_finite, frame_proj_reference, frame_proj_reference_finite,
  frame_odd, frame_odd_ideal, frame_odd_ideal_finite, frame_odd_reference, frame_odd_reference_finite,
  mask_named, equal, trivial, equal_mix, trivial, equal_even, trivial, equal_proj, trivial, equal_odd⟩

end Cert.Proof

end
